-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_5)) (v6 : (c : Dev Cert.Kernel3Ideal.nD) → Buf (Elt Ideal) ((c.tc : Thread Cert.Kernel3Ideal.nD Cert.Kernel3Ideal.τ).loc Cert.Kernel3Ideal.main_v29_6)) (v7 : (c : Dev Cert.Kernel3Ideal.nD) → Buf (Elt Ideal) ((c.tc : Thread Cert.Kernel3Ideal.nD Cert.Kernel3Ideal.τ).loc Cert.Kernel3Ideal.main_v29_7)) (v8 : (c : Dev Cert.Kernel3Ideal.nD) → Buf (Elt Ideal) ((c.tc : Thread Cert.Kernel3Ideal.nD Cert.Kernel3Ideal.τ).loc Cert.Kernel3Ideal.main_v29_8)) (v9 : (c : Dev Cert.Kernel3Ideal.nD) → Buf (Elt Ideal) ((c.tc : Thread Cert.Kernel3Ideal.nD Cert.Kernel3Ideal.τ).loc Cert.Kernel3Ideal.main_v29_9)) (v10 : (c : Dev Cert.Kernel3Ideal.nD) → Buf (Elt Ideal) ((c.tc : Thread Cert.Kernel3Ideal.nD Cert.Kernel3Ideal.τ).loc Cert.Kernel3Ideal.main_v29_10)) (v11 : (c : Dev Cert.Kernel3Ideal.nD) → Buf (Elt Ideal) ((c.tc : Thread Cert.Kernel3Ideal.nD Cert.Kernel3Ideal.τ).loc Cert.Kernel3Ideal.main_v29_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_5) = v5 c
          ∧ r.2.mem ((c.tc : Thread Cert.Kernel3Ideal.nD Cert.Kernel3Ideal.τ).loc Cert.Kernel3Ideal.main_v29_6) = v6 c
          ∧ r.2.mem ((c.tc : Thread Cert.Kernel3Ideal.nD Cert.Kernel3Ideal.τ).loc Cert.Kernel3Ideal.main_v29_7) = v7 c
          ∧ r.2.mem ((c.tc : Thread Cert.Kernel3Ideal.nD Cert.Kernel3Ideal.τ).loc Cert.Kernel3Ideal.main_v29_8) = v8 c
          ∧ r.2.mem ((c.tc : Thread Cert.Kernel3Ideal.nD Cert.Kernel3Ideal.τ).loc Cert.Kernel3Ideal.main_v29_9) = v9 c
          ∧ r.2.mem ((c.tc : Thread Cert.Kernel3Ideal.nD Cert.Kernel3Ideal.τ).loc Cert.Kernel3Ideal.main_v29_10) = v10 c
          ∧ r.2.mem ((c.tc : Thread Cert.Kernel3Ideal.nD Cert.Kernel3Ideal.τ).loc Cert.Kernel3Ideal.main_v29_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_v5) = v2 c
          ∧ r.2.mem ((c.tc : Thread Cert.Reference3Ideal.nD Cert.Reference3Ideal.τ).loc Cert.Reference3Ideal.main_v7) = v3 c
          ∧ r.2.mem ((c.tc : Thread Cert.Reference3Ideal.nD Cert.Reference3Ideal.τ).loc Cert.Reference3Ideal.main_v11) = v4 c
          ∧ r.2.mem ((c.tc : Thread Cert.Reference3Ideal.nD Cert.Reference3Ideal.τ).loc Cert.Reference3Ideal.main_v12) = v5 c
          ∧ r.2.mem ((c.tc : Thread Cert.Reference3Ideal.nD Cert.Reference3Ideal.τ).loc Cert.Reference3Ideal.main_v19) = v6 c
          ∧ r.2.mem ((c.tc : Thread Cert.Reference3Ideal.nD Cert.Reference3Ideal.τ).loc Cert.Reference3Ideal.main_v26) = v7 c
          ∧ r.2.mem ((c.tc : Thread Cert.Reference3Ideal.nD Cert.Reference3Ideal.τ).loc Cert.Reference3Ideal.main_v30) = v8 c
          ∧ r.2.mem ((c.tc : Thread Cert.Reference3Ideal.nD Cert.Reference3Ideal.τ).loc Cert.Reference3Ideal.main_v32) = v9 c
          ∧ r.2.mem ((c.tc : Thread Cert.Reference3Ideal.nD Cert.Reference3Ideal.τ).loc Cert.Reference3Ideal.main_v34) = v10 c
          ∧ r.2.mem ((c.tc : Thread Cert.Reference3Ideal.nD Cert.Reference3Ideal.τ).loc Cert.Reference3Ideal.main_v37) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)) (v6 : (c : Dev Cert.Kernel5Ideal.nD) → Buf (Elt Ideal) ((c.tc : Thread Cert.Kernel5Ideal.nD Cert.Kernel5Ideal.τ).loc Cert.Kernel5Ideal.main_v24_6)) (v7 : (c : Dev Cert.Kernel5Ideal.nD) → Buf (Elt Ideal) ((c.tc : Thread Cert.Kernel5Ideal.nD Cert.Kernel5Ideal.τ).loc Cert.Kernel5Ideal.main_v24_7)) (v8 : (c : Dev Cert.Kernel5Ideal.nD) → Buf (Elt Ideal) ((c.tc : Thread Cert.Kernel5Ideal.nD Cert.Kernel5Ideal.τ).loc Cert.Kernel5Ideal.main_v24_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_v24_6) = v6 c
          ∧ r.2.mem ((c.tc : Thread Cert.Kernel5Ideal.nD Cert.Kernel5Ideal.τ).loc Cert.Kernel5Ideal.main_v24_7) = v7 c
          ∧ r.2.mem ((c.tc : Thread Cert.Kernel5Ideal.nD Cert.Kernel5Ideal.τ).loc Cert.Kernel5Ideal.main_v24_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v6) = v3 c
          ∧ r.2.mem ((c.tc : Thread Cert.Reference5Ideal.nD Cert.Reference5Ideal.τ).loc Cert.Reference5Ideal.main_v7) = v4 c
          ∧ r.2.mem ((c.tc : Thread Cert.Reference5Ideal.nD Cert.Reference5Ideal.τ).loc Cert.Reference5Ideal.main_v8) = v5 c
          ∧ r.2.mem ((c.tc : Thread Cert.Reference5Ideal.nD Cert.Reference5Ideal.τ).loc Cert.Reference5Ideal.main_v15) = v6 c
          ∧ r.2.mem ((c.tc : Thread Cert.Reference5Ideal.nD Cert.Reference5Ideal.τ).loc Cert.Reference5Ideal.main_v22) = v7 c
          ∧ r.2.mem ((c.tc : Thread Cert.Reference5Ideal.nD Cert.Reference5Ideal.τ).loc Cert.Reference5Ideal.main_v29) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v134_0)) (v1 : (c : Dev Cert.Kernel7Ideal.nD) → Buf (Elt Ideal) ((c.tc : Thread Cert.Kernel7Ideal.nD Cert.Kernel7Ideal.τ).loc Cert.Kernel7Ideal.main_v134_1)) (v2 : (c : Dev Cert.Kernel7Ideal.nD) → Buf (Elt Ideal) ((c.tc : Thread Cert.Kernel7Ideal.nD Cert.Kernel7Ideal.τ).loc Cert.Kernel7Ideal.main_v134_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v134_0) = v0 c
          ∧ r.2.mem ((c.tc : Thread Cert.Kernel7Ideal.nD Cert.Kernel7Ideal.τ).loc Cert.Kernel7Ideal.main_v134_1) = v1 c
          ∧ r.2.mem ((c.tc : Thread Cert.Kernel7Ideal.nD Cert.Kernel7Ideal.τ).loc Cert.Kernel7Ideal.main_v134_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v111) = v0 c
          ∧ r.2.mem ((c.tc : Thread Cert.Reference7Ideal.nD Cert.Reference7Ideal.τ).loc Cert.Reference7Ideal.main_v112) = v1 c
          ∧ r.2.mem ((c.tc : Thread Cert.Reference7Ideal.nD Cert.Reference7Ideal.τ).loc Cert.Reference7Ideal.main_v113) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ preserves_Kernel9_Kernel9Ideal
    ∧ algebraic_Kernel9Ideal_Reference9Ideal (hKernel9Ideal := hKernel9Ideal) (hReference9Ideal := hReference9Ideal)
-- ==== Kernel.lean ====
abbrev S8x512x8192 : Shape := ⟨3, ![8, 512, 8192]⟩
abbrev S8x256x8192 : Shape := ⟨3, ![8, 256, 8192]⟩
abbrev S8x8x8192 : Shape := ⟨3, ![8, 8, 8192]⟩
abbrev S8x8192x512 : Shape := ⟨3, ![8, 8192, 512]⟩
abbrev S8x8192x32 : Shape := ⟨3, ![8, 8192, 32]⟩
abbrev S8x2x256x256 : Shape := ⟨4, ![8, 2, 256, 256]⟩
abbrev S8 : Shape := ⟨1, ![8]⟩
abbrev S1x512x256 : Shape := ⟨3, ![1, 512, 256]⟩
abbrev S1x256x256 : Shape := ⟨3, ![1, 256, 256]⟩
abbrev S1x8x256 : Shape := ⟨3, ![1, 8, 256]⟩
abbrev S1x8192x512 : Shape := ⟨3, ![1, 8192, 512]⟩
abbrev S1x512x8192 : Shape := ⟨3, ![1, 512, 8192]⟩
abbrev S1x8192x32 : Shape := ⟨3, ![1, 8192, 32]⟩
abbrev S1x256x512 : Shape := ⟨3, ![1, 256, 512]⟩
abbrev S8192x256 : Shape := ⟨2, ![8192, 256]⟩
abbrev S512x256 : Shape := ⟨2, ![512, 256]⟩
abbrev S8x128x256 : Shape := ⟨3, ![8, 128, 256]⟩
abbrev S8x1x256 : Shape := ⟨3, ![8, 1, 256]⟩
abbrev S2x8x1x256 : Shape := ⟨4, ![2, 8, 1, 256]⟩
abbrev S2x8x256x256 : Shape := ⟨4, ![2, 8, 256, 256]⟩
abbrev S1x256 : Shape := ⟨2, ![1, 256]⟩
abbrev S256x256 : Shape := ⟨2, ![256, 256]⟩
abbrev S1x256x32 : Shape := ⟨3, ![1, 256, 32]⟩
abbrev S256x32 : Shape := ⟨2, ![256, 32]⟩
abbrev S1x32x256 : Shape := ⟨3, ![1, 32, 256]⟩
abbrev S32x256 : Shape := ⟨2, ![32, 256]⟩
abbrev S1x1x256 : Shape := ⟨3, ![1, 1, 256]⟩
abbrev S256 : Shape := ⟨1, ![256]⟩
abbrev S16x256 : Shape := ⟨2, ![16, 256]⟩
abbrev S1 : Shape := ⟨1, ![1]⟩
abbrev S1x1x1 : Shape := ⟨3, ![1, 1, 1]⟩
abbrev S8x256 : Shape := ⟨2, ![8, 256]⟩
abbrev S128x256 : Shape := ⟨2, ![128, 256]⟩
abbrev S1x128x256 : Shape := ⟨3, ![1, 128, 256]⟩
abbrev S1x256x128 : Shape := ⟨3, ![1, 256, 128]⟩
abbrev S256x128 : Shape := ⟨2, ![256, 128]⟩
abbrev S1x1x256x256 : Shape := ⟨4, ![1, 1, 256, 256]⟩
abbrev S1x1x1x256 : Shape := ⟨4, ![1, 1, 1, 256]⟩
abbrev S1x64x256 : Shape := ⟨3, ![1, 64, 256]⟩
abbrev S64x256 : Shape := ⟨2, ![64, 256]⟩
abbrev S256x512 : Shape := ⟨2, ![256, 512]⟩

abbrev nBuf : Space → Nat
  | .hbm => 9
  | .vmem => 21
  | .smem => 1
  | _ => 0

abbrev bufTy : (tb : Table) → Fin (tcTables nBuf tb) → BufTy
  | .hbm, ⟨0, _⟩ => ⟨S8x512x8192, .bf16⟩
  | .hbm, ⟨1, _⟩ => ⟨S8x256x8192, .bf16⟩
  | .hbm, ⟨2, _⟩ => ⟨S8x8x8192, .f32⟩
  | .hbm, ⟨3, _⟩ => ⟨S8x8192x512, .bf16⟩
  | .hbm, ⟨4, _⟩ => ⟨S8x512x8192, .bf16⟩
  | .hbm, ⟨5, _⟩ => ⟨S8x8192x32, .bf16⟩
  | .hbm, ⟨6, _⟩ => ⟨S8x2x256x256, .f32⟩
  | .hbm, ⟨7, _⟩ => ⟨S8, .f32⟩
  | .hbm, ⟨8, _⟩ => ⟨S8x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x8x256, .f32⟩
  | .local _ .vmem, ⟨5, _⟩ => ⟨S1x8x256, .f32⟩
  | .local _ .vmem, ⟨6, _⟩ => ⟨S1x8192x512, .bf16⟩
  | .local _ .vmem, ⟨7, _⟩ => ⟨S1x512x8192, .bf16⟩
  | .local _ .vmem, ⟨8, _⟩ => ⟨S1x8192x32, .bf16⟩
  | .local _ .vmem, ⟨9, _⟩ => ⟨S8x2x256x256, .f32⟩
  | .local _ .vmem, ⟨10, _⟩ => ⟨S1x256x512, .bf16⟩
  | .local _ .vmem, ⟨11, _⟩ => ⟨S1x256x512, .bf16⟩
  | .local _ .vmem, ⟨12, _⟩ => ⟨S8192x256, .i32⟩
  | .local _ .vmem, ⟨13, _⟩ => ⟨S8192x256, .i16⟩
  | .local _ .vmem, ⟨14, _⟩ => ⟨S512x256, .f32⟩
  | .local _ .vmem, ⟨15, _⟩ => ⟨S8x128x256, .bf16⟩
  | .local _ .vmem, ⟨16, _⟩ => ⟨S8x1x256, .f32⟩
  | .local _ .vmem, ⟨17, _⟩ => ⟨S8x1x256, .f32⟩
  | .local _ .vmem, ⟨18, _⟩ => ⟨S2x8x1x256, .f32⟩
  | .local _ .vmem, ⟨19, _⟩ => ⟨S2x8x1x256, .f32⟩
  | .local _ .vmem, ⟨20, _⟩ => ⟨S2x8x256x256, .f32⟩
  | .local _ .smem, ⟨0, _⟩ => ⟨S8, .f32⟩
  | _, _ => ⟨S8x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let c1_i32_8 : BitVec 32 := 1#32
  ⟨c0_i32_6, v29, c1_i32_8⟩
def k0_mult1 (i : grid0.Coords) (k0_t1 : Fin (k0_t1_loop i).trips) : BitVec 32 :=
  let c2_i32_181 : BitVec 32 := 2#32
  let c0_i32_6 : BitVec 32 := 0#32
  let c1_i32_8 : BitVec 32 := 1#32
  let arg20 : BitVec 32 := Scf.iv c0_i32_6 c1_i32_8 k0_t1
  let v327 : BitVec 32 := Scalar.muli c2_i32_181 arg20
  let c0_i32_182 : BitVec 32 := 0#32
  let v328 : BitVec 32 := Scalar.addi v327 c0_i32_182
  let c256_i32_183 : BitVec 32 := 256#32
  let v329 : BitVec 32 := Scalar.muli v328 c256_i32_183
  v329
def k0_off1 (i : grid0.Coords) (k0_t1 : Fin (k0_t1_loop i).trips) (c0_i32_182 : BitVec 32) : Fin 3 → Nat :=
  let c0_184 : Index := 0#32
  let c2_i32_181 : BitVec 32 := 2#32
  let c0_i32_6 : BitVec 32 := 0#32
  let c1_i32_8 : BitVec 32 := 1#32
  let arg20 : BitVec 32 := Scf.iv c0_i32_6 c1_i32_8 k0_t1
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v331 : Index := Scalar.indexCast v330
  let c0_185 : Index := 0#32
  ![0, v331.toNat, 0]
def k0_off2 (i : grid0.Coords) (k0_t1 : Fin (k0_t1_loop i).trips) (c0_i32_182 : BitVec 32) : Fin 2 → Nat :=
  let c2_i32_181 : BitVec 32 := 2#32
  let c0_i32_6 : BitVec 32 := 0#32
  let c1_i32_8 : BitVec 32 := 1#32
  let arg20 : BitVec 32 := Scf.iv c0_i32_6 c1_i32_8 k0_t1
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v427 : Index := Scalar.indexCast v330
  let c0_250 : Index := 0#32
  ![v427.toNat, 0]
def k0_mult2 (i : grid0.Coords) (k0_t1 : Fin (k0_t1_loop i).trips) : BitVec 32 :=
  let c2_i32_254 : BitVec 32 := 2#32
  let c0_i32_6 : BitVec 32 := 0#32
  let c1_i32_8 : BitVec 32 := 1#32
  let arg20 : BitVec 32 := Scf.iv c0_i32_6 c1_i32_8 k0_t1
  let v441 : BitVec 32 := Scalar.muli c2_i32_254 arg20
  let c1_i32_255 : BitVec 32 := 1#32
  let v442 : BitVec 32 := Scalar.addi v441 c1_i32_255
  let c256_i32_256 : BitVec 32 := 256#32
  let v443 : BitVec 32 := Scalar.muli v442 c256_i32_256
  v443
@[reducible] def k0_t2_loop (i : grid0.Coords) : Scf.Loop 32 :=
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let v26 : BitVec 32 := Scalar.addi c0_i32_6 v25
  let c1_i32_9 : BitVec 32 := 1#32
  ⟨v29, v26, c1_i32_9⟩
def k0_mult3 (i : grid0.Coords) (k0_t2 : Fin (k0_t2_loop i).trips) : BitVec 32 :=
  let c2_i32_181 : BitVec 32 := 2#32
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let c1_i32_9 : BitVec 32 := 1#32
  let arg20 : BitVec 32 := Scf.iv v29 c1_i32_9 k0_t2
  let v327 : BitVec 32 := Scalar.muli c2_i32_181 arg20
  let c0_i32_182 : BitVec 32 := 0#32
  let v328 : BitVec 32 := Scalar.addi v327 c0_i32_182
  let c256_i32_183 : BitVec 32 := 256#32
  let v329 : BitVec 32 := Scalar.muli v328 c256_i32_183
  v329
def k0_off3 (i : grid0.Coords) (k0_t2 : Fin (k0_t2_loop i).trips) (c0_i32_182 : BitVec 32) : Fin 3 → Nat :=
  let c0_184 : Index := 0#32
  let c2_i32_181 : BitVec 32 := 2#32
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let c1_i32_9 : BitVec 32 := 1#32
  let arg20 : BitVec 32 := Scf.iv v29 c1_i32_9 k0_t2
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v331 : Index := Scalar.indexCast v330
  let c0_185 : Index := 0#32
  ![0, v331.toNat, 0]
def k0_off4 (i : grid0.Coords) (k0_t2 : Fin (k0_t2_loop i).trips) (c0_i32_182 : BitVec 32) : Fin 2 → Nat :=
  let c2_i32_181 : BitVec 32 := 2#32
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let c1_i32_9 : BitVec 32 := 1#32
  let arg20 : BitVec 32 := Scf.iv v29 c1_i32_9 k0_t2
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v427 : Index := Scalar.indexCast v330
  let c0_250 : Index := 0#32
  ![v427.toNat, 0]
def k0_mult4 (i : grid0.Coords) (k0_t2 : Fin (k0_t2_loop i).trips) : BitVec 32 :=
  let c2_i32_254 : BitVec 32 := 2#32
  let c0_i32_6 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v25 : BitVec 32 := Scalar.subi v23 c0_i32_6
  let c1_i32_7 : BitVec 32 := 1#32
  let v27 : BitVec 32 := Scalar.divsi v25 c1_i32_7
  let v28 : BitVec 32 := Scalar.muli v27 c1_i32_7
  let v29 : BitVec 32 := Scalar.addi c0_i32_6 v28
  let c1_i32_9 : BitVec 32 := 1#32
  let arg20 : BitVec 32 := Scf.iv v29 c1_i32_9 k0_t2
  let v441 : BitVec 32 := Scalar.muli c2_i32_254 arg20
  let c1_i32_255 : BitVec 32 := 1#32
  let v442 : BitVec 32 := Scalar.addi v441 c1_i32_255
  let c256_i32_256 : BitVec 32 := 256#32
  let v443 : BitVec 32 := Scalar.muli v442 c256_i32_256
  v443
@[reducible] def k0_t3_loop (i : grid0.Coords) : Scf.Loop 32 :=
  let c0_i32_14 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v52 : BitVec 32 := Scalar.subi v23 c0_i32_14
  let c1_i32_15 : BitVec 32 := 1#32
  let v54 : BitVec 32 := Scalar.divsi v52 c1_i32_15
  let v55 : BitVec 32 := Scalar.muli v54 c1_i32_15
  let v56 : BitVec 32 := Scalar.addi c0_i32_14 v55
  let c1_i32_16 : BitVec 32 := 1#32
  ⟨c0_i32_14, v56, c1_i32_16⟩
def k0_mult5 (i : grid0.Coords) (k0_t3 : Fin (k0_t3_loop i).trips) : BitVec 32 :=
  let c0_i32_14 : BitVec 32 := 0#32
  let c1_i32_16 : BitVec 32 := 1#32
  let arg20 : BitVec 32 := Scf.iv c0_i32_14 c1_i32_16 k0_t3
  let c2_i32_181 : BitVec 32 := 2#32
  let v327 : BitVec 32 := Scalar.muli arg20 c2_i32_181
  let c256_i32_182 : BitVec 32 := 256#32
  let v328 : BitVec 32 := Scalar.muli v327 c256_i32_182
  v328
def k0_off5 (i : grid0.Coords) (k0_t3 : Fin (k0_t3_loop i).trips) : Fin 2 → Nat :=
  let c0_i32_14 : BitVec 32 := 0#32
  let c1_i32_16 : BitVec 32 := 1#32
  let arg20 : BitVec 32 := Scf.iv c0_i32_14 c1_i32_16 k0_t3
  let c2_i32_181 : BitVec 32 := 2#32
  let v327 : BitVec 32 := Scalar.muli arg20 c2_i32_181
  let c256_i32_182 : BitVec 32 := 256#32
  let v328 : BitVec 32 := Scalar.muli v327 c256_i32_182
  let v329 : BitVec 32 := v328
  let v330 : Index := Scalar.indexCast v329
  let c0_183 : Index := 0#32
  ![v330.toNat, 0]
@[reducible] def k0_t4_loop (i : grid0.Coords) : Scf.Loop 32 :=
  let c0_i32_14 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v52 : BitVec 32 := Scalar.subi v23 c0_i32_14
  let c1_i32_15 : BitVec 32 := 1#32
  let v54 : BitVec 32 := Scalar.divsi v52 c1_i32_15
  let v55 : BitVec 32 := Scalar.muli v54 c1_i32_15
  let v56 : BitVec 32 := Scalar.addi c0_i32_14 v55
  let v53 : BitVec 32 := Scalar.addi c0_i32_14 v52
  let c1_i32_17 : BitVec 32 := 1#32
  ⟨v56, v53, c1_i32_17⟩
def k0_mult6 (i : grid0.Coords) (k0_t4 : Fin (k0_t4_loop i).trips) : BitVec 32 :=
  let c0_i32_14 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v52 : BitVec 32 := Scalar.subi v23 c0_i32_14
  let c1_i32_15 : BitVec 32 := 1#32
  let v54 : BitVec 32 := Scalar.divsi v52 c1_i32_15
  let v55 : BitVec 32 := Scalar.muli v54 c1_i32_15
  let v56 : BitVec 32 := Scalar.addi c0_i32_14 v55
  let c1_i32_17 : BitVec 32 := 1#32
  let arg20 : BitVec 32 := Scf.iv v56 c1_i32_17 k0_t4
  let c2_i32_181 : BitVec 32 := 2#32
  let v327 : BitVec 32 := Scalar.muli arg20 c2_i32_181
  let c256_i32_182 : BitVec 32 := 256#32
  let v328 : BitVec 32 := Scalar.muli v327 c256_i32_182
  v328
def k0_off6 (i : grid0.Coords) (k0_t4 : Fin (k0_t4_loop i).trips) : Fin 2 → Nat :=
  let c0_i32_14 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v52 : BitVec 32 := Scalar.subi v23 c0_i32_14
  let c1_i32_15 : BitVec 32 := 1#32
  let v54 : BitVec 32 := Scalar.divsi v52 c1_i32_15
  let v55 : BitVec 32 := Scalar.muli v54 c1_i32_15
  let v56 : BitVec 32 := Scalar.addi c0_i32_14 v55
  let c1_i32_17 : BitVec 32 := 1#32
  let arg20 : BitVec 32 := Scf.iv v56 c1_i32_17 k0_t4
  let c2_i32_181 : BitVec 32 := 2#32
  let v327 : BitVec 32 := Scalar.muli arg20 c2_i32_181
  let c256_i32_182 : BitVec 32 := 256#32
  let v328 : BitVec 32 := Scalar.muli v327 c256_i32_182
  let v329 : BitVec 32 := v328
  let v330 : Index := Scalar.indexCast v329
  let c0_183 : Index := 0#32
  ![v330.toNat, 0]
@[reducible] def k0_t5_loop (v84 : BitVec 32) : Scf.Loop 32 :=
  let c0_i32_25 : BitVec 32 := 0#32
  let v85 : BitVec 32 := Scalar.subi v84 c0_i32_25
  let c1_i32_26 : BitVec 32 := 1#32
  let v87 : BitVec 32 := Scalar.divsi v85 c1_i32_26
  let v88 : BitVec 32 := Scalar.muli v87 c1_i32_26
  let v89 : BitVec 32 := Scalar.addi c0_i32_25 v88
  let c1_i32_27 : BitVec 32 := 1#32
  ⟨c0_i32_25, v89, c1_i32_27⟩

@[reducible] def k0_t6_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_187 : BitVec 32 := 1#32
  ⟨c0_i32_185, v342, c1_i32_187⟩
def k0_mult7 (i : grid0.Coords) (k0_t6 : Fin (k0_t6_loop i).trips) : BitVec 32 :=
  let c0_i32_185 : BitVec 32 := 0#32
  let c1_i32_187 : BitVec 32 := 1#32
  let arg25 : BitVec 32 := Scf.iv c0_i32_185 c1_i32_187 k0_t6
  let c2_i32_195 : BitVec 32 := 2#32
  let v367 : BitVec 32 := Scalar.muli arg25 c2_i32_195
  let c256_i32_196 : BitVec 32 := 256#32
  let v368 : BitVec 32 := Scalar.muli v367 c256_i32_196
  v368
def k0_off7 (i : grid0.Coords) (k0_t6 : Fin (k0_t6_loop i).trips) : Fin 2 → Nat :=
  let c0_i32_185 : BitVec 32 := 0#32
  let c1_i32_187 : BitVec 32 := 1#32
  let arg25 : BitVec 32 := Scf.iv c0_i32_185 c1_i32_187 k0_t6
  let c2_i32_195 : BitVec 32 := 2#32
  let v367 : BitVec 32 := Scalar.muli arg25 c2_i32_195
  let c256_i32_196 : BitVec 32 := 256#32
  let v368 : BitVec 32 := Scalar.muli v367 c256_i32_196
  let v369 : BitVec 32 := v368
  let v370 : Index := Scalar.indexCast v369
  let c0_197 : Index := 0#32
  ![v370.toNat, 0]
@[reducible] def k0_t7_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let v339 : BitVec 32 := Scalar.addi c0_i32_185 v338
  let c1_i32_188 : BitVec 32 := 1#32
  ⟨v342, v339, c1_i32_188⟩
def k0_mult8 (i : grid0.Coords) (k0_t7 : Fin (k0_t7_loop i).trips) : BitVec 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_188 : BitVec 32 := 1#32
  let arg25 : BitVec 32 := Scf.iv v342 c1_i32_188 k0_t7
  let c2_i32_195 : BitVec 32 := 2#32
  let v367 : BitVec 32 := Scalar.muli arg25 c2_i32_195
  let c256_i32_196 : BitVec 32 := 256#32
  let v368 : BitVec 32 := Scalar.muli v367 c256_i32_196
  v368
def k0_off8 (i : grid0.Coords) (k0_t7 : Fin (k0_t7_loop i).trips) : Fin 2 → Nat :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_188 : BitVec 32 := 1#32
  let arg25 : BitVec 32 := Scf.iv v342 c1_i32_188 k0_t7
  let c2_i32_195 : BitVec 32 := 2#32
  let v367 : BitVec 32 := Scalar.muli arg25 c2_i32_195
  let c256_i32_196 : BitVec 32 := 256#32
  let v368 : BitVec 32 := Scalar.muli v367 c256_i32_196
  let v369 : BitVec 32 := v368
  let v370 : Index := Scalar.indexCast v369
  let c0_197 : Index := 0#32
  ![v370.toNat, 0]
@[reducible] def k0_t8_loop (v84 : BitVec 32) : Scf.Loop 32 :=
  let c0_i32_25 : BitVec 32 := 0#32
  let v85 : BitVec 32 := Scalar.subi v84 c0_i32_25
  let c1_i32_26 : BitVec 32 := 1#32
  let v87 : BitVec 32 := Scalar.divsi v85 c1_i32_26
  let v88 : BitVec 32 := Scalar.muli v87 c1_i32_26
  let v89 : BitVec 32 := Scalar.addi c0_i32_25 v88
  let v86 : BitVec 32 := Scalar.addi c0_i32_25 v85
  let c1_i32_28 : BitVec 32 := 1#32
  ⟨v89, v86, c1_i32_28⟩

def k0_chk1 (v84 : BitVec 32) : Prop :=
  ((k0_t5_loop v84).OK) ∧
  ((k0_t8_loop v84).OK)
theorem k0_t5_ok : ∀ (v84 : BitVec 32) (k0_hw1 : k0_chk1 v84), (k0_t5_loop v84).OK := fun v84 k0_hw1 => k0_hw1.1
theorem k0_t8_ok : ∀ (v84 : BitVec 32) (k0_hw1 : k0_chk1 v84), (k0_t8_loop v84).OK := fun v84 k0_hw1 => k0_hw1.2

@[reducible] def k0_t9_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_187 : BitVec 32 := 1#32
  ⟨c0_i32_185, v342, c1_i32_187⟩
def k0_mult9 (i : grid0.Coords) (k0_t9 : Fin (k0_t9_loop i).trips) : BitVec 32 :=
  let c0_i32_185 : BitVec 32 := 0#32
  let c1_i32_187 : BitVec 32 := 1#32
  let arg25 : BitVec 32 := Scf.iv c0_i32_185 c1_i32_187 k0_t9
  let c2_i32_195 : BitVec 32 := 2#32
  let v367 : BitVec 32 := Scalar.muli arg25 c2_i32_195
  let c256_i32_196 : BitVec 32 := 256#32
  let v368 : BitVec 32 := Scalar.muli v367 c256_i32_196
  v368
def k0_off9 (i : grid0.Coords) (k0_t9 : Fin (k0_t9_loop i).trips) : Fin 2 → Nat :=
  let c0_i32_185 : BitVec 32 := 0#32
  let c1_i32_187 : BitVec 32 := 1#32
  let arg25 : BitVec 32 := Scf.iv c0_i32_185 c1_i32_187 k0_t9
  let c2_i32_195 : BitVec 32 := 2#32
  let v367 : BitVec 32 := Scalar.muli arg25 c2_i32_195
  let c256_i32_196 : BitVec 32 := 256#32
  let v368 : BitVec 32 := Scalar.muli v367 c256_i32_196
  let v369 : BitVec 32 := v368
  let v370 : Index := Scalar.indexCast v369
  let c0_197 : Index := 0#32
  ![v370.toNat, 0]
@[reducible] def k0_t10_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let v339 : BitVec 32 := Scalar.addi c0_i32_185 v338
  let c1_i32_188 : BitVec 32 := 1#32
  ⟨v342, v339, c1_i32_188⟩
def k0_mult10 (i : grid0.Coords) (k0_t10 : Fin (k0_t10_loop i).trips) : BitVec 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_188 : BitVec 32 := 1#32
  let arg25 : BitVec 32 := Scf.iv v342 c1_i32_188 k0_t10
  let c2_i32_195 : BitVec 32 := 2#32
  let v367 : BitVec 32 := Scalar.muli arg25 c2_i32_195
  let c256_i32_196 : BitVec 32 := 256#32
  let v368 : BitVec 32 := Scalar.muli v367 c256_i32_196
  v368
def k0_off10 (i : grid0.Coords) (k0_t10 : Fin (k0_t10_loop i).trips) : Fin 2 → Nat :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v338 : BitVec 32 := Scalar.subi v23 c0_i32_185
  let c1_i32_186 : BitVec 32 := 1#32
  let v340 : BitVec 32 := Scalar.divsi v338 c1_i32_186
  let v341 : BitVec 32 := Scalar.muli v340 c1_i32_186
  let v342 : BitVec 32 := Scalar.addi c0_i32_185 v341
  let c1_i32_188 : BitVec 32 := 1#32
  let arg25 : BitVec 32 := Scf.iv v342 c1_i32_188 k0_t10
  let c2_i32_195 : BitVec 32 := 2#32
  let v367 : BitVec 32 := Scalar.muli arg25 c2_i32_195
  let c256_i32_196 : BitVec 32 := 256#32
  let v368 : BitVec 32 := Scalar.muli v367 c256_i32_196
  let v369 : BitVec 32 := v368
  let v370 : Index := Scalar.indexCast v369
  let c0_197 : Index := 0#32
  ![v370.toNat, 0]
@[reducible] def k0_t11_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v337 : BitVec 32 := Scalar.subi v23 c0_i32_185
  let c1_i32_186 : BitVec 32 := 1#32
  let v339 : BitVec 32 := Scalar.divsi v337 c1_i32_186
  let v340 : BitVec 32 := Scalar.muli v339 c1_i32_186
  let v341 : BitVec 32 := Scalar.addi c0_i32_185 v340
  let c1_i32_187 : BitVec 32 := 1#32
  ⟨c0_i32_185, v341, c1_i32_187⟩
def k0_mult11 (i : grid0.Coords) (k0_t11 : Fin (k0_t11_loop i).trips) : BitVec 32 :=
  let c2_i32_210 : BitVec 32 := 2#32
  let c0_i32_185 : BitVec 32 := 0#32
  let c1_i32_187 : BitVec 32 := 1#32
  let arg25 : BitVec 32 := Scf.iv c0_i32_185 c1_i32_187 k0_t11
  let v404 : BitVec 32 := Scalar.muli c2_i32_210 arg25
  let c0_i32_211 : BitVec 32 := 0#32
  let v405 : BitVec 32 := Scalar.addi v404 c0_i32_211
  let c256_i32_212 : BitVec 32 := 256#32
  let v406 : BitVec 32 := Scalar.muli v405 c256_i32_212
  v406
def k0_off11 (i : grid0.Coords) (k0_t11 : Fin (k0_t11_loop i).trips) (c0_i32_211 : BitVec 32) : Fin 2 → Nat :=
  let c2_i32_210 : BitVec 32 := 2#32
  let c0_i32_185 : BitVec 32 := 0#32
  let c1_i32_187 : BitVec 32 := 1#32
  let arg25 : BitVec 32 := Scf.iv c0_i32_185 c1_i32_187 k0_t11
  let v404 : BitVec 32 := Scalar.muli c2_i32_210 arg25
  let v405 : BitVec 32 := Scalar.addi v404 c0_i32_211
  let c256_i32_212 : BitVec 32 := 256#32
  let v406 : BitVec 32 := Scalar.muli v405 c256_i32_212
  let v407 : BitVec 32 := v406
  let v408 : Index := Scalar.indexCast v407
  let c0_213 : Index := 0#32
  ![v408.toNat, 0]
def k0_mult12 (i : grid0.Coords) (k0_t11 : Fin (k0_t11_loop i).trips) : BitVec 32 :=
  let c2_i32_214 : BitVec 32 := 2#32
  let c0_i32_185 : BitVec 32 := 0#32
  let c1_i32_187 : BitVec 32 := 1#32
  let arg25 : BitVec 32 := Scf.iv c0_i32_185 c1_i32_187 k0_t11
  let v477 : BitVec 32 := Scalar.muli c2_i32_214 arg25
  let c1_i32_215 : BitVec 32 := 1#32
  let v478 : BitVec 32 := Scalar.addi v477 c1_i32_215
  let c256_i32_216 : BitVec 32 := 256#32
  let v479 : BitVec 32 := Scalar.muli v478 c256_i32_216
  v479
@[reducible] def k0_t12_loop (i : grid0.Coords) : Scf.Loop 32 :=
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v337 : BitVec 32 := Scalar.subi v23 c0_i32_185
  let c1_i32_186 : BitVec 32 := 1#32
  let v339 : BitVec 32 := Scalar.divsi v337 c1_i32_186
  let v340 : BitVec 32 := Scalar.muli v339 c1_i32_186
  let v341 : BitVec 32 := Scalar.addi c0_i32_185 v340
  let v338 : BitVec 32 := Scalar.addi c0_i32_185 v337
  let c1_i32_188 : BitVec 32 := 1#32
  ⟨v341, v338, c1_i32_188⟩
def k0_mult13 (i : grid0.Coords) (k0_t12 : Fin (k0_t12_loop i).trips) : BitVec 32 :=
  let c2_i32_210 : BitVec 32 := 2#32
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v337 : BitVec 32 := Scalar.subi v23 c0_i32_185
  let c1_i32_186 : BitVec 32 := 1#32
  let v339 : BitVec 32 := Scalar.divsi v337 c1_i32_186
  let v340 : BitVec 32 := Scalar.muli v339 c1_i32_186
  let v341 : BitVec 32 := Scalar.addi c0_i32_185 v340
  let c1_i32_188 : BitVec 32 := 1#32
  let arg25 : BitVec 32 := Scf.iv v341 c1_i32_188 k0_t12
  let v404 : BitVec 32 := Scalar.muli c2_i32_210 arg25
  let c0_i32_211 : BitVec 32 := 0#32
  let v405 : BitVec 32 := Scalar.addi v404 c0_i32_211
  let c256_i32_212 : BitVec 32 := 256#32
  let v406 : BitVec 32 := Scalar.muli v405 c256_i32_212
  v406
def k0_off12 (i : grid0.Coords) (k0_t12 : Fin (k0_t12_loop i).trips) (c0_i32_211 : BitVec 32) : Fin 2 → Nat :=
  let c2_i32_210 : BitVec 32 := 2#32
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v337 : BitVec 32 := Scalar.subi v23 c0_i32_185
  let c1_i32_186 : BitVec 32 := 1#32
  let v339 : BitVec 32 := Scalar.divsi v337 c1_i32_186
  let v340 : BitVec 32 := Scalar.muli v339 c1_i32_186
  let v341 : BitVec 32 := Scalar.addi c0_i32_185 v340
  let c1_i32_188 : BitVec 32 := 1#32
  let arg25 : BitVec 32 := Scf.iv v341 c1_i32_188 k0_t12
  let v404 : BitVec 32 := Scalar.muli c2_i32_210 arg25
  let v405 : BitVec 32 := Scalar.addi v404 c0_i32_211
  let c256_i32_212 : BitVec 32 := 256#32
  let v406 : BitVec 32 := Scalar.muli v405 c256_i32_212
  let v407 : BitVec 32 := v406
  let v408 : Index := Scalar.indexCast v407
  let c0_213 : Index := 0#32
  ![v408.toNat, 0]
def k0_mult14 (i : grid0.Coords) (k0_t12 : Fin (k0_t12_loop i).trips) : BitVec 32 :=
  let c2_i32_214 : BitVec 32 := 2#32
  let c0_i32_185 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v337 : BitVec 32 := Scalar.subi v23 c0_i32_185
  let c1_i32_186 : BitVec 32 := 1#32
  let v339 : BitVec 32 := Scalar.divsi v337 c1_i32_186
  let v340 : BitVec 32 := Scalar.muli v339 c1_i32_186
  let v341 : BitVec 32 := Scalar.addi c0_i32_185 v340
  let c1_i32_188 : BitVec 32 := 1#32
  let arg25 : BitVec 32 := Scf.iv v341 c1_i32_188 k0_t12
  let v477 : BitVec 32 := Scalar.muli c2_i32_214 arg25
  let c1_i32_215 : BitVec 32 := 1#32
  let v478 : BitVec 32 := Scalar.addi v477 c1_i32_215
  let c256_i32_216 : BitVec 32 := 256#32
  let v479 : BitVec 32 := Scalar.muli v478 c256_i32_216
  v479
@[reducible] def k0_t13_loop (i : grid0.Coords) : Scf.Loop 32 :=
  let c0_i32_199 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v375 : BitVec 32 := Scalar.subi v23 c0_i32_199
  let c1_i32_200 : BitVec 32 := 1#32
  let v377 : BitVec 32 := Scalar.divsi v375 c1_i32_200
  let v378 : BitVec 32 := Scalar.muli v377 c1_i32_200
  let v379 : BitVec 32 := Scalar.addi c0_i32_199 v378
  let c1_i32_201 : BitVec 32 := 1#32
  ⟨c0_i32_199, v379, c1_i32_201⟩
def k0_mult15 (i : grid0.Coords) (k0_t13 : Fin (k0_t13_loop i).trips) : BitVec 32 :=
  let c2_i32_210 : BitVec 32 := 2#32
  let c0_i32_199 : BitVec 32 := 0#32
  let c1_i32_201 : BitVec 32 := 1#32
  let arg25 : BitVec 32 := Scf.iv c0_i32_199 c1_i32_201 k0_t13
  let v404 : BitVec 32 := Scalar.muli c2_i32_210 arg25
  let c0_i32_211 : BitVec 32 := 0#32
  let v405 : BitVec 32 := Scalar.addi v404 c0_i32_211
  let c256_i32_212 : BitVec 32 := 256#32
  let v406 : BitVec 32 := Scalar.muli v405 c256_i32_212
  v406
def k0_off13 (i : grid0.Coords) (k0_t13 : Fin (k0_t13_loop i).trips) (c0_i32_211 : BitVec 32) : Fin 2 → Nat :=
  let c2_i32_210 : BitVec 32 := 2#32
  let c0_i32_199 : BitVec 32 := 0#32
  let c1_i32_201 : BitVec 32 := 1#32
  let arg25 : BitVec 32 := Scf.iv c0_i32_199 c1_i32_201 k0_t13
  let v404 : BitVec 32 := Scalar.muli c2_i32_210 arg25
  let v405 : BitVec 32 := Scalar.addi v404 c0_i32_211
  let c256_i32_212 : BitVec 32 := 256#32
  let v406 : BitVec 32 := Scalar.muli v405 c256_i32_212
  let v407 : BitVec 32 := v406
  let v408 : Index := Scalar.indexCast v407
  let c0_213 : Index := 0#32
  ![v408.toNat, 0]
def k0_mult16 (i : grid0.Coords) (k0_t13 : Fin (k0_t13_loop i).trips) : BitVec 32 :=
  let c2_i32_214 : BitVec 32 := 2#32
  let c0_i32_199 : BitVec 32 := 0#32
  let c1_i32_201 : BitVec 32 := 1#32
  let arg25 : BitVec 32 := Scf.iv c0_i32_199 c1_i32_201 k0_t13
  let v477 : BitVec 32 := Scalar.muli c2_i32_214 arg25
  let c1_i32_215 : BitVec 32 := 1#32
  let v478 : BitVec 32 := Scalar.addi v477 c1_i32_215
  let c256_i32_216 : BitVec 32 := 256#32
  let v479 : BitVec 32 := Scalar.muli v478 c256_i32_216
  v479
@[reducible] def k0_t14_loop (i : grid0.Coords) : Scf.Loop 32 :=
  let c0_i32_199 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v375 : BitVec 32 := Scalar.subi v23 c0_i32_199
  let c1_i32_200 : BitVec 32 := 1#32
  let v377 : BitVec 32 := Scalar.divsi v375 c1_i32_200
  let v378 : BitVec 32 := Scalar.muli v377 c1_i32_200
  let v379 : BitVec 32 := Scalar.addi c0_i32_199 v378
  let v376 : BitVec 32 := Scalar.addi c0_i32_199 v375
  let c1_i32_202 : BitVec 32 := 1#32
  ⟨v379, v376, c1_i32_202⟩
def k0_mult17 (i : grid0.Coords) (k0_t14 : Fin (k0_t14_loop i).trips) : BitVec 32 :=
  let c2_i32_210 : BitVec 32 := 2#32
  let c0_i32_199 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v375 : BitVec 32 := Scalar.subi v23 c0_i32_199
  let c1_i32_200 : BitVec 32 := 1#32
  let v377 : BitVec 32 := Scalar.divsi v375 c1_i32_200
  let v378 : BitVec 32 := Scalar.muli v377 c1_i32_200
  let v379 : BitVec 32 := Scalar.addi c0_i32_199 v378
  let c1_i32_202 : BitVec 32 := 1#32
  let arg25 : BitVec 32 := Scf.iv v379 c1_i32_202 k0_t14
  let v404 : BitVec 32 := Scalar.muli c2_i32_210 arg25
  let c0_i32_211 : BitVec 32 := 0#32
  let v405 : BitVec 32 := Scalar.addi v404 c0_i32_211
  let c256_i32_212 : BitVec 32 := 256#32
  let v406 : BitVec 32 := Scalar.muli v405 c256_i32_212
  v406
def k0_off14 (i : grid0.Coords) (k0_t14 : Fin (k0_t14_loop i).trips) (c0_i32_211 : BitVec 32) : Fin 2 → Nat :=
  let c2_i32_210 : BitVec 32 := 2#32
  let c0_i32_199 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v375 : BitVec 32 := Scalar.subi v23 c0_i32_199
  let c1_i32_200 : BitVec 32 := 1#32
  let v377 : BitVec 32 := Scalar.divsi v375 c1_i32_200
  let v378 : BitVec 32 := Scalar.muli v377 c1_i32_200
  let v379 : BitVec 32 := Scalar.addi c0_i32_199 v378
  let c1_i32_202 : BitVec 32 := 1#32
  let arg25 : BitVec 32 := Scf.iv v379 c1_i32_202 k0_t14
  let v404 : BitVec 32 := Scalar.muli c2_i32_210 arg25
  let v405 : BitVec 32 := Scalar.addi v404 c0_i32_211
  let c256_i32_212 : BitVec 32 := 256#32
  let v406 : BitVec 32 := Scalar.muli v405 c256_i32_212
  let v407 : BitVec 32 := v406
  let v408 : Index := Scalar.indexCast v407
  let c0_213 : Index := 0#32
  ![v408.toNat, 0]
def k0_mult18 (i : grid0.Coords) (k0_t14 : Fin (k0_t14_loop i).trips) : BitVec 32 :=
  let c2_i32_214 : BitVec 32 := 2#32
  let c0_i32_199 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v375 : BitVec 32 := Scalar.subi v23 c0_i32_199
  let c1_i32_200 : BitVec 32 := 1#32
  let v377 : BitVec 32 := Scalar.divsi v375 c1_i32_200
  let v378 : BitVec 32 := Scalar.muli v377 c1_i32_200
  let v379 : BitVec 32 := Scalar.addi c0_i32_199 v378
  let c1_i32_202 : BitVec 32 := 1#32
  let arg25 : BitVec 32 := Scf.iv v379 c1_i32_202 k0_t14
  let v477 : BitVec 32 := Scalar.muli c2_i32_214 arg25
  let c1_i32_215 : BitVec 32 := 1#32
  let v478 : BitVec 32 := Scalar.addi v477 c1_i32_215
  let c256_i32_216 : BitVec 32 := 256#32
  let v479 : BitVec 32 := Scalar.muli v478 c256_i32_216
  v479
@[reducible] def k0_t15_loop (i : grid0.Coords) : Scf.Loop 32 :=
  let c0_i32_181 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v327 : BitVec 32 := Scalar.subi v23 c0_i32_181
  let c1_i32_183 : BitVec 32 := 1#32
  let v329 : BitVec 32 := Scalar.divsi v327 c1_i32_183
  let v330 : BitVec 32 := Scalar.muli v329 c1_i32_183
  let v331 : BitVec 32 := Scalar.addi c0_i32_181 v330
  let c1_i32_184 : BitVec 32 := 1#32
  ⟨c0_i32_181, v331, c1_i32_184⟩
def k0_mult19 (i : grid0.Coords) (k0_t15 : Fin (k0_t15_loop i).trips) : BitVec 32 :=
  let c0_i32_181 : BitVec 32 := 0#32
  let c1_i32_184 : BitVec 32 := 1#32
  let arg20 : BitVec 32 := Scf.iv c0_i32_181 c1_i32_184 k0_t15
  let c2_i32_186 : BitVec 32 := 2#32
  let v334 : BitVec 32 := Scalar.muli arg20 c2_i32_186
  let c256_i32_187 : BitVec 32 := 256#32
  let v335 : BitVec 32 := Scalar.muli v334 c256_i32_187
  v335
def k0_off15 (i : grid0.Coords) (k0_t15 : Fin (k0_t15_loop i).trips) : Fin 2 → Nat :=
  let c0_i32_181 : BitVec 32 := 0#32
  let c1_i32_184 : BitVec 32 := 1#32
  let arg20 : BitVec 32 := Scf.iv c0_i32_181 c1_i32_184 k0_t15
  let c2_i32_186 : BitVec 32 := 2#32
  let v334 : BitVec 32 := Scalar.muli arg20 c2_i32_186
  let c256_i32_187 : BitVec 32 := 256#32
  let v335 : BitVec 32 := Scalar.muli v334 c256_i32_187
  let v336 : BitVec 32 := v335
  let v337 : Index := Scalar.indexCast v336
  let c0_188 : Index := 0#32
  ![v337.toNat, 0]
@[reducible] def k0_t16_loop (i : grid0.Coords) : Scf.Loop 32 :=
  let c0_i32_181 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v327 : BitVec 32 := Scalar.subi v23 c0_i32_181
  let c1_i32_183 : BitVec 32 := 1#32
  let v329 : BitVec 32 := Scalar.divsi v327 c1_i32_183
  let v330 : BitVec 32 := Scalar.muli v329 c1_i32_183
  let v331 : BitVec 32 := Scalar.addi c0_i32_181 v330
  let v328 : BitVec 32 := Scalar.addi c0_i32_181 v327
  let c1_i32_185 : BitVec 32 := 1#32
  ⟨v331, v328, c1_i32_185⟩
def k0_mult20 (i : grid0.Coords) (k0_t16 : Fin (k0_t16_loop i).trips) : BitVec 32 :=
  let c0_i32_181 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v327 : BitVec 32 := Scalar.subi v23 c0_i32_181
  let c1_i32_183 : BitVec 32 := 1#32
  let v329 : BitVec 32 := Scalar.divsi v327 c1_i32_183
  let v330 : BitVec 32 := Scalar.muli v329 c1_i32_183
  let v331 : BitVec 32 := Scalar.addi c0_i32_181 v330
  let c1_i32_185 : BitVec 32 := 1#32
  let arg20 : BitVec 32 := Scf.iv v331 c1_i32_185 k0_t16
  let c2_i32_186 : BitVec 32 := 2#32
  let v334 : BitVec 32 := Scalar.muli arg20 c2_i32_186
  let c256_i32_187 : BitVec 32 := 256#32
  let v335 : BitVec 32 := Scalar.muli v334 c256_i32_187
  v335
def k0_off16 (i : grid0.Coords) (k0_t16 : Fin (k0_t16_loop i).trips) : Fin 2 → Nat :=
  let c0_i32_181 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v327 : BitVec 32 := Scalar.subi v23 c0_i32_181
  let c1_i32_183 : BitVec 32 := 1#32
  let v329 : BitVec 32 := Scalar.divsi v327 c1_i32_183
  let v330 : BitVec 32 := Scalar.muli v329 c1_i32_183
  let v331 : BitVec 32 := Scalar.addi c0_i32_181 v330
  let c1_i32_185 : BitVec 32 := 1#32
  let arg20 : BitVec 32 := Scf.iv v331 c1_i32_185 k0_t16
  let c2_i32_186 : BitVec 32 := 2#32
  let v334 : BitVec 32 := Scalar.muli arg20 c2_i32_186
  let c256_i32_187 : BitVec 32 := 256#32
  let v335 : BitVec 32 := Scalar.muli v334 c256_i32_187
  let v336 : BitVec 32 := v335
  let v337 : Index := Scalar.indexCast v336
  let c0_188 : Index := 0#32
  ![v337.toNat, 0]
@[reducible] def k0_t17_loop (i : grid0.Coords) : Scf.Loop 32 :=
  let c0_i32_183 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v331 : BitVec 32 := Scalar.subi v23 c0_i32_183
  let c1_i32_184 : BitVec 32 := 1#32
  let v333 : BitVec 32 := Scalar.divsi v331 c1_i32_184
  let v334 : BitVec 32 := Scalar.muli v333 c1_i32_184
  let v335 : BitVec 32 := Scalar.addi c0_i32_183 v334
  let c1_i32_185 : BitVec 32 := 1#32
  ⟨c0_i32_183, v335, c1_i32_185⟩
def k0_mult21 (i : grid0.Coords) (k0_t17 : Fin (k0_t17_loop i).trips) : BitVec 32 :=
  let c0_i32_183 : BitVec 32 := 0#32
  let c1_i32_185 : BitVec 32 := 1#32
  let arg23 : BitVec 32 := Scf.iv c0_i32_183 c1_i32_185 k0_t17
  let c2_i32_189 : BitVec 32 := 2#32
  let v345 : BitVec 32 := Scalar.muli arg23 c2_i32_189
  let c256_i32_190 : BitVec 32 := 256#32
  let v346 : BitVec 32 := Scalar.muli v345 c256_i32_190
  v346
def k0_off17 (i : grid0.Coords) (k0_t17 : Fin (k0_t17_loop i).trips) : Fin 2 → Nat :=
  let c0_i32_183 : BitVec 32 := 0#32
  let c1_i32_185 : BitVec 32 := 1#32
  let arg23 : BitVec 32 := Scf.iv c0_i32_183 c1_i32_185 k0_t17
  let c2_i32_189 : BitVec 32 := 2#32
  let v345 : BitVec 32 := Scalar.muli arg23 c2_i32_189
  let c256_i32_190 : BitVec 32 := 256#32
  let v346 : BitVec 32 := Scalar.muli v345 c256_i32_190
  let v347 : BitVec 32 := v346
  let v357 : Index := Scalar.indexCast v347
  let c0_193 : Index := 0#32
  ![v357.toNat, 0]
@[reducible] def k0_t18_loop (i : grid0.Coords) : Scf.Loop 32 :=
  let c0_i32_183 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v331 : BitVec 32 := Scalar.subi v23 c0_i32_183
  let c1_i32_184 : BitVec 32 := 1#32
  let v333 : BitVec 32 := Scalar.divsi v331 c1_i32_184
  let v334 : BitVec 32 := Scalar.muli v333 c1_i32_184
  let v335 : BitVec 32 := Scalar.addi c0_i32_183 v334
  let v332 : BitVec 32 := Scalar.addi c0_i32_183 v331
  let c1_i32_186 : BitVec 32 := 1#32
  ⟨v335, v332, c1_i32_186⟩
def k0_mult22 (i : grid0.Coords) (k0_t18 : Fin (k0_t18_loop i).trips) : BitVec 32 :=
  let c0_i32_183 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v331 : BitVec 32 := Scalar.subi v23 c0_i32_183
  let c1_i32_184 : BitVec 32 := 1#32
  let v333 : BitVec 32 := Scalar.divsi v331 c1_i32_184
  let v334 : BitVec 32 := Scalar.muli v333 c1_i32_184
  let v335 : BitVec 32 := Scalar.addi c0_i32_183 v334
  let c1_i32_186 : BitVec 32 := 1#32
  let arg23 : BitVec 32 := Scf.iv v335 c1_i32_186 k0_t18
  let c2_i32_189 : BitVec 32 := 2#32
  let v345 : BitVec 32 := Scalar.muli arg23 c2_i32_189
  let c256_i32_190 : BitVec 32 := 256#32
  let v346 : BitVec 32 := Scalar.muli v345 c256_i32_190
  v346
def k0_off18 (i : grid0.Coords) (k0_t18 : Fin (k0_t18_loop i).trips) : Fin 2 → Nat :=
  let c0_i32_183 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v331 : BitVec 32 := Scalar.subi v23 c0_i32_183
  let c1_i32_184 : BitVec 32 := 1#32
  let v333 : BitVec 32 := Scalar.divsi v331 c1_i32_184
  let v334 : BitVec 32 := Scalar.muli v333 c1_i32_184
  let v335 : BitVec 32 := Scalar.addi c0_i32_183 v334
  let c1_i32_186 : BitVec 32 := 1#32
  let arg23 : BitVec 32 := Scf.iv v335 c1_i32_186 k0_t18
  let c2_i32_189 : BitVec 32 := 2#32
  let v345 : BitVec 32 := Scalar.muli arg23 c2_i32_189
  let c256_i32_190 : BitVec 32 := 256#32
  let v346 : BitVec 32 := Scalar.muli v345 c256_i32_190
  let v347 : BitVec 32 := v346
  let v357 : Index := Scalar.indexCast v347
  let c0_193 : Index := 0#32
  ![v357.toNat, 0]
@[reducible] def k0_t19_loop (i : grid0.Coords) : Scf.Loop 32 :=
  let c0_i32_46 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v132 : BitVec 32 := Scalar.subi v23 c0_i32_46
  let c1_i32_48 : BitVec 32 := 1#32
  let v134 : BitVec 32 := Scalar.divsi v132 c1_i32_48
  let v135 : BitVec 32 := Scalar.muli v134 c1_i32_48
  let v136 : BitVec 32 := Scalar.addi c0_i32_46 v135
  let c1_i32_49 : BitVec 32 := 1#32
  ⟨c0_i32_46, v136, c1_i32_49⟩
def k0_mult23 (i : grid0.Coords) (k0_t19 : Fin (k0_t19_loop i).trips) : BitVec 32 :=
  let c2_i32_181 : BitVec 32 := 2#32
  let c0_i32_46 : BitVec 32 := 0#32
  let c1_i32_49 : BitVec 32 := 1#32
  let arg20 : BitVec 32 := Scf.iv c0_i32_46 c1_i32_49 k0_t19
  let v327 : BitVec 32 := Scalar.muli c2_i32_181 arg20
  let c0_i32_182 : BitVec 32 := 0#32
  let v328 : BitVec 32 := Scalar.addi v327 c0_i32_182
  let c256_i32_183 : BitVec 32 := 256#32
  let v329 : BitVec 32 := Scalar.muli v328 c256_i32_183
  v329
def k0_off19 (i : grid0.Coords) (k0_t19 : Fin (k0_t19_loop i).trips) (c0_i32_182 : BitVec 32) : Fin 2 → Nat :=
  let c2_i32_181 : BitVec 32 := 2#32
  let c0_i32_46 : BitVec 32 := 0#32
  let c1_i32_49 : BitVec 32 := 1#32
  let arg20 : BitVec 32 := Scf.iv c0_i32_46 c1_i32_49 k0_t19
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v331 : Index := Scalar.indexCast v330
  let c0_184 : Index := 0#32
  ![v331.toNat, 0]
def k0_mult24 (i : grid0.Coords) (k0_t19 : Fin (k0_t19_loop i).trips) : BitVec 32 :=
  let c2_i32_190 : BitVec 32 := 2#32
  let c0_i32_46 : BitVec 32 := 0#32
  let c1_i32_49 : BitVec 32 := 1#32
  let arg20 : BitVec 32 := Scf.iv c0_i32_46 c1_i32_49 k0_t19
  let v353 : BitVec 32 := Scalar.muli c2_i32_190 arg20
  let c1_i32_191 : BitVec 32 := 1#32
  let v354 : BitVec 32 := Scalar.addi v353 c1_i32_191
  let c256_i32_192 : BitVec 32 := 256#32
  let v355 : BitVec 32 := Scalar.muli v354 c256_i32_192
  v355
@[reducible] def k0_t20_loop (i : grid0.Coords) : Scf.Loop 32 :=
  let c0_i32_46 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v132 : BitVec 32 := Scalar.subi v23 c0_i32_46
  let c1_i32_48 : BitVec 32 := 1#32
  let v134 : BitVec 32 := Scalar.divsi v132 c1_i32_48
  let v135 : BitVec 32 := Scalar.muli v134 c1_i32_48
  let v136 : BitVec 32 := Scalar.addi c0_i32_46 v135
  let v133 : BitVec 32 := Scalar.addi c0_i32_46 v132
  let c1_i32_50 : BitVec 32 := 1#32
  ⟨v136, v133, c1_i32_50⟩
def k0_mult25 (i : grid0.Coords) (k0_t20 : Fin (k0_t20_loop i).trips) : BitVec 32 :=
  let c2_i32_181 : BitVec 32 := 2#32
  let c0_i32_46 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v132 : BitVec 32 := Scalar.subi v23 c0_i32_46
  let c1_i32_48 : BitVec 32 := 1#32
  let v134 : BitVec 32 := Scalar.divsi v132 c1_i32_48
  let v135 : BitVec 32 := Scalar.muli v134 c1_i32_48
  let v136 : BitVec 32 := Scalar.addi c0_i32_46 v135
  let c1_i32_50 : BitVec 32 := 1#32
  let arg20 : BitVec 32 := Scf.iv v136 c1_i32_50 k0_t20
  let v327 : BitVec 32 := Scalar.muli c2_i32_181 arg20
  let c0_i32_182 : BitVec 32 := 0#32
  let v328 : BitVec 32 := Scalar.addi v327 c0_i32_182
  let c256_i32_183 : BitVec 32 := 256#32
  let v329 : BitVec 32 := Scalar.muli v328 c256_i32_183
  v329
def k0_off20 (i : grid0.Coords) (k0_t20 : Fin (k0_t20_loop i).trips) (c0_i32_182 : BitVec 32) : Fin 2 → Nat :=
  let c2_i32_181 : BitVec 32 := 2#32
  let c0_i32_46 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v132 : BitVec 32 := Scalar.subi v23 c0_i32_46
  let c1_i32_48 : BitVec 32 := 1#32
  let v134 : BitVec 32 := Scalar.divsi v132 c1_i32_48
  let v135 : BitVec 32 := Scalar.muli v134 c1_i32_48
  let v136 : BitVec 32 := Scalar.addi c0_i32_46 v135
  let c1_i32_50 : BitVec 32 := 1#32
  let arg20 : BitVec 32 := Scf.iv v136 c1_i32_50 k0_t20
  let v327 : BitVec 32 := Scalar.muli c2_i32_181 arg20
  let v328 : BitVec 32 := Scalar.addi v327 c0_i32_182
  let c256_i32_183 : BitVec 32 := 256#32
  let v329 : BitVec 32 := Scalar.muli v328 c256_i32_183
  let v330 : BitVec 32 := v329
  let v331 : Index := Scalar.indexCast v330
  let c0_184 : Index := 0#32
  ![v331.toNat, 0]
def k0_mult26 (i : grid0.Coords) (k0_t20 : Fin (k0_t20_loop i).trips) : BitVec 32 :=
  let c2_i32_190 : BitVec 32 := 2#32
  let c0_i32_46 : BitVec 32 := 0#32
  let arg1 : BitVec 32 := BitVec.ofNat 32 (i 1).val
  let c1_i32 : BitVec 32 := 1#32
  let v0 : BitVec 32 := Scalar.addi arg1 c1_i32
  let c1_i32_0 : BitVec 32 := 1#32
  let v6 : BitVec 32 := Scalar.addi v0 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2_i32 : BitVec 32 := 2#32
  let c0_i32_2 : BitVec 32 := 0#32
  let v13 : BitVec 1 := Scalar.cmpi .sgt c2_i32 c0_i32_2
  let v14 : BitVec 32 := Scalar.extui v13
  let c0_i32_3 : BitVec 32 := 0#32
  let v15 : BitVec 1 := Scalar.cmpi .slt c2_i32 c0_i32_3
  let v16 : BitVec 32 := Scalar.extui v15
  let v17 : BitVec 32 := Scalar.subi v14 v16
  let v18 : BitVec 1 := Scalar.cmpi .ne v12 v17
  let v19 : BitVec 32 := Scalar.remsi v6 c2_i32
  let c0_i32_4 : BitVec 32 := 0#32
  let v20 : BitVec 1 := Scalar.cmpi .ne v19 c0_i32_4
  let v21 : BitVec 1 := Scalar.andi v18 v20
  let v7 : BitVec 32 := Scalar.divsi v6 c2_i32
  let c1_i32_5 : BitVec 32 := 1#32
  let v22 : BitVec 32 := Scalar.subi v7 c1_i32_5
  let v23 : BitVec 32 := Scalar.select v21 v22 v7
  let v132 : BitVec 32 := Scalar.subi v23 c0_i32_46
  let c1_i32_48 : BitVec 32 := 1#32
  let v134 : BitVec 32 := Scalar.divsi v132 c1_i32_48
  let v135 : BitVec 32 := Scalar.muli v134 c1_i32_48
  let v136 : BitVec 32 := Scalar.addi c0_i32_46 v135
  let c1_i32_50 : BitVec 32 := 1#32
  let arg20 : BitVec 32 := Scf.iv v136 c1_i32_50 k0_t20
  let v353 : BitVec 32 := Scalar.muli c2_i32_190 arg20
  let c1_i32_191 : BitVec 32 := 1#32
  let v354 : BitVec 32 := Scalar.addi v353 c1_i32_191
  let c256_i32_192 : BitVec 32 := 256#32
  let v355 : BitVec 32 := Scalar.muli v354 c256_i32_192
  v355
@[reducible] def k0_t21_loop (i : grid0.Coords) : Scf.Loop 32 :=
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_110 : BitVec 32 := 1#32
  ⟨c0_i32_107, v235, c1_i32_110⟩
def k0_mult27 (i : grid0.Coords) (k0_t21 : Fin (k0_t21_loop i).trips) : BitVec 32 :=
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  v330
def k0_off21 (i : grid0.Coords) (k0_t21 : Fin (k0_t21_loop i).trips) : Fin 3 → Nat :=
  let c0_185 : Index := 0#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  let v331 : BitVec 32 := v330
  let v332 : Index := Scalar.indexCast v331
  let c0_186 : Index := 0#32
  ![0, v332.toNat, 0]
def k0_off22 (i : grid0.Coords) (k0_t21 : Fin (k0_t21_loop i).trips) : Fin 2 → Nat :=
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  let v331 : BitVec 32 := v330
  let v338 : Index := Scalar.indexCast v331
  let c0_191 : Index := 0#32
  ![v338.toNat, 0]
def k0_off23 (i : grid0.Coords) (k0_t21 : Fin (k0_t21_loop i).trips) : Fin 3 → Nat :=
  let c0_237 : Index := 0#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  let v331 : BitVec 32 := v330
  let v397 : Index := Scalar.indexCast v331
  let c128_238 : Index := 128#32
  ![0, v397.toNat, 128]
def k0_off24 (i : grid0.Coords) (k0_t21 : Fin (k0_t21_loop i).trips) : Fin 3 → Nat :=
  let c0_289 : Index := 0#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  let v331 : BitVec 32 := v330
  let v462 : Index := Scalar.indexCast v331
  let c256_290 : Index := 256#32
  ![0, v462.toNat, 256]
def k0_off25 (i : grid0.Coords) (k0_t21 : Fin (k0_t21_loop i).trips) : Fin 3 → Nat :=
  let c0_341 : Index := 0#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_184 : BitVec 32 := 256#32
  let v330 : BitVec 32 := Scalar.muli v327 c256_i32_184
  let v331 : BitVec 32 := v330
  let v527 : Index := Scalar.indexCast v331
  let c384_342 : Index := 384#32
  ![0, v527.toNat, 384]
def k0_mult28 (i : grid0.Coords) (k0_t21 : Fin (k0_t21_loop i).trips) : BitVec 32 :=
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  v592
def k0_off26 (i : grid0.Coords) (k0_t21 : Fin (k0_t21_loop i).trips) : Fin 3 → Nat :=
  let c0_394 : Index := 0#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v594 : Index := Scalar.indexCast v593
  let c0_395 : Index := 0#32
  ![0, v594.toNat, 0]
def k0_off27 (i : grid0.Coords) (k0_t21 : Fin (k0_t21_loop i).trips) : Fin 2 → Nat :=
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v600 : Index := Scalar.indexCast v593
  let c0_400 : Index := 0#32
  ![v600.toNat, 0]
def k0_off28 (i : grid0.Coords) (k0_t21 : Fin (k0_t21_loop i).trips) : Fin 3 → Nat :=
  let c0_446 : Index := 0#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v659 : Index := Scalar.indexCast v593
  let c128_447 : Index := 128#32
  ![0, v659.toNat, 128]
def k0_off29 (i : grid0.Coords) (k0_t21 : Fin (k0_t21_loop i).trips) : Fin 3 → Nat :=
  let c0_498 : Index := 0#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v724 : Index := Scalar.indexCast v593
  let c256_499 : Index := 256#32
  ![0, v724.toNat, 256]
def k0_off30 (i : grid0.Coords) (k0_t21 : Fin (k0_t21_loop i).trips) : Fin 3 → Nat :=
  let c0_550 : Index := 0#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v789 : Index := Scalar.indexCast v593
  let c384_551 : Index := 384#32
  ![0, v789.toNat, 384]
def k0_mult29 (i : grid0.Coords) (k0_t21 : Fin (k0_t21_loop i).trips) : BitVec 32 :=
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  v854
def k0_off31 (i : grid0.Coords) (k0_t21 : Fin (k0_t21_loop i).trips) : Fin 3 → Nat :=
  let c0_622 : Index := 0#32
  let c0_623 : Index := 0#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v874 : Index := Scalar.indexCast v855
  ![0, 0, v874.toNat]
def k0_off32 (i : grid0.Coords) (k0_t21 : Fin (k0_t21_loop i).trips) : Fin 3 → Nat :=
  let c0_648 : Index := 0#32
  let c64_649 : Index := 64#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v904 : Index := Scalar.indexCast v855
  ![0, 64, v904.toNat]
def k0_off33 (i : grid0.Coords) (k0_t21 : Fin (k0_t21_loop i).trips) : Fin 3 → Nat :=
  let c0_674 : Index := 0#32
  let c128_675 : Index := 128#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v934 : Index := Scalar.indexCast v855
  ![0, 128, v934.toNat]
def k0_off34 (i : grid0.Coords) (k0_t21 : Fin (k0_t21_loop i).trips) : Fin 3 → Nat :=
  let c0_700 : Index := 0#32
  let c192_701 : Index := 192#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v964 : Index := Scalar.indexCast v855
  ![0, 192, v964.toNat]
def k0_off35 (i : grid0.Coords) (k0_t21 : Fin (k0_t21_loop i).trips) : Fin 3 → Nat :=
  let c0_726 : Index := 0#32
  let c256_727 : Index := 256#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v994 : Index := Scalar.indexCast v855
  ![0, 256, v994.toNat]
def k0_off36 (i : grid0.Coords) (k0_t21 : Fin (k0_t21_loop i).trips) : Fin 3 → Nat :=
  let c0_752 : Index := 0#32
  let c320_753 : Index := 320#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v1024 : Index := Scalar.indexCast v855
  ![0, 320, v1024.toNat]
def k0_off37 (i : grid0.Coords) (k0_t21 : Fin (k0_t21_loop i).trips) : Fin 3 → Nat :=
  let c0_778 : Index := 0#32
  let c384_779 : Index := 384#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v1054 : Index := Scalar.indexCast v855
  ![0, 384, v1054.toNat]
def k0_off38 (i : grid0.Coords) (k0_t21 : Fin (k0_t21_loop i).trips) : Fin 3 → Nat :=
  let c0_804 : Index := 0#32
  let c448_805 : Index := 448#32
  let c2_i32_181 : BitVec 32 := 2#32
  let c0_i32_107 : BitVec 32 := 0#32
  let c1_i32_110 : BitVec 32 := 1#32
  let arg20 : BitVec 32 := Scf.iv c0_i32_107 c1_i32_110 k0_t21
  let v327 : BitVec 32 := Scalar.muli c2_i32_181 arg20
  let c256_i32_602 : BitVec 32 := 256#32
  let v854 : BitVec 32 := Scalar.muli v327 c256_i32_602
  let v855 : BitVec 32 := v854
  let v1084 : Index := Scalar.indexCast v855
  ![0, 448, v1084.toNat]
def k0_mult30 (i : grid0.Coords) (k0_t21 : Fin (k0_t21_loop i).trips) : BitVec 32 :=
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  v1096
def k0_off39 (i : grid0.Coords) (k0_t21 : Fin (k0_t21_loop i).trips) : Fin 3 → Nat :=
  let c0_831 : Index := 0#32
  let c0_832 : Index := 0#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1116 : Index := Scalar.indexCast v1097
  ![0, 0, v1116.toNat]
def k0_off40 (i : grid0.Coords) (k0_t21 : Fin (k0_t21_loop i).trips) : Fin 3 → Nat :=
  let c0_857 : Index := 0#32
  let c64_858 : Index := 64#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1146 : Index := Scalar.indexCast v1097
  ![0, 64, v1146.toNat]
def k0_off41 (i : grid0.Coords) (k0_t21 : Fin (k0_t21_loop i).trips) : Fin 3 → Nat :=
  let c0_883 : Index := 0#32
  let c128_884 : Index := 128#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1176 : Index := Scalar.indexCast v1097
  ![0, 128, v1176.toNat]
def k0_off42 (i : grid0.Coords) (k0_t21 : Fin (k0_t21_loop i).trips) : Fin 3 → Nat :=
  let c0_909 : Index := 0#32
  let c192_910 : Index := 192#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1206 : Index := Scalar.indexCast v1097
  ![0, 192, v1206.toNat]
def k0_off43 (i : grid0.Coords) (k0_t21 : Fin (k0_t21_loop i).trips) : Fin 3 → Nat :=
  let c0_935 : Index := 0#32
  let c256_936 : Index := 256#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1236 : Index := Scalar.indexCast v1097
  ![0, 256, v1236.toNat]
def k0_off44 (i : grid0.Coords) (k0_t21 : Fin (k0_t21_loop i).trips) : Fin 3 → Nat :=
  let c0_961 : Index := 0#32
  let c320_962 : Index := 320#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1266 : Index := Scalar.indexCast v1097
  ![0, 320, v1266.toNat]
def k0_off45 (i : grid0.Coords) (k0_t21 : Fin (k0_t21_loop i).trips) : Fin 3 → Nat :=
  let c0_987 : Index := 0#32
  let c384_988 : Index := 384#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1296 : Index := Scalar.indexCast v1097
  ![0, 384, v1296.toNat]
def k0_off46 (i : grid0.Coords) (k0_t21 : Fin (k0_t21_loop i).trips) : Fin 3 → Nat :=
  let c0_1013 : Index := 0#32
  let c448_1014 : Index := 448#32
  let c2_i32_182 : BitVec 32 := 2#32
  let c0_i32_107 : BitVec 32 := 0#32
  let c1_i32_110 : BitVec 32 := 1#32
  let arg20 : BitVec 32 := Scf.iv c0_i32_107 c1_i32_110 k0_t21
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1326 : Index := Scalar.indexCast v1097
  ![0, 448, v1326.toNat]
@[reducible] def k0_t22_loop (i : grid0.Coords) : Scf.Loop 32 :=
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let v232 : BitVec 32 := Scalar.addi c0_i32_107 v231
  let c1_i32_111 : BitVec 32 := 1#32
  ⟨v235, v232, c1_i32_111⟩
def k0_mult31 (i : grid0.Coords) (k0_t22 : Fin (k0_t22_loop i).trips) : BitVec 32 :=
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  v330
def k0_off47 (i : grid0.Coords) (k0_t22 : Fin (k0_t22_loop i).trips) : Fin 3 → Nat :=
  let c0_185 : Index := 0#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  let v331 : BitVec 32 := v330
  let v332 : Index := Scalar.indexCast v331
  let c0_186 : Index := 0#32
  ![0, v332.toNat, 0]
def k0_off48 (i : grid0.Coords) (k0_t22 : Fin (k0_t22_loop i).trips) : Fin 2 → Nat :=
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  let v331 : BitVec 32 := v330
  let v338 : Index := Scalar.indexCast v331
  let c0_191 : Index := 0#32
  ![v338.toNat, 0]
def k0_off49 (i : grid0.Coords) (k0_t22 : Fin (k0_t22_loop i).trips) : Fin 3 → Nat :=
  let c0_237 : Index := 0#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  let v331 : BitVec 32 := v330
  let v397 : Index := Scalar.indexCast v331
  let c128_238 : Index := 128#32
  ![0, v397.toNat, 128]
def k0_off50 (i : grid0.Coords) (k0_t22 : Fin (k0_t22_loop i).trips) : Fin 3 → Nat :=
  let c0_289 : Index := 0#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  let v331 : BitVec 32 := v330
  let v462 : Index := Scalar.indexCast v331
  let c256_290 : Index := 256#32
  ![0, v462.toNat, 256]
def k0_off51 (i : grid0.Coords) (k0_t22 : Fin (k0_t22_loop i).trips) : Fin 3 → Nat :=
  let c0_341 : Index := 0#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_184 : BitVec 32 := 256#32
  let v330 : BitVec 32 := Scalar.muli v327 c256_i32_184
  let v331 : BitVec 32 := v330
  let v527 : Index := Scalar.indexCast v331
  let c384_342 : Index := 384#32
  ![0, v527.toNat, 384]
def k0_mult32 (i : grid0.Coords) (k0_t22 : Fin (k0_t22_loop i).trips) : BitVec 32 :=
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  v592
def k0_off52 (i : grid0.Coords) (k0_t22 : Fin (k0_t22_loop i).trips) : Fin 3 → Nat :=
  let c0_394 : Index := 0#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v594 : Index := Scalar.indexCast v593
  let c0_395 : Index := 0#32
  ![0, v594.toNat, 0]
def k0_off53 (i : grid0.Coords) (k0_t22 : Fin (k0_t22_loop i).trips) : Fin 2 → Nat :=
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v600 : Index := Scalar.indexCast v593
  let c0_400 : Index := 0#32
  ![v600.toNat, 0]
def k0_off54 (i : grid0.Coords) (k0_t22 : Fin (k0_t22_loop i).trips) : Fin 3 → Nat :=
  let c0_446 : Index := 0#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v659 : Index := Scalar.indexCast v593
  let c128_447 : Index := 128#32
  ![0, v659.toNat, 128]
def k0_off55 (i : grid0.Coords) (k0_t22 : Fin (k0_t22_loop i).trips) : Fin 3 → Nat :=
  let c0_498 : Index := 0#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v724 : Index := Scalar.indexCast v593
  let c256_499 : Index := 256#32
  ![0, v724.toNat, 256]
def k0_off56 (i : grid0.Coords) (k0_t22 : Fin (k0_t22_loop i).trips) : Fin 3 → Nat :=
  let c0_550 : Index := 0#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_393 : BitVec 32 := 256#32
  let v592 : BitVec 32 := Scalar.muli v329 c256_i32_393
  let v593 : BitVec 32 := v592
  let v789 : Index := Scalar.indexCast v593
  let c384_551 : Index := 384#32
  ![0, v789.toNat, 384]
def k0_mult33 (i : grid0.Coords) (k0_t22 : Fin (k0_t22_loop i).trips) : BitVec 32 :=
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  v854
def k0_off57 (i : grid0.Coords) (k0_t22 : Fin (k0_t22_loop i).trips) : Fin 3 → Nat :=
  let c0_622 : Index := 0#32
  let c0_623 : Index := 0#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v874 : Index := Scalar.indexCast v855
  ![0, 0, v874.toNat]
def k0_off58 (i : grid0.Coords) (k0_t22 : Fin (k0_t22_loop i).trips) : Fin 3 → Nat :=
  let c0_648 : Index := 0#32
  let c64_649 : Index := 64#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v904 : Index := Scalar.indexCast v855
  ![0, 64, v904.toNat]
def k0_off59 (i : grid0.Coords) (k0_t22 : Fin (k0_t22_loop i).trips) : Fin 3 → Nat :=
  let c0_674 : Index := 0#32
  let c128_675 : Index := 128#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v934 : Index := Scalar.indexCast v855
  ![0, 128, v934.toNat]
def k0_off60 (i : grid0.Coords) (k0_t22 : Fin (k0_t22_loop i).trips) : Fin 3 → Nat :=
  let c0_700 : Index := 0#32
  let c192_701 : Index := 192#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v964 : Index := Scalar.indexCast v855
  ![0, 192, v964.toNat]
def k0_off61 (i : grid0.Coords) (k0_t22 : Fin (k0_t22_loop i).trips) : Fin 3 → Nat :=
  let c0_726 : Index := 0#32
  let c256_727 : Index := 256#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v994 : Index := Scalar.indexCast v855
  ![0, 256, v994.toNat]
def k0_off62 (i : grid0.Coords) (k0_t22 : Fin (k0_t22_loop i).trips) : Fin 3 → Nat :=
  let c0_752 : Index := 0#32
  let c320_753 : Index := 320#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v1024 : Index := Scalar.indexCast v855
  ![0, 320, v1024.toNat]
def k0_off63 (i : grid0.Coords) (k0_t22 : Fin (k0_t22_loop i).trips) : Fin 3 → Nat :=
  let c0_778 : Index := 0#32
  let c384_779 : Index := 384#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v1054 : Index := Scalar.indexCast v855
  ![0, 384, v1054.toNat]
def k0_off64 (i : grid0.Coords) (k0_t22 : Fin (k0_t22_loop i).trips) : Fin 3 → Nat :=
  let c0_804 : Index := 0#32
  let c448_805 : Index := 448#32
  let c2_i32_181 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v327 : BitVec 32 := Scalar.muli c2_i32_181 arg20
  let c256_i32_602 : BitVec 32 := 256#32
  let v854 : BitVec 32 := Scalar.muli v327 c256_i32_602
  let v855 : BitVec 32 := v854
  let v1084 : Index := Scalar.indexCast v855
  ![0, 448, v1084.toNat]
def k0_mult34 (i : grid0.Coords) (k0_t22 : Fin (k0_t22_loop i).trips) : BitVec 32 :=
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  v1096
def k0_off65 (i : grid0.Coords) (k0_t22 : Fin (k0_t22_loop i).trips) : Fin 3 → Nat :=
  let c0_831 : Index := 0#32
  let c0_832 : Index := 0#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1116 : Index := Scalar.indexCast v1097
  ![0, 0, v1116.toNat]
def k0_off66 (i : grid0.Coords) (k0_t22 : Fin (k0_t22_loop i).trips) : Fin 3 → Nat :=
  let c0_857 : Index := 0#32
  let c64_858 : Index := 64#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1146 : Index := Scalar.indexCast v1097
  ![0, 64, v1146.toNat]
def k0_off67 (i : grid0.Coords) (k0_t22 : Fin (k0_t22_loop i).trips) : Fin 3 → Nat :=
  let c0_883 : Index := 0#32
  let c128_884 : Index := 128#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1176 : Index := Scalar.indexCast v1097
  ![0, 128, v1176.toNat]
def k0_off68 (i : grid0.Coords) (k0_t22 : Fin (k0_t22_loop i).trips) : Fin 3 → Nat :=
  let c0_909 : Index := 0#32
  let c192_910 : Index := 192#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1206 : Index := Scalar.indexCast v1097
  ![0, 192, v1206.toNat]
def k0_off69 (i : grid0.Coords) (k0_t22 : Fin (k0_t22_loop i).trips) : Fin 3 → Nat :=
  let c0_935 : Index := 0#32
  let c256_936 : Index := 256#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1236 : Index := Scalar.indexCast v1097
  ![0, 256, v1236.toNat]
def k0_off70 (i : grid0.Coords) (k0_t22 : Fin (k0_t22_loop i).trips) : Fin 3 → Nat :=
  let c0_961 : Index := 0#32
  let c320_962 : Index := 320#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1266 : Index := Scalar.indexCast v1097
  ![0, 320, v1266.toNat]
def k0_off71 (i : grid0.Coords) (k0_t22 : Fin (k0_t22_loop i).trips) : Fin 3 → Nat :=
  let c0_987 : Index := 0#32
  let c384_988 : Index := 384#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1296 : Index := Scalar.indexCast v1097
  ![0, 384, v1296.toNat]
def k0_off72 (i : grid0.Coords) (k0_t22 : Fin (k0_t22_loop i).trips) : Fin 3 → Nat :=
  let c0_1013 : Index := 0#32
  let c448_1014 : Index := 448#32
  let c2_i32_182 : BitVec 32 := 2#32
  let c0_i32_107 : BitVec 32 := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c0_i32_101 : BitVec 32 := 0#32
  let v215 : BitVec 1 := Scalar.cmpi .sgt v213 c0_i32_101
  let v216 : BitVec 32 := Scalar.extui v215
  let c0_i32_102 : BitVec 32 := 0#32
  let v217 : BitVec 1 := Scalar.cmpi .slt v213 c0_i32_102
  let v218 : BitVec 32 := Scalar.extui v217
  let v219 : BitVec 32 := Scalar.subi v216 v218
  let c2_i32_100 : BitVec 32 := 2#32
  let c0_i32_103 : BitVec 32 := 0#32
  let v220 : BitVec 1 := Scalar.cmpi .sgt c2_i32_100 c0_i32_103
  let v221 : BitVec 32 := Scalar.extui v220
  let c0_i32_104 : BitVec 32 := 0#32
  let v222 : BitVec 1 := Scalar.cmpi .slt c2_i32_100 c0_i32_104
  let v223 : BitVec 32 := Scalar.extui v222
  let v224 : BitVec 32 := Scalar.subi v221 v223
  let v225 : BitVec 1 := Scalar.cmpi .ne v219 v224
  let v226 : BitVec 32 := Scalar.remsi v213 c2_i32_100
  let c0_i32_105 : BitVec 32 := 0#32
  let v227 : BitVec 1 := Scalar.cmpi .ne v226 c0_i32_105
  let v228 : BitVec 1 := Scalar.andi v225 v227
  let v214 : BitVec 32 := Scalar.divsi v213 c2_i32_100
  let c1_i32_106 : BitVec 32 := 1#32
  let v229 : BitVec 32 := Scalar.subi v214 c1_i32_106
  let v230 : BitVec 32 := Scalar.select v228 v229 v214
  let v231 : BitVec 32 := Scalar.subi v230 c0_i32_107
  let c1_i32_109 : BitVec 32 := 1#32
  let v233 : BitVec 32 := Scalar.divsi v231 c1_i32_109
  let v234 : BitVec 32 := Scalar.muli v233 c1_i32_109
  let v235 : BitVec 32 := Scalar.addi c0_i32_107 v234
  let c1_i32_111 : BitVec 32 := 1#32
  let arg20 : BitVec 32 := Scf.iv v235 c1_i32_111 k0_t22
  let v328 : BitVec 32 := Scalar.muli c2_i32_182 arg20
  let c1_i32_183 : BitVec 32 := 1#32
  let v329 : BitVec 32 := Scalar.addi v328 c1_i32_183
  let c256_i32_811 : BitVec 32 := 256#32
  let v1096 : BitVec 32 := Scalar.muli v329 c256_i32_811
  let v1097 : BitVec 32 := v1096
  let v1326 : Index := Scalar.indexCast v1097
  ![0, 448, v1326.toNat]
def k0_cond2 (i : grid0.Coords) : BitVec 1 :=
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c2_i32_112 : BitVec 32 := 2#32
  let c0_i32_113 : BitVec 32 := 0#32
  let v238 : BitVec 1 := Scalar.cmpi .eq c2_i32_112 c0_i32_113
  let c1_i32_114 : BitVec 32 := 1#32
  let v239 : BitVec 32 := Scalar.select v238 c1_i32_114 c2_i32_112
  let v240 : BitVec 32 := Scalar.remsi v213 v239
  let c0_i32_116 : BitVec 32 := 0#32
  let v242 : BitVec 1 := Scalar.cmpi .slt v240 c0_i32_116
  let c0_i32_117 : BitVec 32 := 0#32
  let v243 : BitVec 1 := Scalar.cmpi .slt v239 c0_i32_117
  let v244 : BitVec 1 := Scalar.xori v242 v243
  let c0_i32_115 : BitVec 32 := 0#32
  let v241 : BitVec 1 := Scalar.cmpi .ne v240 c0_i32_115
  let v245 : BitVec 1 := Scalar.andi v244 v241
  let v246 : BitVec 32 := Scalar.addi v240 v239
  let v247 : BitVec 32 := Scalar.select v245 v246 v240
  let c1_i32_118 : BitVec 32 := 1#32
  let v248 : BitVec 1 := Scalar.cmpi .eq v247 c1_i32_118
  let v249 : BitVec 32 := Scalar.extui v248
  let c0_i32_119 : BitVec 32 := 0#32
  let v250 : BitVec 1 := Scalar.cmpi .ne v249 c0_i32_119
  v250

def k0_mult35 (i : grid0.Coords) : BitVec 32 :=
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  v328
def k0_off73 (i : grid0.Coords) : Fin 3 → Nat :=
  let c0_183 : Index := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  let v329 : BitVec 32 := v328
  let v330 : Index := Scalar.indexCast v329
  let c0_184 : Index := 0#32
  ![0, v330.toNat, 0]
def k0_off74 (i : grid0.Coords) : Fin 2 → Nat :=
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  let v329 : BitVec 32 := v328
  let v336 : Index := Scalar.indexCast v329
  let c0_189 : Index := 0#32
  ![v336.toNat, 0]
def k0_off75 (i : grid0.Coords) : Fin 3 → Nat :=
  let c0_235 : Index := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  let v329 : BitVec 32 := v328
  let v395 : Index := Scalar.indexCast v329
  let c128_236 : Index := 128#32
  ![0, v395.toNat, 128]
def k0_off76 (i : grid0.Coords) : Fin 3 → Nat :=
  let c0_287 : Index := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  let v329 : BitVec 32 := v328
  let v460 : Index := Scalar.indexCast v329
  let c256_288 : Index := 256#32
  ![0, v460.toNat, 256]
def k0_off77 (i : grid0.Coords) : Fin 3 → Nat :=
  let c0_339 : Index := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_182 : BitVec 32 := 256#32
  let v328 : BitVec 32 := Scalar.muli v327 c256_i32_182
  let v329 : BitVec 32 := v328
  let v525 : Index := Scalar.indexCast v329
  let c384_340 : Index := 384#32
  ![0, v525.toNat, 384]
def k0_mult36 (i : grid0.Coords) : BitVec 32 :=
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  v590
def k0_off78 (i : grid0.Coords) : Fin 3 → Nat :=
  let c0_411 : Index := 0#32
  let c0_412 : Index := 0#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v610 : Index := Scalar.indexCast v591
  ![0, 0, v610.toNat]
def k0_off79 (i : grid0.Coords) : Fin 3 → Nat :=
  let c0_437 : Index := 0#32
  let c64_438 : Index := 64#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v640 : Index := Scalar.indexCast v591
  ![0, 64, v640.toNat]
def k0_off80 (i : grid0.Coords) : Fin 3 → Nat :=
  let c0_463 : Index := 0#32
  let c128_464 : Index := 128#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v670 : Index := Scalar.indexCast v591
  ![0, 128, v670.toNat]
def k0_off81 (i : grid0.Coords) : Fin 3 → Nat :=
  let c0_489 : Index := 0#32
  let c192_490 : Index := 192#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v700 : Index := Scalar.indexCast v591
  ![0, 192, v700.toNat]
def k0_off82 (i : grid0.Coords) : Fin 3 → Nat :=
  let c0_515 : Index := 0#32
  let c256_516 : Index := 256#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v730 : Index := Scalar.indexCast v591
  ![0, 256, v730.toNat]
def k0_off83 (i : grid0.Coords) : Fin 3 → Nat :=
  let c0_541 : Index := 0#32
  let c320_542 : Index := 320#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v760 : Index := Scalar.indexCast v591
  ![0, 320, v760.toNat]
def k0_off84 (i : grid0.Coords) : Fin 3 → Nat :=
  let c0_567 : Index := 0#32
  let c384_568 : Index := 384#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v790 : Index := Scalar.indexCast v591
  ![0, 384, v790.toNat]
def k0_off85 (i : grid0.Coords) : Fin 3 → Nat :=
  let c0_593 : Index := 0#32
  let c448_594 : Index := 448#32
  let arg1 : BitVec 32 := BitVec.ofNat 32 (i 1).val
  let c1_i32_98 : BitVec 32 := 1#32
  let v212 : BitVec 32 := Scalar.subi arg1 c1_i32_98
  let c0_i32_99 : BitVec 32 := 0#32
  let v213 : BitVec 32 := Scalar.maxsi v212 c0_i32_99
  let c1_i32_181 : BitVec 32 := 1#32
  let v327 : BitVec 32 := Scalar.subi v213 c1_i32_181
  let c256_i32_391 : BitVec 32 := 256#32
  let v590 : BitVec 32 := Scalar.muli v327 c256_i32_391
  let v591 : BitVec 32 := v590
  let v820 : Index := Scalar.indexCast v591
  ![0, 448, v820.toNat]
def k0_cond3 (i : grid0.Coords) : BitVec 1 :=
  let arg1 : BitVec 32 := BitVec.ofNat 32 (i 1).val
  let c1_i32_120 : BitVec 32 := 1#32
  let v251 : BitVec 1 := Scalar.cmpi .sge arg1 c1_i32_120
  let v252 : BitVec 32 := Scalar.extui v251
  let c0_i32_121 : BitVec 32 := 0#32
  let v253 : BitVec 1 := Scalar.cmpi .ne v252 c0_i32_121
  v253

def k0_mult37 (i : grid0.Coords) : BitVec 32 :=
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  v328
def k0_off86 (i : grid0.Coords) : Fin 3 → Nat :=
  let c0_183 : Index := 0#32
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  let v329 : BitVec 32 := v328
  let v330 : Index := Scalar.indexCast v329
  let c0_184 : Index := 0#32
  ![0, v330.toNat, 0]
def k0_off87 (i : grid0.Coords) : Fin 2 → Nat :=
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  let v329 : BitVec 32 := v328
  let v336 : Index := Scalar.indexCast v329
  let c0_189 : Index := 0#32
  ![v336.toNat, 0]
def k0_off88 (i : grid0.Coords) : Fin 3 → Nat :=
  let c0_245 : Index := 0#32
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  let v329 : BitVec 32 := v328
  let v399 : Index := Scalar.indexCast v329
  let c128_246 : Index := 128#32
  ![0, v399.toNat, 128]
def k0_off89 (i : grid0.Coords) : Fin 3 → Nat :=
  let c0_307 : Index := 0#32
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  let v329 : BitVec 32 := v328
  let v468 : Index := Scalar.indexCast v329
  let c256_308 : Index := 256#32
  ![0, v468.toNat, 256]
def k0_off90 (i : grid0.Coords) : Fin 3 → Nat :=
  let c0_369 : Index := 0#32
  let arg1 : BitVec 32 := BitVec.ofNat 32 (i 1).val
  let c1_i32_181 : BitVec 32 := 1#32
  let v327 : BitVec 32 := Scalar.subi arg1 c1_i32_181
  let c256_i32_182 : BitVec 32 := 256#32
  let v328 : BitVec 32 := Scalar.muli v327 c256_i32_182
  let v329 : BitVec 32 := v328
  let v537 : Index := Scalar.indexCast v329
  let c384_370 : Index := 384#32
  ![0, v537.toNat, 384]
def k0_mult38 (i : grid0.Coords) : BitVec 32 :=
  let arg1 : BitVec 32 := BitVec.ofNat 32 (i 1).val
  let c256_i32_431 : BitVec 32 := 256#32
  let v606 : BitVec 32 := Scalar.muli arg1 c256_i32_431
  v606
def k0_off91 (i : grid0.Coords) : Fin 3 → Nat :=
  let c0_432 : Index := 0#32
  let arg1 : BitVec 32 := BitVec.ofNat 32 (i 1).val
  let c256_i32_431 : BitVec 32 := 256#32
  let v606 : BitVec 32 := Scalar.muli arg1 c256_i32_431
  let v607 : BitVec 32 := v606
  let v608 : Index := Scalar.indexCast v607
  let c0_433 : Index := 0#32
  ![0, v608.toNat, 0]
def k0_off92 (i : grid0.Coords) : Fin 2 → Nat :=
  let arg1 : BitVec 32 := BitVec.ofNat 32 (i 1).val
  let c256_i32_431 : BitVec 32 := 256#32
  let v606 : BitVec 32 := Scalar.muli arg1 c256_i32_431
  let v607 : BitVec 32 := v606
  let v614 : Index := Scalar.indexCast v607
  let c0_438 : Index := 0#32
  ![v614.toNat, 0]
def k0_off93 (i : grid0.Coords) : Fin 3 → Nat :=
  let c0_494 : Index := 0#32
  let arg1 : BitVec 32 := BitVec.ofNat 32 (i 1).val
  let c256_i32_431 : BitVec 32 := 256#32
  let v606 : BitVec 32 := Scalar.muli arg1 c256_i32_431
  let v607 : BitVec 32 := v606
  let v677 : Index := Scalar.indexCast v607
  let c128_495 : Index := 128#32
  ![0, v677.toNat, 128]
def k0_off94 (i : grid0.Coords) : Fin 3 → Nat :=
  let c0_556 : Index := 0#32
  let arg1 : BitVec 32 := BitVec.ofNat 32 (i 1).val
  let c256_i32_431 : BitVec 32 := 256#32
  let v606 : BitVec 32 := Scalar.muli arg1 c256_i32_431
  let v607 : BitVec 32 := v606
  let v746 : Index := Scalar.indexCast v607
  let c256_557 : Index := 256#32
  ![0, v746.toNat, 256]
def k0_off95 (i : grid0.Coords) : Fin 3 → Nat :=
  let c0_618 : Index := 0#32
  let arg1 : BitVec 32 := BitVec.ofNat 32 (i 1).val
  let c256_i32_431 : BitVec 32 := 256#32
  let v606 : BitVec 32 := Scalar.muli arg1 c256_i32_431
  let v607 : BitVec 32 := v606
  let v815 : Index := Scalar.indexCast v607
  let c384_619 : Index := 384#32
  ![0, v815.toNat, 384]
def k0_mult39 (i : grid0.Coords) : BitVec 32 :=
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  v884
def k0_off96 (i : grid0.Coords) : Fin 3 → Nat :=
  let c0_700 : Index := 0#32
  let c0_701 : Index := 0#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v904 : Index := Scalar.indexCast v885
  ![0, 0, v904.toNat]
def k0_off97 (i : grid0.Coords) : Fin 3 → Nat :=
  let c0_726 : Index := 0#32
  let c64_727 : Index := 64#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v934 : Index := Scalar.indexCast v885
  ![0, 64, v934.toNat]
def k0_off98 (i : grid0.Coords) : Fin 3 → Nat :=
  let c0_752 : Index := 0#32
  let c128_753 : Index := 128#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v964 : Index := Scalar.indexCast v885
  ![0, 128, v964.toNat]
def k0_off99 (i : grid0.Coords) : Fin 3 → Nat :=
  let c0_778 : Index := 0#32
  let c192_779 : Index := 192#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v994 : Index := Scalar.indexCast v885
  ![0, 192, v994.toNat]
def k0_off100 (i : grid0.Coords) : Fin 3 → Nat :=
  let c0_804 : Index := 0#32
  let c256_805 : Index := 256#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v1024 : Index := Scalar.indexCast v885
  ![0, 256, v1024.toNat]
def k0_off101 (i : grid0.Coords) : Fin 3 → Nat :=
  let c0_830 : Index := 0#32
  let c320_831 : Index := 320#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v1054 : Index := Scalar.indexCast v885
  ![0, 320, v1054.toNat]
def k0_off102 (i : grid0.Coords) : Fin 3 → Nat :=
  let c0_856 : Index := 0#32
  let c384_857 : Index := 384#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v1084 : Index := Scalar.indexCast v885
  ![0, 384, v1084.toNat]
def k0_off103 (i : grid0.Coords) : Fin 3 → Nat :=
  let c0_882 : Index := 0#32
  let c448_883 : Index := 448#32
  let arg1 : BitVec 32 := BitVec.ofNat 32 (i 1).val
  let c1_i32_181 : BitVec 32 := 1#32
  let v327 : BitVec 32 := Scalar.subi arg1 c1_i32_181
  let c256_i32_680 : BitVec 32 := 256#32
  let v884 : BitVec 32 := Scalar.muli v327 c256_i32_680
  let v885 : BitVec 32 := v884
  let v1114 : Index := Scalar.indexCast v885
  ![0, 448, v1114.toNat]
def k0_mult40 (i : grid0.Coords) : BitVec 32 :=
  let arg1 : BitVec 32 := BitVec.ofNat 32 (i 1).val
  let c256_i32_889 : BitVec 32 := 256#32
  let v1126 : BitVec 32 := Scalar.muli arg1 c256_i32_889
  v1126
def k0_off104 (i : grid0.Coords) : Fin 3 → Nat :=
  let c0_909 : Index := 0#32
  let c0_910 : Index := 0#32
  let arg1 : BitVec 32 := BitVec.ofNat 32 (i 1).val
  let c256_i32_889 : BitVec 32 := 256#32
  let v1126 : BitVec 32 := Scalar.muli arg1 c256_i32_889
  let v1127 : BitVec 32 := v1126
  let v1146 : Index := Scalar.indexCast v1127
  ![0, 0, v1146.toNat]
def k0_off105 (i : grid0.Coords) : Fin 3 → Nat :=
  let c0_935 : Index := 0#32
  let c64_936 : Index := 64#32
  let arg1 : BitVec 32 := BitVec.ofNat 32 (i 1).val
  let c256_i32_889 : BitVec 32 := 256#32
  let v1126 : BitVec 32 := Scalar.muli arg1 c256_i32_889
  let v1127 : BitVec 32 := v1126
  let v1176 : Index := Scalar.indexCast v1127
  ![0, 64, v1176.toNat]
def k0_off106 (i : grid0.Coords) : Fin 3 → Nat :=
  let c0_961 : Index := 0#32
  let c128_962 : Index := 128#32
  let arg1 : BitVec 32 := BitVec.ofNat 32 (i 1).val
  let c256_i32_889 : BitVec 32 := 256#32
  let v1126 : BitVec 32 := Scalar.muli arg1 c256_i32_889
  let v1127 : BitVec 32 := v1126
  let v1206 : Index := Scalar.indexCast v1127
  ![0, 128, v1206.toNat]
def k0_off107 (i : grid0.Coords) : Fin 3 → Nat :=
  let c0_987 : Index := 0#32
  let c192_988 : Index := 192#32
  let arg1 : BitVec 32 := BitVec.ofNat 32 (i 1).val
  let c256_i32_889 : BitVec 32 := 256#32
  let v1126 : BitVec 32 := Scalar.muli arg1 c256_i32_889
  let v1127 : BitVec 32 := v1126
  let v1236 : Index := Scalar.indexCast v1127
  ![0, 192, v1236.toNat]
def k0_off108 (i : grid0.Coords) : Fin 3 → Nat :=
  let c0_1013 : Index := 0#32
  let c256_1014 : Index := 256#32
  let arg1 : BitVec 32 := BitVec.ofNat 32 (i 1).val
  let c256_i32_889 : BitVec 32 := 256#32
  let v1126 : BitVec 32 := Scalar.muli arg1 c256_i32_889
  let v1127 : BitVec 32 := v1126
  let v1266 : Index := Scalar.indexCast v1127
  ![0, 256, v1266.toNat]
def k0_off109 (i : grid0.Coords) : Fin 3 → Nat :=
  let c0_1039 : Index := 0#32
  let c320_1040 : Index := 320#32
  let arg1 : BitVec 32 := BitVec.ofNat 32 (i 1).val
  let c256_i32_889 : BitVec 32 := 256#32
  let v1126 : BitVec 32 := Scalar.muli arg1 c256_i32_889
  let v1127 : BitVec 32 := v1126
  let v1296 : Index := Scalar.indexCast v1127
  ![0, 320, v1296.toNat]
def k0_off110 (i : grid0.Coords) : Fin 3 → Nat :=
  let c0_1065 : Index := 0#32
  let c384_1066 : Index := 384#32
  let arg1 : BitVec 32 := BitVec.ofNat 32 (i 1).val
  let c256_i32_889 : BitVec 32 := 256#32
  let v1126 : BitVec 32 := Scalar.muli arg1 c256_i32_889
  let v1127 : BitVec 32 := v1126
  let v1326 : Index := Scalar.indexCast v1127
  ![0, 384, v1326.toNat]
def k0_off111 (i : grid0.Coords) : Fin 3 → Nat :=
  let c0_1091 : Index := 0#32
  let c448_1092 : Index := 448#32
  let arg1 : BitVec 32 := BitVec.ofNat 32 (i 1).val
  let c256_i32_889 : BitVec 32 := 256#32
  let v1126 : BitVec 32 := Scalar.muli arg1 c256_i32_889
  let v1127 : BitVec 32 := v1126
  let v1356 : Index := Scalar.indexCast v1127
  ![0, 448, v1356.toNat]
def k0_cond4 (i : grid0.Coords) : BitVec 1 :=
  let arg1 : BitVec 32 := BitVec.ofNat 32 (i 1).val
  let c0_i32_122 : BitVec 32 := 0#32
  let v254 : BitVec 1 := Scalar.cmpi .eq arg1 c0_i32_122
  let v255 : BitVec 32 := Scalar.extui v254
  let c0_i32_123 : BitVec 32 := 0#32
  let v256 : BitVec 1 := Scalar.cmpi .ne v255 c0_i32_123
  v256

def k0_mult41 (i : grid0.Coords) : BitVec 32 :=
  let arg1 : BitVec 32 := BitVec.ofNat 32 (i 1).val
  let c256_i32_181 : BitVec 32 := 256#32
  let v327 : BitVec 32 := Scalar.muli arg1 c256_i32_181
  v327
def k0_off112 (i : grid0.Coords) : Fin 3 → Nat :=
  let c0_182 : Index := 0#32
  let arg1 : BitVec 32 := BitVec.ofNat 32 (i 1).val
  let c256_i32_181 : BitVec 32 := 256#32
  let v327 : BitVec 32 := Scalar.muli arg1 c256_i32_181
  let v328 : BitVec 32 := v327
  let v329 : Index := Scalar.indexCast v328
  let c0_183 : Index := 0#32
  ![0, v329.toNat, 0]
def k0_off113 (i : grid0.Coords) : Fin 2 → Nat :=
  let arg1 : BitVec 32 := BitVec.ofNat 32 (i 1).val
  let c256_i32_181 : BitVec 32 := 256#32
  let v327 : BitVec 32 := Scalar.muli arg1 c256_i32_181
  let v328 : BitVec 32 := v327
  let v335 : Index := Scalar.indexCast v328
  let c0_188 : Index := 0#32
  ![v335.toNat, 0]
def k0_off114 (i : grid0.Coords) : Fin 3 → Nat :=
  let c0_244 : Index := 0#32
  let arg1 : BitVec 32 := BitVec.ofNat 32 (i 1).val
  let c256_i32_181 : BitVec 32 := 256#32
  let v327 : BitVec 32 := Scalar.muli arg1 c256_i32_181
  let v328 : BitVec 32 := v327
  let v398 : Index := Scalar.indexCast v328
  let c128_245 : Index := 128#32
  ![0, v398.toNat, 128]
def k0_off115 (i : grid0.Coords) : Fin 3 → Nat :=
  let c0_306 : Index := 0#32
  let arg1 : BitVec 32 := BitVec.ofNat 32 (i 1).val
  let c256_i32_181 : BitVec 32 := 256#32
  let v327 : BitVec 32 := Scalar.muli arg1 c256_i32_181
  let v328 : BitVec 32 := v327
  let v467 : Index := Scalar.indexCast v328
  let c256_307 : Index := 256#32
  ![0, v467.toNat, 256]
def k0_off116 (i : grid0.Coords) : Fin 3 → Nat :=
  let c0_368 : Index := 0#32
  let arg1 : BitVec 32 := BitVec.ofNat 32 (i 1).val
  let c256_i32_181 : BitVec 32 := 256#32
  let v327 : BitVec 32 := Scalar.muli arg1 c256_i32_181
  let v328 : BitVec 32 := v327
  let v536 : Index := Scalar.indexCast v328
  let c384_369 : Index := 384#32
  ![0, v536.toNat, 384]
def k0_mult42 (i : grid0.Coords) : BitVec 32 :=
  let arg1 : BitVec 32 := BitVec.ofNat 32 (i 1).val
  let c256_i32_430 : BitVec 32 := 256#32
  let v605 : BitVec 32 := Scalar.muli arg1 c256_i32_430
  v605
def k0_off117 (i : grid0.Coords) : Fin 3 → Nat :=
  let c0_450 : Index := 0#32
  let c0_451 : Index := 0#32
  let arg1 : BitVec 32 := BitVec.ofNat 32 (i 1).val
  let c256_i32_430 : BitVec 32 := 256#32
  let v605 : BitVec 32 := Scalar.muli arg1 c256_i32_430
  let v606 : BitVec 32 := v605
  let v625 : Index := Scalar.indexCast v606
  ![0, 0, v625.toNat]
def k0_off118 (i : grid0.Coords) : Fin 3 → Nat :=
  let c0_476 : Index := 0#32
  let c64_477 : Index := 64#32
  let arg1 : BitVec 32 := BitVec.ofNat 32 (i 1).val
  let c256_i32_430 : BitVec 32 := 256#32
  let v605 : BitVec 32 := Scalar.muli arg1 c256_i32_430
  let v606 : BitVec 32 := v605
  let v655 : Index := Scalar.indexCast v606
  ![0, 64, v655.toNat]
def k0_off119 (i : grid0.Coords) : Fin 3 → Nat :=
  let c0_502 : Index := 0#32
  let c128_503 : Index := 128#32
  let arg1 : BitVec 32 := BitVec.ofNat 32 (i 1).val
  let c256_i32_430 : BitVec 32 := 256#32
  let v605 : BitVec 32 := Scalar.muli arg1 c256_i32_430
  let v606 : BitVec 32 := v605
  let v685 : Index := Scalar.indexCast v606
  ![0, 128, v685.toNat]
def k0_off120 (i : grid0.Coords) : Fin 3 → Nat :=
  let c0_528 : Index := 0#32
  let c192_529 : Index := 192#32
  let arg1 : BitVec 32 := BitVec.ofNat 32 (i 1).val
  let c256_i32_430 : BitVec 32 := 256#32
  let v605 : BitVec 32 := Scalar.muli arg1 c256_i32_430
  let v606 : BitVec 32 := v605
  let v715 : Index := Scalar.indexCast v606
  ![0, 192, v715.toNat]
def k0_off121 (i : grid0.Coords) : Fin 3 → Nat :=
  let c0_554 : Index := 0#32
  let c256_555 : Index := 256#32
  let arg1 : BitVec 32 := BitVec.ofNat 32 (i 1).val
  let c256_i32_430 : BitVec 32 := 256#32
  let v605 : BitVec 32 := Scalar.muli arg1 c256_i32_430
  let v606 : BitVec 32 := v605
  let v745 : Index := Scalar.indexCast v606
  ![0, 256, v745.toNat]
def k0_off122 (i : grid0.Coords) : Fin 3 → Nat :=
  let c0_580 : Index := 0#32
  let c320_581 : Index := 320#32
  let arg1 : BitVec 32 := BitVec.ofNat 32 (i 1).val
  let c256_i32_430 : BitVec 32 := 256#32
  let v605 : BitVec 32 := Scalar.muli arg1 c256_i32_430
  let v606 : BitVec 32 := v605
  let v775 : Index := Scalar.indexCast v606
  ![0, 320, v775.toNat]
def k0_off123 (i : grid0.Coords) : Fin 3 → Nat :=
  let c0_606 : Index := 0#32
  let c384_607 : Index := 384#32
  let arg1 : BitVec 32 := BitVec.ofNat 32 (i 1).val
  let c256_i32_430 : BitVec 32 := 256#32
  let v605 : BitVec 32 := Scalar.muli arg1 c256_i32_430
  let v606 : BitVec 32 := v605
  let v805 : Index := Scalar.indexCast v606
  ![0, 384, v805.toNat]
def k0_off124 (i : grid0.Coords) : Fin 3 → Nat :=
  let c0_632 : Index := 0#32
  let c448_633 : Index := 448#32
  let arg1 : BitVec 32 := BitVec.ofNat 32 (i 1).val
  let c256_i32_430 : BitVec 32 := 256#32
  let v605 : BitVec 32 := Scalar.muli arg1 c256_i32_430
  let v606 : BitVec 32 := v605
  let v835 : Index := Scalar.indexCast v606
  ![0, 448, v835.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x8192x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x2x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S65536x1024 : Shape := ⟨2, ![65536, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S1024x2816, .f32⟩
  | .hbm, ⟨7, _⟩ => ⟨S1024x2816, .bf16⟩
  | .hbm, ⟨8, _⟩ => ⟨S1024x5632, .f32⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2Ideal.lean ====
abbrev S65536x1024 : Shape := ⟨2, ![65536, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S1024x2816 : Shape := ⟨2, ![1024, 2816]⟩
abbrev S2816x1024 : Shape := ⟨2, ![2816, 1024]⟩
abbrev S1024 : Shape := ⟨1, ![1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S1024x2816, .f32⟩
  | .hbm, ⟨7, _⟩ => ⟨S1024x2816, .bf16⟩
  | .hbm, ⟨8, _⟩ => ⟨S1024x5632, .f32⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S65536x1024 : Shape := ⟨2, ![65536, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S65536x5632 : Shape := ⟨2, ![65536, 5632]⟩
abbrev S65536x2816 : Shape := ⟨2, ![65536, 2816]⟩
abbrev S_ : Shape := ⟨0, ![]⟩
abbrev S2816x1024 : Shape := ⟨2, ![2816, 1024]⟩
abbrev S1024 : Shape := ⟨1, ![1024]⟩
abbrev S65536 : Shape := ⟨1, ![65536]⟩
abbrev S65536x1 : Shape := ⟨2, ![65536, 1]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S65536x5632, .f32⟩
  | .hbm, ⟨7, _⟩ => ⟨S65536x2816, .f32⟩
  | .hbm, ⟨8, _⟩ => ⟨S65536x2816, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x2816, .f32⟩
  | .hbm, ⟨13, _⟩ => ⟨S65536x2816, .f32⟩
  | .hbm, ⟨14, _⟩ => ⟨S_, .f32⟩
  | .hbm, ⟨15, _⟩ => ⟨S65536x2816, .f32⟩
  | .hbm, ⟨16, _⟩ => ⟨S65536x2816, .f32⟩
  | .hbm, ⟨17, _⟩ => ⟨S_, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x2816, .f32⟩
  | .hbm, ⟨22, _⟩ => ⟨S2816x1024, .f32⟩
  | .hbm, ⟨23, _⟩ => ⟨S65536x1024, .f32⟩
  | .hbm, ⟨24, _⟩ => ⟨S65536x1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel3.lean ====
abbrev S8x8192x1024 : Shape := ⟨3, ![8, 8192, 1024]⟩
abbrev S1x1024x4392 : Shape := ⟨3, ![1, 1024, 4392]⟩
abbrev S1024x4392 : Shape := ⟨2, ![1024, 4392]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S512x1024 : Shape := ⟨2, ![512, 1024]⟩
abbrev S256x1024 : Shape := ⟨2, ![256, 1024]⟩
abbrev S8x1024 : Shape := ⟨2, ![8, 1024]⟩
abbrev S16x1024 : Shape := ⟨2, ![16, 1024]⟩
abbrev S8x8192x512 : Shape := ⟨3, ![8, 8192, 512]⟩
abbrev S8x8192x32 : Shape := ⟨3, ![8, 8192, 32]⟩
abbrev S8x512x8192 : Shape := ⟨3, ![8, 512, 8192]⟩
abbrev S8x256x8192 : Shape := ⟨3, ![8, 256, 8192]⟩
abbrev S8x8x8192 : Shape := ⟨3, ![8, 8, 8192]⟩
abbrev S1x512x1024 : Shape := ⟨3, ![1, 512, 1024]⟩
abbrev S1x512x512 : Shape := ⟨3, ![1, 512, 512]⟩
abbrev S1x512x32 : Shape := ⟨3, ![1, 512, 32]⟩
abbrev S1x256x512 : Shape := ⟨3, ![1, 256, 512]⟩
abbrev S1x8x512 : Shape := ⟨3, ![1, 8, 512]⟩
abbrev S512x512 : Shape := ⟨2, ![512, 512]⟩
abbrev S512x32 : Shape := ⟨2, ![512, 32]⟩
abbrev S256x512 : Shape := ⟨2, ![256, 512]⟩
abbrev S16x512 : Shape := ⟨2, ![16, 512]⟩
abbrev S8x512 : Shape := ⟨2, ![8, 512]⟩

abbrev nBuf : Space → Nat
  | .hbm => 47
  | .vmem => 36
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4392, .f32⟩
  | .hbm, ⟨2, _⟩ => ⟨S1024x4392, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x32, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x32, .bf16⟩
  | .hbm, ⟨16, _⟩ => ⟨S1024x1024, .bf16⟩
  | .hbm, ⟨17, _⟩ => ⟨S1024x1024, .bf16⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S256x1024, .f32⟩
  | .hbm, ⟨26, _⟩ => ⟨S256x1024, .bf16⟩
  | .hbm, ⟨27, _⟩ => ⟨S_, .f32⟩
  | .hbm, ⟨28, _⟩ => ⟨S1024x8, .f32⟩
  | .hbm, ⟨29, _⟩ => ⟨S1024x8, .f32⟩
  | .hbm, ⟨30, _⟩ => ⟨S8x1024, .f32⟩
  | .hbm, ⟨31, _⟩ => ⟨S_, .i32⟩
  | .hbm, ⟨32, _⟩ => ⟨S_, .f32⟩
  | .hbm, ⟨33, _⟩ => ⟨S16x1024, .f32⟩
  | .hbm, ⟨34, _⟩ => ⟨S16x1024, .bf16⟩
  | .hbm, ⟨35, _⟩ => ⟨S8x8192x512, .f32⟩
  | .hbm, ⟨36, _⟩ => ⟨S8x8192x512, .f32⟩
  | .hbm, ⟨37, _⟩ => ⟨S8x8192x512, .f32⟩
  | .hbm, ⟨38, _⟩ => ⟨S8x8192x32, .f32⟩
  | .hbm, ⟨39, _⟩ => ⟨S8x8192x512, .bf16⟩
  | .hbm, ⟨40, _⟩ => ⟨S8x8192x32, .bf16⟩
  | .hbm, ⟨41, _⟩ => ⟨S8x8192x1024, .bf16⟩
  | .hbm, ⟨42, _⟩ => ⟨S8x8192x1024, .bf16⟩
  | .hbm, ⟨43, _⟩ => ⟨S8x512x8192, .bf16⟩
  | .hbm, ⟨44, _⟩ => ⟨S8x512x8192, .bf16⟩
  | .hbm, ⟨45, _⟩ => ⟨S8x256x8192, .bf16⟩
  | .hbm, ⟨46, _⟩ => ⟨S8x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x32, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .bf16⟩
  | .local _ .vmem, ⟨11, _⟩ => ⟨S16x1024, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x32, .f32⟩
  | .local _ .vmem, ⟨19, _⟩ => ⟨S1x512x32, .f32⟩
  | .local _ .vmem, ⟨20, _⟩ => ⟨S1x512x512, .bf16⟩
  | .local _ .vmem, ⟨21, _⟩ => ⟨S1x512x512, .bf16⟩
  | .local _ .vmem, ⟨22, _⟩ => ⟨S1x512x32, .bf16⟩
  | .local _ .vmem, ⟨23, _⟩ => ⟨S1x512x32, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x8x512, .f32⟩
  | .local _ .vmem, ⟨35, _⟩ => ⟨S1x8x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_c : Ref sig .tc := ⟨.hbm, 31, rfl⟩
abbrev main_call0_v0 : Ref sig .tc := ⟨.hbm, 32, rfl⟩
abbrev main_v27 : Ref sig .tc := ⟨.hbm, 33, rfl⟩
abbrev main_v28 : Ref sig .tc := ⟨.hbm, 34, rfl⟩
abbrev main_v29_0 : Ref sig .tc := ⟨.hbm, 35, rfl⟩
abbrev main_v29_1 : Ref sig .tc := ⟨.hbm, 36, rfl⟩
abbrev main_v29_2 : Ref sig .tc := ⟨.hbm, 37, rfl⟩
abbrev main_v29_3 : Ref sig .tc := ⟨.hbm, 38, rfl⟩
abbrev main_v29_4 : Ref sig .tc := ⟨.hbm, 39, rfl⟩
abbrev main_v29_5 : Ref sig .tc := ⟨.hbm, 40, rfl⟩
abbrev main_v29_6 : Ref sig .tc := ⟨.hbm, 41, rfl⟩
abbrev main_v29_7 : Ref sig .tc := ⟨.hbm, 42, rfl⟩
abbrev main_v29_8 : Ref sig .tc := ⟨.hbm, 43, rfl⟩
abbrev main_v29_9 : Ref sig .tc := ⟨.hbm, 44, rfl⟩
abbrev main_v29_10 : Ref sig .tc := ⟨.hbm, 45, rfl⟩
abbrev main_v29_11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x32 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference3Ideal.lean ====
abbrev S8x8192x1024 : Shape := ⟨3, ![8, 8192, 1024]⟩
abbrev S1x1024x4392 : Shape := ⟨3, ![1, 1024, 4392]⟩
abbrev S1024x4392 : Shape := ⟨2, ![1024, 4392]⟩
abbrev S8x8192x4392 : Shape := ⟨3, ![8, 8192, 4392]⟩
abbrev S8x8192x512 : Shape := ⟨3, ![8, 8192, 512]⟩
abbrev S8x8192x256 : Shape := ⟨3, ![8, 8192, 256]⟩
abbrev S8x8192x32 : Shape := ⟨3, ![8, 8192, 32]⟩
abbrev S8x8192x8 : Shape := ⟨3, ![8, 8192, 8]⟩
abbrev S_ : Shape := ⟨0, ![]⟩
abbrev S8x512x8192 : Shape := ⟨3, ![8, 512, 8192]⟩
abbrev S8x256x8192 : Shape := ⟨3, ![8, 256, 8192]⟩
abbrev S8x8x8192 : Shape := ⟨3, ![8, 8, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024x4392, .f32⟩
  | .hbm, ⟨2, _⟩ => ⟨S1024x4392, .f32⟩
  | .hbm, ⟨3, _⟩ => ⟨S8x8192x4392, .f32⟩
  | .hbm, ⟨4, _⟩ => ⟨S8x8192x512, .f32⟩
  | .hbm, ⟨5, _⟩ => ⟨S8x8192x512, .f32⟩
  | .hbm, ⟨6, _⟩ => ⟨S8x8192x512, .f32⟩
  | .hbm, ⟨7, _⟩ => ⟨S8x8192x512, .f32⟩
  | .hbm, ⟨8, _⟩ => ⟨S8x8192x256, .f32⟩
  | .hbm, ⟨9, _⟩ => ⟨S8x8192x32, .f32⟩
  | .hbm, ⟨10, _⟩ => ⟨S8x8192x8, .f32⟩
  | .hbm, ⟨11, _⟩ => ⟨S8x8192x1024, .f32⟩
  | .hbm, ⟨12, _⟩ => ⟨S8x8192x1024, .f32⟩
  | .hbm, ⟨13, _⟩ => ⟨S8x8192x512, .bf16⟩
  | .hbm, ⟨14, _⟩ => ⟨S8x8192x32, .bf16⟩
  | .hbm, ⟨15, _⟩ => ⟨S8x8192x1024, .f32⟩
  | .hbm, ⟨16, _⟩ => ⟨S8x8192x1024, .f32⟩
  | .hbm, ⟨17, _⟩ => ⟨S_, .f32⟩
  | .hbm, ⟨18, _⟩ => ⟨S8x8192x1024, .f32⟩
  | .hbm, ⟨19, _⟩ => ⟨S8x8192x1024, .f32⟩
  | .hbm, ⟨20, _⟩ => ⟨S_, .f32⟩
  | .hbm, ⟨21, _⟩ => ⟨S8x8192x1024, .f32⟩
  | .hbm, ⟨22, _⟩ => ⟨S8x8192x1024, .f32⟩
  | .hbm, ⟨23, _⟩ => ⟨S8x8192x1024, .bf16⟩
  | .hbm, ⟨24, _⟩ => ⟨S8x8192x1024, .f32⟩
  | .hbm, ⟨25, _⟩ => ⟨S8x8192x1024, .f32⟩
  | .hbm, ⟨26, _⟩ => ⟨S_, .f32⟩
  | .hbm, ⟨27, _⟩ => ⟨S8x8192x1024, .f32⟩
  | .hbm, ⟨28, _⟩ => ⟨S8x8192x1024, .f32⟩
  | .hbm, ⟨29, _⟩ => ⟨S_, .f32⟩
  | .hbm, ⟨30, _⟩ => ⟨S8x8192x1024, .f32⟩
  | .hbm, ⟨31, _⟩ => ⟨S8x8192x1024, .f32⟩
  | .hbm, ⟨32, _⟩ => ⟨S8x8192x1024, .bf16⟩
  | .hbm, ⟨33, _⟩ => ⟨S_, .f32⟩
  | .hbm, ⟨34, _⟩ => ⟨S8x8192x512, .f32⟩
  | .hbm, ⟨35, _⟩ => ⟨S8x8192x512, .f32⟩
  | .hbm, ⟨36, _⟩ => ⟨S8x512x8192, .f32⟩
  | .hbm, ⟨37, _⟩ => ⟨S8x512x8192, .bf16⟩
  | .hbm, ⟨38, _⟩ => ⟨S8x512x8192, .f32⟩
  | .hbm, ⟨39, _⟩ => ⟨S8x512x8192, .bf16⟩
  | .hbm, ⟨40, _⟩ => ⟨S8x256x8192, .f32⟩
  | .hbm, ⟨41, _⟩ => ⟨S8x256x8192, .bf16⟩
  | .hbm, ⟨42, _⟩ => ⟨S_, .f32⟩
  | .hbm, ⟨43, _⟩ => ⟨S8x8192x8, .f32⟩
  | .hbm, ⟨44, _⟩ => ⟨S8x8192x8, .f32⟩
  | .hbm, ⟨45, _⟩ => ⟨S8x8x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel4.lean ====
abbrev S65536x1024 : Shape := ⟨2, ![65536, 1024]⟩
abbrev S65536x512 : Shape := ⟨2, ![65536, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
abbrev S65536x1024 : Shape := ⟨2, ![65536, 1024]⟩
abbrev S65536x512 : Shape := ⟨2, ![65536, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S65536x1024 : Shape := ⟨2, ![65536, 1024]⟩
abbrev S65536x512 : Shape := ⟨2, ![65536, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S65536 : Shape := ⟨1, ![65536]⟩
abbrev S65536x1 : Shape := ⟨2, ![65536, 1]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S512x1024, .f32⟩
  | .hbm, ⟨15, _⟩ => ⟨S65536x1024, .f32⟩
  | .hbm, ⟨16, _⟩ => ⟨S65536x1024, .f32⟩
  | .hbm, ⟨17, _⟩ => ⟨S512x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1024, .f32⟩
  | .hbm, ⟨23, _⟩ => ⟨S65536x1024, .f32⟩
  | .hbm, ⟨24, _⟩ => ⟨S1024x1024, .f32⟩
  | .hbm, ⟨25, _⟩ => ⟨S65536x1024, .f32⟩
  | .hbm, ⟨26, _⟩ => ⟨S65536x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S1x1024, .f32⟩
  | .hbm, ⟨56, _⟩ => ⟨S65536x1024, .f32⟩
  | .hbm, ⟨57, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel5.lean ====
abbrev S128x1x1024 : Shape := ⟨3, ![128, 1, 1024]⟩
abbrev S1x1024x4392 : Shape := ⟨3, ![1, 1024, 4392]⟩
abbrev S1024x4392 : Shape := ⟨2, ![1024, 4392]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S1024x1024 : Shape := ⟨2, ![1024, 1024]⟩
abbrev S_ : Shape := ⟨0, ![]⟩
abbrev S128x1024 : Shape := ⟨2, ![128, 1024]⟩
abbrev S128x512 : Shape := ⟨2, ![128, 512]⟩
abbrev S128x256 : Shape := ⟨2, ![128, 256]⟩
abbrev S128x32 : Shape := ⟨2, ![128, 32]⟩
abbrev S128x8 : Shape := ⟨2, ![128, 8]⟩

abbrev nBuf : Space → Nat
  | .hbm => 37
  | .vmem => 19
  | .smem => 0
  | _ => 0

abbrev bufTy : (tb : Table) → Fin (tcTables nBuf tb) → BufTy
  | .hbm, ⟨0, _⟩ => ⟨S128x1x1024, .f32⟩
  | .hbm, ⟨1, _⟩ => ⟨S1x1024x4392, .f32⟩
  | .hbm, ⟨2, _⟩ => ⟨S1024x4392, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x32, .f32⟩
  | .hbm, ⟨9, _⟩ => ⟨S1024x8, .f32⟩
  | .hbm, ⟨10, _⟩ => ⟨S1024x1024, .f32⟩
  | .hbm, ⟨11, _⟩ => ⟨S1024x1024, .f32⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x256, .bf16⟩
  | .hbm, ⟨16, _⟩ => ⟨S1024x32, .bf16⟩
  | .hbm, ⟨17, _⟩ => ⟨S1024x1024, .bf16⟩
  | .hbm, ⟨18, _⟩ => ⟨S1024x1024, .bf16⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .bf16⟩
  | .hbm, ⟨23, _⟩ => ⟨S_, .f32⟩
  | .hbm, ⟨24, _⟩ => ⟨S1024x8, .f32⟩
  | .hbm, ⟨25, _⟩ => ⟨S1024x8, .f32⟩
  | .hbm, ⟨26, _⟩ => ⟨S1024x8, .bf16⟩
  | .hbm, ⟨27, _⟩ => ⟨S128x1024, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x256, .f32⟩
  | .hbm, ⟨33, _⟩ => ⟨S128x32, .f32⟩
  | .hbm, ⟨34, _⟩ => ⟨S128x8, .f32⟩
  | .hbm, ⟨35, _⟩ => ⟨S128x1024, .bf16⟩
  | .hbm, ⟨36, _⟩ => ⟨S128x1024, .bf16⟩
  | .local _ .vmem, ⟨0, _⟩ => ⟨S128x1024, .f32⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x256, .bf16⟩
  | .local _ .vmem, ⟨6, _⟩ => ⟨S1024x32, .bf16⟩
  | .local _ .vmem, ⟨7, _⟩ => ⟨S1024x8, .bf16⟩
  | .local _ .vmem, ⟨8, _⟩ => ⟨S1024x1024, .bf16⟩
  | .local _ .vmem, ⟨9, _⟩ => ⟨S1024x1024, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x256, .f32⟩
  | .local _ .vmem, ⟨15, _⟩ => ⟨S128x32, .f32⟩
  | .local _ .vmem, ⟨16, _⟩ => ⟨S128x8, .f32⟩
  | .local _ .vmem, ⟨17, _⟩ => ⟨S128x1024, .bf16⟩
  | .local _ .vmem, ⟨18, _⟩ => ⟨S128x1024, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24_0 : Ref sig .tc := ⟨.hbm, 28, rfl⟩
abbrev main_v24_1 : Ref sig .tc := ⟨.hbm, 29, rfl⟩
abbrev main_v24_2 : Ref sig .tc := ⟨.hbm, 30, rfl⟩
abbrev main_v24_3 : Ref sig .tc := ⟨.hbm, 31, rfl⟩
abbrev main_v24_4 : Ref sig .tc := ⟨.hbm, 32, rfl⟩
abbrev main_v24_5 : Ref sig .tc := ⟨.hbm, 33, rfl⟩
abbrev main_v24_6 : Ref sig .tc := ⟨.hbm, 34, rfl⟩
abbrev main_v24_7 : Ref sig .tc := ⟨.hbm, 35, rfl⟩
abbrev main_v24_8 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x8 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference5Ideal.lean ====
abbrev S128x1x1024 : Shape := ⟨3, ![128, 1, 1024]⟩
abbrev S1x1024x4392 : Shape := ⟨3, ![1, 1024, 4392]⟩
abbrev S128x1024 : Shape := ⟨2, ![128, 1024]⟩
abbrev S1024x4392 : Shape := ⟨2, ![1024, 4392]⟩
abbrev S128x4392 : Shape := ⟨2, ![128, 4392]⟩
abbrev S128x512 : Shape := ⟨2, ![128, 512]⟩
abbrev S128x256 : Shape := ⟨2, ![128, 256]⟩
abbrev S128x32 : Shape := ⟨2, ![128, 32]⟩
abbrev S128x8 : Shape := ⟨2, ![128, 8]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024x4392, .f32⟩
  | .hbm, ⟨2, _⟩ => ⟨S128x1024, .f32⟩
  | .hbm, ⟨3, _⟩ => ⟨S1024x4392, .f32⟩
  | .hbm, ⟨4, _⟩ => ⟨S128x4392, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x256, .f32⟩
  | .hbm, ⟨10, _⟩ => ⟨S128x32, .f32⟩
  | .hbm, ⟨11, _⟩ => ⟨S128x8, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x8, .f32⟩
  | .hbm, ⟨19, _⟩ => ⟨S128x8, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .bf16⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .bf16⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel6.lean ====
abbrev S128x1024 : Shape := ⟨2, ![128, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S1024x2816 : Shape := ⟨2, ![1024, 2816]⟩
abbrev S2816x1024 : Shape := ⟨2, ![2816, 1024]⟩
abbrev S1024 : Shape := ⟨1, ![1024]⟩
abbrev S1024x256 : Shape := ⟨2, ![1024, 256]⟩
abbrev S128x256 : Shape := ⟨2, ![128, 256]⟩
abbrev S256x1024 : Shape := ⟨2, ![256, 1024]⟩
abbrev S128 : Shape := ⟨1, ![128]⟩
abbrev S128x1 : Shape := ⟨2, ![128, 1]⟩

abbrev nBuf : Space → Nat
  | .hbm => 18
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S1024x2816, .f32⟩
  | .hbm, ⟨7, _⟩ => ⟨S1024x2816, .bf16⟩
  | .hbm, ⟨8, _⟩ => ⟨S1024x5632, .f32⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S128x1024, .f32⟩
  | .local _ .vmem, ⟨0, _⟩ => ⟨S128x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference6Ideal.lean ====
abbrev S128x1024 : Shape := ⟨2, ![128, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S1024x5632 : Shape := ⟨2, ![1024, 5632]⟩
abbrev S128x5632 : Shape := ⟨2, ![128, 5632]⟩
abbrev S128x2816 : Shape := ⟨2, ![128, 2816]⟩
abbrev S_ : Shape := ⟨0, ![]⟩
abbrev S2816x1024 : Shape := ⟨2, ![2816, 1024]⟩
abbrev S1024 : Shape := ⟨1, ![1024]⟩
abbrev S128 : Shape := ⟨1, ![128]⟩
abbrev S128x1 : Shape := ⟨2, ![128, 1]⟩

abbrev nBuf : Space → Nat
  | .hbm => 56
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S128x5632, .f32⟩
  | .hbm, ⟨7, _⟩ => ⟨S128x2816, .f32⟩
  | .hbm, ⟨8, _⟩ => ⟨S128x2816, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x2816, .f32⟩
  | .hbm, ⟨13, _⟩ => ⟨S128x2816, .f32⟩
  | .hbm, ⟨14, _⟩ => ⟨S_, .f32⟩
  | .hbm, ⟨15, _⟩ => ⟨S128x2816, .f32⟩
  | .hbm, ⟨16, _⟩ => ⟨S128x2816, .f32⟩
  | .hbm, ⟨17, _⟩ => ⟨S_, .f32⟩
  | .hbm, ⟨18, _⟩ => ⟨S128x2816, .f32⟩
  | .hbm, ⟨19, _⟩ => ⟨S128x2816, .f32⟩
  | .hbm, ⟨20, _⟩ => ⟨S128x2816, .f32⟩
  | .hbm, ⟨21, _⟩ => ⟨S128x2816, .f32⟩
  | .hbm, ⟨22, _⟩ => ⟨S2816x1024, .f32⟩
  | .hbm, ⟨23, _⟩ => ⟨S128x1024, .f32⟩
  | .hbm, ⟨24, _⟩ => ⟨S128x1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S128x1024, .f32⟩
  | .hbm, ⟨49, _⟩ => ⟨S128x1024, .f32⟩
  | .hbm, ⟨50, _⟩ => ⟨S1x1024, .f32⟩
  | .hbm, ⟨51, _⟩ => ⟨S128x1024, .f32⟩
  | .hbm, ⟨52, _⟩ => ⟨S128x1024, .f32⟩
  | .hbm, ⟨53, _⟩ => ⟨S1x1024, .f32⟩
  | .hbm, ⟨54, _⟩ => ⟨S128x1024, .f32⟩
  | .hbm, ⟨55, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Kernel7.lean ====
abbrev S128x512 : Shape := ⟨2, ![128, 512]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1 : Shape := ⟨2, ![32, 1]⟩
abbrev S_ : Shape := ⟨0, ![]⟩
abbrev S32x64x1 : Shape := ⟨3, ![32, 64, 1]⟩
abbrev S32x32 : Shape := ⟨2, ![32, 32]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S4096x512 : Shape := ⟨2, ![4096, 512]⟩
abbrev S128x1024 : Shape := ⟨2, ![128, 1024]⟩
abbrev S1x128x1024 : Shape := ⟨3, ![1, 128, 1024]⟩
abbrev S4x128x1024 : Shape := ⟨3, ![4, 128, 1024]⟩
abbrev S512x128 : Shape := ⟨2, ![512, 128]⟩
abbrev S1024x128 : Shape := ⟨2, ![1024, 128]⟩
abbrev S1x1024x128 : Shape := ⟨3, ![1, 1024, 128]⟩
abbrev S4x1024x128 : Shape := ⟨3, ![4, 1024, 128]⟩
abbrev S1x2048 : Shape := ⟨2, ![1, 2048]⟩
abbrev S1x512 : Shape := ⟨2, ![1, 512]⟩
abbrev S128x32x64 : Shape := ⟨3, ![128, 32, 64]⟩
abbrev S128x2048 : Shape := ⟨2, ![128, 2048]⟩
abbrev S512x512 : Shape := ⟨2, ![512, 512]⟩
abbrev S128x4096 : Shape := ⟨2, ![128, 4096]⟩

abbrev nBuf : Space → Nat
  | .hbm => 152
  | .vmem => 12
  | .smem => 0
  | _ => 0

abbrev hbmTy0_0 (i : Nat) : BufTy := match i % 128 with
  | 0 => ⟨S128x512, .f32⟩
  | 1 => ⟨S1x128x32x64, .f32⟩
  | 2 => ⟨S1x128x32x64, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512x512, .f32⟩
  | 12 => ⟨S32x64, .f32⟩
  | 13 => ⟨S32x64, .f32⟩
  | 14 => ⟨S32, .f32⟩
  | 15 => ⟨S32x64x16, .f32⟩
  | 16 => ⟨S32x64x16, .f32⟩
  | 17 => ⟨S32x16x64, .f32⟩
  | 18 => ⟨S32x16x64, .f32⟩
  | 19 => ⟨S32x16, .f32⟩
  | 20 => ⟨S32, .f32⟩
  | 21 => ⟨S32x1, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x16, .f32⟩
  | 64 => ⟨S32x32, .i32⟩
  | 65 => ⟨S32x32, .i32⟩
  | 66 => ⟨S_, .i32⟩
  | 67 => ⟨S32x32, .i32⟩
  | 68 => ⟨S32x32, .i32⟩
  | 69 => ⟨S32x32, .i1⟩
  | 70 => ⟨S32x32, .f32⟩
  | 71 => ⟨S32x16x64, .f32⟩
  | 72 => ⟨S32x16x1x64, .f32⟩
  | 73 => ⟨S32x1x32x1, .f32⟩
  | 74 => ⟨S32x16x32x64, .f32⟩
  | 75 => ⟨S32x16x32x64, .f32⟩
  | 76 => ⟨S32x16x32x64, .f32⟩
  | 77 => ⟨S512x2048, .f32⟩
  | 78 => ⟨S32x16x64, .f32⟩
  | 79 => ⟨S32x16x1x64, .f32⟩
  | 80 => ⟨S32x1x32x1, .f32⟩
  | 81 => ⟨S32x16x32x64, .f32⟩
  | 82 => ⟨S32x16x32x64, .f32⟩
  | 83 => ⟨S32x16x32x64, .f32⟩
  | 84 => ⟨S512x2048, .f32⟩
  | 85 => ⟨S512x4096, .f32⟩
  | 86 => ⟨S32x64x16, .f32⟩
  | 87 => ⟨S32x64x1x16, .f32⟩
  | 88 => ⟨S32x1x32x1, .f32⟩
  | 89 => ⟨S32x64x32x16, .f32⟩
  | 90 => ⟨S32x64x32x16, .f32⟩
  | 91 => ⟨S32x64x32x16, .f32⟩
  | 92 => ⟨S2048x512, .f32⟩
  | 93 => ⟨S32x16x64, .f32⟩
  | 94 => ⟨S32x64x16, .f32⟩
  | 95 => ⟨S32x64x1x16, .f32⟩
  | 96 => ⟨S32x1x32x1, .f32⟩
  | 97 => ⟨S32x64x32x16, .f32⟩
  | 98 => ⟨S32x64x32x16, .f32⟩
  | 99 => ⟨S32x64x32x16, .f32⟩
  | 100 => ⟨S2048x512, .f32⟩
  | 101 => ⟨S4096x512, .f32⟩
  | 102 => ⟨S128x512, .f32⟩
  | 103 => ⟨S128x512, .f32⟩
  | 104 => ⟨S128x1024, .f32⟩
  | 105 => ⟨S128x512, .f32⟩
  | 106 => ⟨S128x512, .f32⟩
  | 107 => ⟨S128x1024, .f32⟩
  | 108 => ⟨S128x512, .f32⟩
  | 109 => ⟨S128x512, .f32⟩
  | 110 => ⟨S128x1024, .f32⟩
  | 111 => ⟨S128x512, .f32⟩
  | 112 => ⟨S128x512, .f32⟩
  | 113 => ⟨S128x1024, .f32⟩
  | 114 => ⟨S1x128x1024, .f32⟩
  | 115 => ⟨S1x128x1024, .f32⟩
  | 116 => ⟨S1x128x1024, .f32⟩
  | 117 => ⟨S1x128x1024, .f32⟩
  | 118 => ⟨S4x128x1024, .f32⟩
  | 119 => ⟨S512x128, .f32⟩
  | 120 => ⟨S512x128, .f32⟩
  | 121 => ⟨S1024x128, .f32⟩
  | 122 => ⟨S512x128, .f32⟩
  | 123 => ⟨S512x128, .f32⟩
  | 124 => ⟨S1024x128, .f32⟩
  | 125 => ⟨S512x128, .f32⟩
  | 126 => ⟨S512x128, .f32⟩
  | 127 => ⟨S1024x128, .f32⟩
  | _ => ⟨S128x512, .f32⟩

abbrev hbmTy0_1 (i : Nat) : BufTy := match i % 128 with
  | 0 => ⟨S512x128, .f32⟩
  | 1 => ⟨S512x128, .f32⟩
  | 2 => ⟨S1024x128, .f32⟩
  | 3 => ⟨S1x1024x128, .f32⟩
  | 4 => ⟨S1x1024x128, .f32⟩
  | 5 => ⟨S1x1024x128, .f32⟩
  | 6 => ⟨S1x1024x128, .f32⟩
  | 7 => ⟨S4x1024x128, .f32⟩
  | 8 => ⟨S1x2048, .f32⟩
  | 9 => ⟨S1x2048, .f32⟩
  | 10 => ⟨S512x4096, .bf16⟩
  | 11 => ⟨S4096x512, .bf16⟩
  | 12 => ⟨S4x128x1024, .bf16⟩
  | 13 => ⟨S4x1024x128, .bf16⟩
  | 14 => ⟨S1x512, .f32⟩
  | 15 => ⟨S128x32x64, .f32⟩
  | 16 => ⟨S128x2048, .f32⟩
  | 17 => ⟨S128x32x64, .f32⟩
  | 18 => ⟨S128x2048, .f32⟩
  | 19 => ⟨S512x512, .f32⟩
  | 20 => ⟨S512x512, .bf16⟩
  | 21 => ⟨S128x512, .bf16⟩
  | 22 => ⟨S128x2048, .f32⟩
  | 23 => ⟨S128x2048, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x2048, .f32⟩
  | .local _ .vmem, ⟨2, _⟩ => ⟨S128x2048, .f32⟩
  | .local _ .vmem, ⟨3, _⟩ => ⟨S512x4096, .bf16⟩
  | .local _ .vmem, ⟨4, _⟩ => ⟨S4096x512, .bf16⟩
  | .local _ .vmem, ⟨5, _⟩ => ⟨S1x2048, .f32⟩
  | .local _ .vmem, ⟨6, _⟩ => ⟨S1x2048, .f32⟩
  | .local _ .vmem, ⟨7, _⟩ => ⟨S1x512, .f32⟩
  | .local _ .vmem, ⟨8, _⟩ => ⟨S512x512, .bf16⟩
  | .local _ .vmem, ⟨9, _⟩ => ⟨S128x512, .bf16⟩
  | .local _ .vmem, ⟨10, _⟩ => ⟨S128x2048, .f32⟩
  | .local _ .vmem, ⟨11, _⟩ => ⟨S128x2048, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134_0 : Ref sig .tc := ⟨.hbm, 149, rfl⟩
abbrev main_v134_1 : Ref sig .tc := ⟨.hbm, 150, rfl⟩
abbrev main_v134_2 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S128x512 : Shape := ⟨2, ![128, 512]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S128x32x16 : Shape := ⟨3, ![128, 32, 16]⟩
abbrev S128x32x64 : Shape := ⟨3, ![128, 32, 64]⟩
abbrev S32x64x128 : Shape := ⟨3, ![32, 64, 128]⟩
abbrev S32x16x64 : Shape := ⟨3, ![32, 16, 64]⟩
abbrev S32x16x128 : Shape := ⟨3, ![32, 16, 128]⟩
abbrev S32x16 : Shape := ⟨2, ![32, 16]⟩
abbrev S512x512 : Shape := ⟨2, ![512, 512]⟩
abbrev S128x2048 : Shape := ⟨2, ![128, 2048]⟩

abbrev nBuf : Space → Nat
  | .hbm => 134
  | .vmem => 0
  | .smem => 0
  | _ => 0

abbrev hbmTy0_0 (i : Nat) : BufTy := match i % 128 with
  | 0 => ⟨S128x512, .f32⟩
  | 1 => ⟨S1x128x32x64, .f32⟩
  | 2 => ⟨S1x128x32x64, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512x512, .f32⟩
  | 12 => ⟨S32x64, .f32⟩
  | 13 => ⟨S32x64, .f32⟩
  | 14 => ⟨S32, .f32⟩
  | 15 => ⟨S32x64x16, .f32⟩
  | 16 => ⟨S32x64x16, .f32⟩
  | 17 => ⟨S32, .f32⟩
  | 18 => ⟨S32x1, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x16, .f32⟩
  | 64 => ⟨S128x32x16, .f32⟩
  | 65 => ⟨S128x32x64, .f32⟩
  | 66 => ⟨S1x32x64, .f32⟩
  | 67 => ⟨S128x32x64, .f32⟩
  | 68 => ⟨S128x32x64, .f32⟩
  | 69 => ⟨S128x32x64, .f32⟩
  | 70 => ⟨S1x32x64, .f32⟩
  | 71 => ⟨S128x32x64, .f32⟩
  | 72 => ⟨S128x32x64, .f32⟩
  | 73 => ⟨S128x32x64, .f32⟩
  | 74 => ⟨S32x64x128, .f32⟩
  | 75 => ⟨S128x32x64, .f32⟩
  | 76 => ⟨S128x32x64, .f32⟩
  | 77 => ⟨S128x32x64, .f32⟩
  | 78 => ⟨S1x32x64, .f32⟩
  | 79 => ⟨S128x32x64, .f32⟩
  | 80 => ⟨S128x32x64, .f32⟩
  | 81 => ⟨S128x32x64, .f32⟩
  | 82 => ⟨S1x32x64, .f32⟩
  | 83 => ⟨S128x32x64, .f32⟩
  | 84 => ⟨S128x32x64, .f32⟩
  | 85 => ⟨S128x32x64, .f32⟩
  | 86 => ⟨S32x64x128, .f32⟩
  | 87 => ⟨S128x32x64, .f32⟩
  | 88 => ⟨S128x32x64, .f32⟩
  | 89 => ⟨S32x16x64, .f32⟩
  | 90 => ⟨S32x16x128, .f32⟩
  | 91 => ⟨S128x32x16, .f32⟩
  | 92 => ⟨S128x32x64, .f32⟩
  | 93 => ⟨S32x16x64, .f32⟩
  | 94 => ⟨S32x16x128, .f32⟩
  | 95 => ⟨S128x32x16, .f32⟩
  | 96 => ⟨S128x32x16, .f32⟩
  | 97 => ⟨S32x16, .f32⟩
  | 98 => ⟨S1x32x16, .f32⟩
  | 99 => ⟨S128x32x16, .f32⟩
  | 100 => ⟨S128x32x16, .f32⟩
  | 101 => ⟨S128x32x16, .f32⟩
  | 102 => ⟨S128x512, .f32⟩
  | 103 => ⟨S128x512, .f32⟩
  | 104 => ⟨S128x512, .f32⟩
  | 105 => ⟨S_, .f32⟩
  | 106 => ⟨S128x512, .f32⟩
  | 107 => ⟨S128x512, .f32⟩
  | 108 => ⟨S128x512, .f32⟩
  | 109 => ⟨S_, .f32⟩
  | 110 => ⟨S128x512, .f32⟩
  | 111 => ⟨S128x512, .f32⟩
  | 112 => ⟨S128x512, .f32⟩
  | 113 => ⟨S_, .f32⟩
  | 114 => ⟨S128x512, .f32⟩
  | 115 => ⟨S128x512, .f32⟩
  | 116 => ⟨S_, .f32⟩
  | 117 => ⟨S128x512, .f32⟩
  | 118 => ⟨S128x512, .f32⟩
  | 119 => ⟨S128x512, .f32⟩
  | 120 => ⟨S512x512, .f32⟩
  | 121 => ⟨S128x512, .f32⟩
  | 122 => ⟨S128x512, .f32⟩
  | 123 => ⟨S128x512, .f32⟩
  | 124 => ⟨S_, .f32⟩
  | 125 => ⟨S128x512, .f32⟩
  | 126 => ⟨S128x512, .f32⟩
  | 127 => ⟨S_, .f32⟩
  | _ => ⟨S128x512, .f32⟩

abbrev hbmTy0_1 (i : Nat) : BufTy := match i % 128 with
  | 0 => ⟨S128x512, .f32⟩
  | 1 => ⟨S128x512, .f32⟩
  | 2 => ⟨S128x512, .f32⟩
  | 3 => ⟨S128x512, .bf16⟩
  | 4 => ⟨S128x2048, .f32⟩
  | 5 => ⟨S128x2048, .f32⟩
  | _ => ⟨S128x512, .f32⟩

abbrev hbmTy (i : Nat) : BufTy := match i / 128 with
  | 0 => hbmTy0_0 i
  | 1 => hbmTy0_1 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_1 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_2 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_3 : Ref sig .tc := ⟨.hbm, 113, rfl⟩
abbrev main_v97 : Ref sig .tc := ⟨.hbm, 114, rfl⟩
abbrev main_v98 : Ref sig .tc := ⟨.hbm, 115, rfl⟩
abbrev main_cst_4 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_5 : Ref sig .tc := ⟨.hbm, 124, rfl⟩
abbrev main_v106 : Ref sig .tc := ⟨.hbm, 125, rfl⟩
abbrev main_v107 : Ref sig .tc := ⟨.hbm, 126, rfl⟩
abbrev main_cst_6 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩

abbrev nD : Nat := 1
abbrev τ : Topo := Topo.v7x

variable {F : FTy → Type} [FloatOps F]
-- ==== Kernel8.lean ====
abbrev S8x8192x512 : Shape := ⟨3, ![8, 8192, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1 : Shape := ⟨2, ![32, 1]⟩
abbrev S_ : Shape := ⟨0, ![]⟩
abbrev S32x64x1 : Shape := ⟨3, ![32, 64, 1]⟩
abbrev S32x32 : Shape := ⟨2, ![32, 32]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S4096x512 : Shape := ⟨2, ![4096, 512]⟩
abbrev S128x512 : Shape := ⟨2, ![128, 512]⟩
abbrev S128x1024 : Shape := ⟨2, ![128, 1024]⟩
abbrev S1x128x1024 : Shape := ⟨3, ![1, 128, 1024]⟩
abbrev S4x128x1024 : Shape := ⟨3, ![4, 128, 1024]⟩
abbrev S512x128 : Shape := ⟨2, ![512, 128]⟩
abbrev S1024x128 : Shape := ⟨2, ![1024, 128]⟩
abbrev S1x1024x128 : Shape := ⟨3, ![1, 1024, 128]⟩
abbrev S4x1024x128 : Shape := ⟨3, ![4, 1024, 128]⟩
abbrev S1x2048 : Shape := ⟨2, ![1, 2048]⟩
abbrev S1x512 : Shape := ⟨2, ![1, 512]⟩
abbrev S512x512 : Shape := ⟨2, ![512, 512]⟩
abbrev S8x2048 : Shape := ⟨2, ![8, 2048]⟩
abbrev S512 : Shape := ⟨1, ![512]⟩
abbrev S512x1 : Shape := ⟨2, ![512, 1]⟩
abbrev S8x64x512 : Shape := ⟨3, ![8, 64, 512]⟩
abbrev S8x4096 : Shape := ⟨2, ![8, 4096]⟩
abbrev S1x64x512 : Shape := ⟨3, ![1, 64, 512]⟩
abbrev S64x512 : Shape := ⟨2, ![64, 512]⟩
abbrev S256x512 : Shape := ⟨2, ![256, 512]⟩
abbrev S256x128 : Shape := ⟨2, ![256, 128]⟩
abbrev S256x1024 : Shape := ⟨2, ![256, 1024]⟩
abbrev S8x512 : Shape := ⟨2, ![8, 512]⟩
abbrev S1x512x128 : Shape := ⟨3, ![1, 512, 128]⟩

abbrev nBuf : Space → Nat
  | .hbm => 202
  | .vmem => 18
  | .smem => 0
  | _ => 0

abbrev hbmTy0_0 (i : Nat) : BufTy := match i % 128 with
  | 0 => ⟨S8x8192x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x16, .f32⟩
  | 9 => ⟨S1x512x512, .f32⟩
  | 10 => ⟨S32x64, .f32⟩
  | 11 => ⟨S32x64, .f32⟩
  | 12 => ⟨S32, .f32⟩
  | 13 => ⟨S32x64x16, .f32⟩
  | 14 => ⟨S32x64x16, .f32⟩
  | 15 => ⟨S32x16x64, .f32⟩
  | 16 => ⟨S32x16x64, .f32⟩
  | 17 => ⟨S32x16, .f32⟩
  | 18 => ⟨S32, .f32⟩
  | 19 => ⟨S32x1, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S_, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x1, .f32⟩
  | 59 => ⟨S32x64x16, .f32⟩
  | 60 => ⟨S32x64x16, .f32⟩
  | 61 => ⟨S32x64x16, .f32⟩
  | 62 => ⟨S32x32, .i32⟩
  | 63 => ⟨S32x32, .i32⟩
  | 64 => ⟨S_, .i32⟩
  | 65 => ⟨S32x32, .i32⟩
  | 66 => ⟨S32x32, .i32⟩
  | 67 => ⟨S32x32, .i1⟩
  | 68 => ⟨S32x32, .f32⟩
  | 69 => ⟨S32x16x64, .f32⟩
  | 70 => ⟨S32x16x1x64, .f32⟩
  | 71 => ⟨S32x1x32x1, .f32⟩
  | 72 => ⟨S32x16x32x64, .f32⟩
  | 73 => ⟨S32x16x32x64, .f32⟩
  | 74 => ⟨S32x16x32x64, .f32⟩
  | 75 => ⟨S512x2048, .f32⟩
  | 76 => ⟨S32x16x64, .f32⟩
  | 77 => ⟨S32x16x1x64, .f32⟩
  | 78 => ⟨S32x1x32x1, .f32⟩
  | 79 => ⟨S32x16x32x64, .f32⟩
  | 80 => ⟨S32x16x32x64, .f32⟩
  | 81 => ⟨S32x16x32x64, .f32⟩
  | 82 => ⟨S512x2048, .f32⟩
  | 83 => ⟨S512x4096, .f32⟩
  | 84 => ⟨S32x64x16, .f32⟩
  | 85 => ⟨S32x64x1x16, .f32⟩
  | 86 => ⟨S32x1x32x1, .f32⟩
  | 87 => ⟨S32x64x32x16, .f32⟩
  | 88 => ⟨S32x64x32x16, .f32⟩
  | 89 => ⟨S32x64x32x16, .f32⟩
  | 90 => ⟨S2048x512, .f32⟩
  | 91 => ⟨S32x16x64, .f32⟩
  | 92 => ⟨S32x64x16, .f32⟩
  | 93 => ⟨S32x64x1x16, .f32⟩
  | 94 => ⟨S32x1x32x1, .f32⟩
  | 95 => ⟨S32x64x32x16, .f32⟩
  | 96 => ⟨S32x64x32x16, .f32⟩
  | 97 => ⟨S32x64x32x16, .f32⟩
  | 98 => ⟨S2048x512, .f32⟩
  | 99 => ⟨S4096x512, .f32⟩
  | 100 => ⟨S128x512, .f32⟩
  | 101 => ⟨S128x512, .f32⟩
  | 102 => ⟨S128x1024, .f32⟩
  | 103 => ⟨S128x512, .f32⟩
  | 104 => ⟨S128x512, .f32⟩
  | 105 => ⟨S128x1024, .f32⟩
  | 106 => ⟨S128x512, .f32⟩
  | 107 => ⟨S128x512, .f32⟩
  | 108 => ⟨S128x1024, .f32⟩
  | 109 => ⟨S128x512, .f32⟩
  | 110 => ⟨S128x512, .f32⟩
  | 111 => ⟨S128x1024, .f32⟩
  | 112 => ⟨S1x128x1024, .f32⟩
  | 113 => ⟨S1x128x1024, .f32⟩
  | 114 => ⟨S1x128x1024, .f32⟩
  | 115 => ⟨S1x128x1024, .f32⟩
  | 116 => ⟨S4x128x1024, .f32⟩
  | 117 => ⟨S512x128, .f32⟩
  | 118 => ⟨S512x128, .f32⟩
  | 119 => ⟨S1024x128, .f32⟩
  | 120 => ⟨S512x128, .f32⟩
  | 121 => ⟨S512x128, .f32⟩
  | 122 => ⟨S1024x128, .f32⟩
  | 123 => ⟨S512x128, .f32⟩
  | 124 => ⟨S512x128, .f32⟩
  | 125 => ⟨S1024x128, .f32⟩
  | 126 => ⟨S512x128, .f32⟩
  | 127 => ⟨S512x128, .f32⟩
  | _ => ⟨S8x8192x512, .f32⟩

abbrev hbmTy0_1 (i : Nat) : BufTy := match i % 128 with
  | 0 => ⟨S1024x128, .f32⟩
  | 1 => ⟨S1x1024x128, .f32⟩
  | 2 => ⟨S1x1024x128, .f32⟩
  | 3 => ⟨S1x1024x128, .f32⟩
  | 4 => ⟨S1x1024x128, .f32⟩
  | 5 => ⟨S4x1024x128, .f32⟩
  | 6 => ⟨S1x2048, .f32⟩
  | 7 => ⟨S1x2048, .f32⟩
  | 8 => ⟨S512x4096, .bf16⟩
  | 9 => ⟨S4096x512, .bf16⟩
  | 10 => ⟨S4x128x1024, .bf16⟩
  | 11 => ⟨S4x1024x128, .bf16⟩
  | 12 => ⟨S1x512, .f32⟩
  | 13 => ⟨S512x512, .f32⟩
  | 14 => ⟨S512x512, .bf16⟩
  | 15 => ⟨S8x2048, .f32⟩
  | 16 => ⟨S8x2048, .f32⟩
  | 17 => ⟨S512, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S512, .i32⟩
  | 25 => ⟨S512, .i32⟩
  | 26 => ⟨S_, .i32⟩
  | 27 => ⟨S512, .i32⟩
  | 28 => ⟨S512, .i1⟩
  | 29 => ⟨S_, .i32⟩
  | 30 => ⟨S512, .i32⟩
  | 31 => ⟨S512, .i1⟩
  | 32 => ⟨S_, .i32⟩
  | 33 => ⟨S_, .i1⟩
  | 34 => ⟨S512, .i1⟩
  | 35 => ⟨S512, .i1⟩
  | 36 => ⟨S512, .i1⟩
  | 37 => ⟨S512, .i32⟩
  | 38 => ⟨S512, .i32⟩
  | 39 => ⟨S512, .i32⟩
  | 40 => ⟨S_, .i32⟩
  | 41 => ⟨S512, .i32⟩
  | 42 => ⟨S512, .i32⟩
  | 43 => ⟨S512, .i32⟩
  | 44 => ⟨S_, .i32⟩
  | 45 => ⟨S_, .i32⟩
  | 46 => ⟨S512, .i32⟩
  | 47 => ⟨S512, .i32⟩
  | 48 => ⟨S512, .i32⟩
  | 49 => ⟨S_, .i32⟩
  | 50 => ⟨S512, .i32⟩
  | 51 => ⟨S512, .i1⟩
  | 52 => ⟨S512, .i32⟩
  | 53 => ⟨S512, .i32⟩
  | 54 => ⟨S_, .i32⟩
  | 55 => ⟨S512, .i32⟩
  | 56 => ⟨S512, .i1⟩
  | 57 => ⟨S512, .i1⟩
  | 58 => ⟨S_, .i32⟩
  | 59 => ⟨S512, .i32⟩
  | 60 => ⟨S512, .i32⟩
  | 61 => ⟨S512, .i32⟩
  | 62 => ⟨S512, .i32⟩
  | 63 => ⟨S512x1, .i32⟩
  | 64 => ⟨S512, .i32⟩
  | 65 => ⟨S1x512, .i32⟩
  | 66 => ⟨S512x512, .i32⟩
  | 67 => ⟨S512x512, .i32⟩
  | 68 => ⟨S512x512, .i1⟩
  | 69 => ⟨S512x512, .bf16⟩
  | 70 => ⟨S512x512, .bf16⟩
  | 71 => ⟨S8x8192x512, .bf16⟩
  | 72 => ⟨S8x2048, .f32⟩
  | 73 => ⟨S8x2048, .f32⟩
  | _ => ⟨S8x8192x512, .f32⟩

abbrev hbmTy (i : Nat) : BufTy := match i / 128 with
  | 0 => hbmTy0_0 i
  | 1 => hbmTy0_1 i
  | _ => ⟨S8x8192x512, .f32⟩

abbrev bufTy : (tb : Table) → Fin (tcTables nBuf tb) → BufTy
  | .hbm, ⟨i, _⟩ => hbmTy i
  | .local _ .vmem, ⟨0, _⟩ => ⟨S8x64x512, .f32⟩
  | .local _ .vmem, ⟨1, _⟩ => ⟨S8x64x512, .f32⟩
  | .local _ .vmem, ⟨2, _⟩ => ⟨S512x512, .bf16⟩
  | .local _ .vmem, ⟨3, _⟩ => ⟨S512x512, .bf16⟩
  | .local _ .vmem, ⟨4, _⟩ => ⟨S4x128x1024, .bf16⟩
  | .local _ .vmem, ⟨5, _⟩ => ⟨S4x1024x128, .bf16⟩
  | .local _ .vmem, ⟨6, _⟩ => ⟨S8x2048, .f32⟩
  | .local _ .vmem, ⟨7, _⟩ => ⟨S8x2048, .f32⟩
  | .local _ .vmem, ⟨8, _⟩ => ⟨S1x512, .f32⟩
  | .local _ .vmem, ⟨9, _⟩ => ⟨S512x512, .bf16⟩
  | .local _ .vmem, ⟨10, _⟩ => ⟨S8x64x512, .bf16⟩
  | .local _ .vmem, ⟨11, _⟩ => ⟨S8x64x512, .bf16⟩
  | .local _ .vmem, ⟨12, _⟩ => ⟨S8x2048, .f32⟩
  | .local _ .vmem, ⟨13, _⟩ => ⟨S8x2048, .f32⟩
  | .local _ .vmem, ⟨14, _⟩ => ⟨S512x4096, .f32⟩
  | .local _ .vmem, ⟨15, _⟩ => ⟨S512x512, .f32⟩
  | .local _ .vmem, ⟨16, _⟩ => ⟨S512x512, .bf16⟩
  | .local _ .vmem, ⟨17, _⟩ => ⟨S8x4096, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_c_1 : Ref sig .tc := ⟨.hbm, 146, rfl⟩
abbrev main_call0_v0 : Ref sig .tc := ⟨.hbm, 147, rfl⟩
abbrev main_call0_c : Ref sig .tc := ⟨.hbm, 148, rfl⟩
abbrev main_call0_v1 : Ref sig .tc := ⟨.hbm, 149, rfl⟩
abbrev main_call0_c_0 : Ref sig .tc := ⟨.hbm, 150, rfl⟩
abbrev main_call0_v2 : Ref sig .tc := ⟨.hbm, 151, rfl⟩
abbrev main_call0_v3 : Ref sig .tc := ⟨.hbm, 152, rfl⟩
abbrev main_call0_v4 : Ref sig .tc := ⟨.hbm, 153, rfl⟩
abbrev main_call0_c_1 : Ref sig .tc := ⟨.hbm, 154, rfl⟩
abbrev main_call0_v5 : Ref sig .tc := ⟨.hbm, 155, rfl⟩
abbrev main_call0_v6 : Ref sig .tc := ⟨.hbm, 156, rfl⟩
abbrev main_call0_c_2 : Ref sig .tc := ⟨.hbm, 157, rfl⟩
abbrev main_call0_v7 : Ref sig .tc := ⟨.hbm, 158, rfl⟩
abbrev main_call0_v8 : Ref sig .tc := ⟨.hbm, 159, rfl⟩
abbrev main_call0_c_3 : Ref sig .tc := ⟨.hbm, 160, rfl⟩
abbrev main_call0_v9 : Ref sig .tc := ⟨.hbm, 161, rfl⟩
abbrev main_call0_v10 : Ref sig .tc := ⟨.hbm, 162, rfl⟩
abbrev main_call0_v11 : Ref sig .tc := ⟨.hbm, 163, rfl⟩
abbrev main_call0_v12 : Ref sig .tc := ⟨.hbm, 164, rfl⟩
abbrev main_call0_v13 : Ref sig .tc := ⟨.hbm, 165, rfl⟩
abbrev main_call0_v14 : Ref sig .tc := ⟨.hbm, 166, rfl⟩
abbrev main_v133 : Ref sig .tc := ⟨.hbm, 167, rfl⟩
abbrev main_c_2 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_c_3 : Ref sig .tc := ⟨.hbm, 172, rfl⟩
abbrev main_call1_v0 : Ref sig .tc := ⟨.hbm, 173, rfl⟩
abbrev main_call1_v1 : Ref sig .tc := ⟨.hbm, 174, rfl⟩
abbrev main_call1_v2 : Ref sig .tc := ⟨.hbm, 175, rfl⟩
abbrev main_call1_v3 : Ref sig .tc := ⟨.hbm, 176, rfl⟩
abbrev main_call1_v4 : Ref sig .tc := ⟨.hbm, 177, rfl⟩
abbrev main_call1_v5 : Ref sig .tc := ⟨.hbm, 178, rfl⟩
abbrev main_call1_v6 : Ref sig .tc := ⟨.hbm, 179, rfl⟩
abbrev main_call1_v7 : Ref sig .tc := ⟨.hbm, 180, rfl⟩
abbrev main_call1_v8 : Ref sig .tc := ⟨.hbm, 181, rfl⟩
abbrev main_call1_c : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_c_0 : Ref sig .tc := ⟨.hbm, 186, rfl⟩
abbrev main_call1_v12 : Ref sig .tc := ⟨.hbm, 187, rfl⟩
abbrev main_call1_v13 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147_0 : Ref sig .tc := ⟨.hbm, 199, rfl⟩
abbrev main_v147_1 : Ref sig .tc := ⟨.hbm, 200, rfl⟩
abbrev main_v147_2 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_92 : BitVec 32 := 0#32
  let c64_i32 : BitVec 32 := 64#32
  let v140 : BitVec 32 := Scalar.addi c0_i32_92 c64_i32
  let c1_i32 : BitVec 32 := 1#32
  ⟨c0_i32_92, v140, c1_i32⟩
def k0_mult1 (k0_t1 : Fin k0_t1_loop.trips) : BitVec 32 :=
  let c0_i32_92 : BitVec 32 := 0#32
  let c1_i32 : BitVec 32 := 1#32
  let arg17 : BitVec 32 := Scf.iv c0_i32_92 c1_i32 k0_t1
  let c8_i32 : BitVec 32 := 8#32
  let v378 : BitVec 32 := Scalar.muli arg17 c8_i32
  v378
def k0_off1 (k0_t1 : Fin k0_t1_loop.trips) : Fin 2 → Nat :=
  let c0_i32_92 : BitVec 32 := 0#32
  let c1_i32 : BitVec 32 := 1#32
  let arg17 : BitVec 32 := Scf.iv c0_i32_92 c1_i32 k0_t1
  let c8_i32 : BitVec 32 := 8#32
  let v378 : BitVec 32 := Scalar.muli arg17 c8_i32
  let v379 : BitVec 32 := v378
  let v383 : Index := Scalar.indexCast v379
  let c0_298 : Index := 0#32
  ![v383.toNat, 0]
def k0_off2 (k0_t1 : Fin k0_t1_loop.trips) : Fin 2 → Nat :=
  let c0_i32_92 : BitVec 32 := 0#32
  let c1_i32 : BitVec 32 := 1#32
  let arg17 : BitVec 32 := Scf.iv c0_i32_92 c1_i32 k0_t1
  let c8_i32 : BitVec 32 := 8#32
  let v378 : BitVec 32 := Scalar.muli arg17 c8_i32
  let v379 : BitVec 32 := v378
  let v389 : Index := Scalar.indexCast v379
  let c2048_299 : Index := 2048#32
  ![v389.toNat, 2048]
@[reducible] def k0_t2_loop : Scf.Loop 32 :=
  let c0_i32_106 : BitVec 32 := 0#32
  let c64_i32_107 : BitVec 32 := 64#32
  let v154 : BitVec 32 := Scalar.addi c0_i32_106 c64_i32_107
  let c1_i32_108 : BitVec 32 := 1#32
  ⟨c0_i32_106, v154, c1_i32_108⟩
def k0_mult2 (k0_t2 : Fin k0_t2_loop.trips) : BitVec 32 :=
  let c0_i32_106 : BitVec 32 := 0#32
  let c1_i32_108 : BitVec 32 := 1#32
  let arg17 : BitVec 32 := Scf.iv c0_i32_106 c1_i32_108 k0_t2
  let c8_i32 : BitVec 32 := 8#32
  let v378 : BitVec 32 := Scalar.muli arg17 c8_i32
  v378
def k0_off3 (k0_t2 : Fin k0_t2_loop.trips) : Fin 2 → Nat :=
  let c0_i32_106 : BitVec 32 := 0#32
  let c1_i32_108 : BitVec 32 := 1#32
  let arg17 : BitVec 32 := Scf.iv c0_i32_106 c1_i32_108 k0_t2
  let c8_i32 : BitVec 32 := 8#32
  let v378 : BitVec 32 := Scalar.muli arg17 c8_i32
  let v379 : BitVec 32 := v378
  let v383 : Index := Scalar.indexCast v379
  let c512_298 : Index := 512#32
  ![v383.toNat, 512]
def k0_off4 (k0_t2 : Fin k0_t2_loop.trips) : Fin 2 → Nat :=
  let c0_i32_106 : BitVec 32 := 0#32
  let c1_i32_108 : BitVec 32 := 1#32
  let arg17 : BitVec 32 := Scf.iv c0_i32_106 c1_i32_108 k0_t2
  let c8_i32 : BitVec 32 := 8#32
  let v378 : BitVec 32 := Scalar.muli arg17 c8_i32
  let v379 : BitVec 32 := v378
  let v389 : Index := Scalar.indexCast v379
  let c2560_299 : Index := 2560#32
  ![v389.toNat, 2560]
@[reducible] def k0_t3_loop : Scf.Loop 32 :=
  let c0_i32_122 : BitVec 32 := 0#32
  let c64_i32_123 : BitVec 32 := 64#32
  let v168 : BitVec 32 := Scalar.addi c0_i32_122 c64_i32_123
  let c1_i32_124 : BitVec 32 := 1#32
  ⟨c0_i32_122, v168, c1_i32_124⟩
def k0_mult3 (k0_t3 : Fin k0_t3_loop.trips) : BitVec 32 :=
  let c0_i32_122 : BitVec 32 := 0#32
  let c1_i32_124 : BitVec 32 := 1#32
  let arg17 : BitVec 32 := Scf.iv c0_i32_122 c1_i32_124 k0_t3
  let c8_i32 : BitVec 32 := 8#32
  let v378 : BitVec 32 := Scalar.muli arg17 c8_i32
  v378
def k0_off5 (k0_t3 : Fin k0_t3_loop.trips) : Fin 2 → Nat :=
  let c0_i32_122 : BitVec 32 := 0#32
  let c1_i32_124 : BitVec 32 := 1#32
  let arg17 : BitVec 32 := Scf.iv c0_i32_122 c1_i32_124 k0_t3
  let c8_i32 : BitVec 32 := 8#32
  let v378 : BitVec 32 := Scalar.muli arg17 c8_i32
  let v379 : BitVec 32 := v378
  let v383 : Index := Scalar.indexCast v379
  let c1024_298 : Index := 1024#32
  ![v383.toNat, 1024]
def k0_off6 (k0_t3 : Fin k0_t3_loop.trips) : Fin 2 → Nat :=
  let c0_i32_122 : BitVec 32 := 0#32
  let c1_i32_124 : BitVec 32 := 1#32
  let arg17 : BitVec 32 := Scf.iv c0_i32_122 c1_i32_124 k0_t3
  let c8_i32 : BitVec 32 := 8#32
  let v378 : BitVec 32 := Scalar.muli arg17 c8_i32
  let v379 : BitVec 32 := v378
  let v389 : Index := Scalar.indexCast v379
  let c3072_299 : Index := 3072#32
  ![v389.toNat, 3072]
@[reducible] def k0_t4_loop : Scf.Loop 32 :=
  let c0_i32_138 : BitVec 32 := 0#32
  let c64_i32_139 : BitVec 32 := 64#32
  let v182 : BitVec 32 := Scalar.addi c0_i32_138 c64_i32_139
  let c1_i32_140 : BitVec 32 := 1#32
  ⟨c0_i32_138, v182, c1_i32_140⟩
def k0_mult4 (k0_t4 : Fin k0_t4_loop.trips) : BitVec 32 :=
  let c0_i32_138 : BitVec 32 := 0#32
  let c1_i32_140 : BitVec 32 := 1#32
  let arg17 : BitVec 32 := Scf.iv c0_i32_138 c1_i32_140 k0_t4
  let c8_i32 : BitVec 32 := 8#32
  let v378 : BitVec 32 := Scalar.muli arg17 c8_i32
  v378
def k0_off7 (k0_t4 : Fin k0_t4_loop.trips) : Fin 2 → Nat :=
  let c0_i32_138 : BitVec 32 := 0#32
  let c1_i32_140 : BitVec 32 := 1#32
  let arg17 : BitVec 32 := Scf.iv c0_i32_138 c1_i32_140 k0_t4
  let c8_i32 : BitVec 32 := 8#32
  let v378 : BitVec 32 := Scalar.muli arg17 c8_i32
  let v379 : BitVec 32 := v378
  let v383 : Index := Scalar.indexCast v379
  let c1536_298 : Index := 1536#32
  ![v383.toNat, 1536]
def k0_off8 (k0_t4 : Fin k0_t4_loop.trips) : Fin 2 → Nat :=
  let c0_i32_138 : BitVec 32 := 0#32
  let c1_i32_140 : BitVec 32 := 1#32
  let arg17 : BitVec 32 := Scf.iv c0_i32_138 c1_i32_140 k0_t4
  let c8_i32 : BitVec 32 := 8#32
  let v378 : BitVec 32 := Scalar.muli arg17 c8_i32
  let v379 : BitVec 32 := v378
  let v389 : Index := Scalar.indexCast v379
  let c3584_299 : Index := 3584#32
  ![v389.toNat, 3584]
def k0_cond2 (i : grid0.Coords) : BitVec 1 :=
  let arg0 : BitVec 32 := BitVec.ofNat 32 (i 0).val
  let c127_i32 : BitVec 32 := 127#32
  let v375 : BitVec 1 := Scalar.cmpi .eq arg0 c127_i32
  let v376 : BitVec 32 := Scalar.extui v375
  let c0_i32_297 : BitVec 32 := 0#32
  let v377 : BitVec 1 := Scalar.cmpi .ne v376 c0_i32_297
  v377

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S8x8192x512 : Shape := ⟨3, ![8, 8192, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S8x8192x32x16 : Shape := ⟨4, ![8, 8192, 32, 16]⟩
abbrev S32x64x8x8192 : Shape := ⟨4, ![32, 64, 8, 8192]⟩
abbrev S8x8192x32x64 : Shape := ⟨4, ![8, 8192, 32, 64]⟩
abbrev S8x32x64 : Shape := ⟨3, ![8, 32, 64]⟩
abbrev S8x1x32x64 : Shape := ⟨4, ![8, 1, 32, 64]⟩
abbrev S8x2048 : Shape := ⟨2, ![8, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S1x32x64, .f32⟩
  | .hbm, ⟨2, _⟩ => ⟨S1x32x64, .f32⟩
  | .hbm, ⟨3, _⟩ => ⟨S1x32, .f32⟩
  | .hbm, ⟨4, _⟩ => ⟨S1x32x64x16, .f32⟩
  | .hbm, ⟨5, _⟩ => ⟨S1x32x64x16, .f32⟩
  | .hbm, ⟨6, _⟩ => ⟨S1x32x16x64, .f32⟩
  | .hbm, ⟨7, _⟩ => ⟨S1x32x16x64, .f32⟩
  | .hbm, ⟨8, _⟩ => ⟨S1x32x16, .f32⟩
  | .hbm, ⟨9, _⟩ => ⟨S1x512x512, .f32⟩
  | .hbm, ⟨10, _⟩ => ⟨S32x64, .f32⟩
  | .hbm, ⟨11, _⟩ => ⟨S32x64, .f32⟩
  | .hbm, ⟨12, _⟩ => ⟨S32, .f32⟩
  | .hbm, ⟨13, _⟩ => ⟨S32x64x16, .f32⟩
  | .hbm, ⟨14, _⟩ => ⟨S32x64x16, .f32⟩
  | .hbm, ⟨15, _⟩ => ⟨S32, .f32⟩
  | .hbm, ⟨16, _⟩ => ⟨S32x1, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S_, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64, .f32⟩
  | .hbm, ⟨47, _⟩ => ⟨S32x64, .f32⟩
  | .hbm, ⟨48, _⟩ => ⟨S32x64x1, .f32⟩
  | .hbm, ⟨49, _⟩ => ⟨S32x64x16, .f32⟩
  | .hbm, ⟨50, _⟩ => ⟨S32x64x16, .f32⟩
  | .hbm, ⟨51, _⟩ => ⟨S32x64x1, .f32⟩
  | .hbm, ⟨52, _⟩ => ⟨S32x64x16, .f32⟩
  | .hbm, ⟨53, _⟩ => ⟨S32x64x16, .f32⟩
  | .hbm, ⟨54, _⟩ => ⟨S32x64x16, .f32⟩
  | .hbm, ⟨55, _⟩ => ⟨S32x64x1, .f32⟩
  | .hbm, ⟨56, _⟩ => ⟨S32x64x16, .f32⟩
  | .hbm, ⟨57, _⟩ => ⟨S32x64x16, .f32⟩
  | .hbm, ⟨58, _⟩ => ⟨S32x64x1, .f32⟩
  | .hbm, ⟨59, _⟩ => ⟨S32x64x16, .f32⟩
  | .hbm, ⟨60, _⟩ => ⟨S32x64x16, .f32⟩
  | .hbm, ⟨61, _⟩ => ⟨S32x64x16, .f32⟩
  | .hbm, ⟨62, _⟩ => ⟨S8x8192x32x16, .f32⟩
  | .hbm, ⟨63, _⟩ => ⟨S32x64x8x8192, .f32⟩
  | .hbm, ⟨64, _⟩ => ⟨S8x8192x32x64, .f32⟩
  | .hbm, ⟨65, _⟩ => ⟨S32x64x8x8192, .f32⟩
  | .hbm, ⟨66, _⟩ => ⟨S8x8192x32x64, .f32⟩
  | .hbm, ⟨67, _⟩ => ⟨S_, .f32⟩
  | .hbm, ⟨68, _⟩ => ⟨S8x32x64, .f32⟩
  | .hbm, ⟨69, _⟩ => ⟨S_, .i32⟩
  | .hbm, ⟨70, _⟩ => ⟨S_, .i32⟩
  | .hbm, ⟨71, _⟩ => ⟨S32x64, .f32⟩
  | .hbm, ⟨72, _⟩ => ⟨S32x64, .f32⟩
  | .hbm, ⟨73, _⟩ => ⟨S8x8192x32x64, .f32⟩
  | .hbm, ⟨74, _⟩ => ⟨S8x8192x32x64, .f32⟩
  | .hbm, ⟨75, _⟩ => ⟨S_, .i32⟩
  | .hbm, ⟨76, _⟩ => ⟨S_, .i32⟩
  | .hbm, ⟨77, _⟩ => ⟨S8x32x64, .f32⟩
  | .hbm, ⟨78, _⟩ => ⟨S8x32x64, .f32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S1x32x64, .f32⟩
  | .hbm, ⟨84, _⟩ => ⟨S8x32x64, .f32⟩
  | .hbm, ⟨85, _⟩ => ⟨S8x32x64, .f32⟩
  | .hbm, ⟨86, _⟩ => ⟨S1x32x64, .f32⟩
  | .hbm, ⟨87, _⟩ => ⟨S8x32x64, .f32⟩
  | .hbm, ⟨88, _⟩ => ⟨S8x32x64, .f32⟩
  | .hbm, ⟨89, _⟩ => ⟨S8x32x64, .f32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S8x1x32x64, .f32⟩
  | .hbm, ⟨100, _⟩ => ⟨S8x32x64, .f32⟩
  | .hbm, ⟨101, _⟩ => ⟨S8x32x64, .f32⟩
  | .hbm, ⟨102, _⟩ => ⟨S1x32x64, .f32⟩
  | .hbm, ⟨103, _⟩ => ⟨S8x32x64, .f32⟩
  | .hbm, ⟨104, _⟩ => ⟨S8x32x64, .f32⟩
  | .hbm, ⟨105, _⟩ => ⟨S1x32x64, .f32⟩
  | .hbm, ⟨106, _⟩ => ⟨S8x32x64, .f32⟩
  | .hbm, ⟨107, _⟩ => ⟨S8x32x64, .f32⟩
  | .hbm, ⟨108, _⟩ => ⟨S8x32x64, .f32⟩
  | .hbm, ⟨109, _⟩ => ⟨S_, .i32⟩
  | .hbm, ⟨110, _⟩ => ⟨S_, .i1⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S8x1x32x64, .f32⟩
  | .hbm, ⟨119, _⟩ => ⟨S8x32x64, .f32⟩
  | .hbm, ⟨120, _⟩ => ⟨S8x32x64, .f32⟩
  | .hbm, ⟨121, _⟩ => ⟨S_, .i32⟩
  | .hbm, ⟨122, _⟩ => ⟨S_, .i32⟩
  | .hbm, ⟨123, _⟩ => ⟨S8x2048, .f32⟩
  | .hbm, ⟨124, _⟩ => ⟨S8x2048, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_1 : Ref sig .tc := ⟨.hbm, 67, rfl⟩
abbrev main_v55 : Ref sig .tc := ⟨.hbm, 68, rfl⟩
abbrev main_c : Ref sig .tc := ⟨.hbm, 69, rfl⟩
abbrev main_c_2 : Ref sig .tc := ⟨.hbm, 70, rfl⟩
abbrev main_v56_0 : Ref sig .tc := ⟨.hbm, 71, rfl⟩
abbrev main_v56_1 : Ref sig .tc := ⟨.hbm, 72, rfl⟩
abbrev main_v56_2 : Ref sig .tc := ⟨.hbm, 73, rfl⟩
abbrev main_v56_3 : Ref sig .tc := ⟨.hbm, 74, rfl⟩
abbrev main_v56_4 : Ref sig .tc := ⟨.hbm, 75, rfl⟩
abbrev main_v56_5 : Ref sig .tc := ⟨.hbm, 76, rfl⟩
abbrev main_v56_6 : Ref sig .tc := ⟨.hbm, 77, rfl⟩
abbrev main_v56_7 : Ref sig .tc := ⟨.hbm, 78, rfl⟩
abbrev main_while0c_c_10 : Ref sig .tc := ⟨.hbm, 79, rfl⟩
abbrev main_while0c_v59 : Ref sig .tc := ⟨.hbm, 80, rfl⟩
abbrev main_while0b_c_10 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_call0_c : Ref sig .tc := ⟨.hbm, 90, rfl⟩
abbrev main_while0b_call0_v0 : Ref sig .tc := ⟨.hbm, 91, rfl⟩
abbrev main_while0b_call0_v1 : Ref sig .tc := ⟨.hbm, 92, rfl⟩
abbrev main_while0b_call0_c_0 : Ref sig .tc := ⟨.hbm, 93, rfl⟩
abbrev main_while0b_call0_v2 : Ref sig .tc := ⟨.hbm, 94, rfl⟩
abbrev main_while0b_call0_v3 : Ref sig .tc := ⟨.hbm, 95, rfl⟩
abbrev main_while0b_call0_c_1 : Ref sig .tc := ⟨.hbm, 96, rfl⟩
abbrev main_while0b_call0_c_2 : Ref sig .tc := ⟨.hbm, 97, rfl⟩
abbrev main_while0b_call0_c_3 : Ref sig .tc := ⟨.hbm, 98, rfl⟩
abbrev main_while0b_call0_v4 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_call1_c : Ref sig .tc := ⟨.hbm, 109, rfl⟩
abbrev main_while0b_call1_v0 : Ref sig .tc := ⟨.hbm, 110, rfl⟩
abbrev main_while0b_call1_v1 : Ref sig .tc := ⟨.hbm, 111, rfl⟩
abbrev main_while0b_call1_c_0 : Ref sig .tc := ⟨.hbm, 112, rfl⟩
abbrev main_while0b_call1_v2 : Ref sig .tc := ⟨.hbm, 113, rfl⟩
abbrev main_while0b_call1_v3 : Ref sig .tc := ⟨.hbm, 114, rfl⟩
abbrev main_while0b_call1_c_1 : Ref sig .tc := ⟨.hbm, 115, rfl⟩
abbrev main_while0b_call1_c_2 : Ref sig .tc := ⟨.hbm, 116, rfl⟩
abbrev main_while0b_call1_c_3 : Ref sig .tc := ⟨.hbm, 117, rfl⟩
abbrev main_while0b_call1_v4 : Ref sig .tc := ⟨.hbm, 118, rfl⟩
abbrev main_while0b_v76 : Ref sig .tc := ⟨.hbm, 119, rfl⟩
abbrev main_while0b_v77 : Ref sig .tc := ⟨.hbm, 120, rfl⟩
abbrev main_while0b_c_11 : Ref sig .tc := ⟨.hbm, 121, rfl⟩
abbrev main_while0b_v78 : Ref sig .tc := ⟨.hbm, 122, rfl⟩
abbrev main_v57 : Ref sig .tc := ⟨.hbm, 123, rfl⟩
abbrev main_v58 : Ref sig .tc := ⟨.hbm, 124, rfl⟩

abbrev nD : Nat := 1
abbrev τ : Topo := Topo.v7x

variable {F : FTy → Type} [FloatOps F]

abbrev main_while0_count : Scf.Loop 32 := ⟨0#32, 8192#32, 1#32⟩
-- ==== Kernel9.lean ====
abbrev S128x1024 : Shape := ⟨2, ![128, 1024]⟩
abbrev S128x512 : Shape := ⟨2, ![128, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 21
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S128x1024, .f32⟩
  | .local _ .vmem, ⟨0, _⟩ => ⟨S128x1024, .f32⟩
  | .local _ .vmem, ⟨1, _⟩ => ⟨S128x512, .bf16⟩
  | .local _ .vmem, ⟨2, _⟩ => ⟨S128x512, .bf16⟩
  | .local _ .vmem, ⟨3, _⟩ => ⟨S128x1024, .bf16⟩
  | .local _ .vmem, ⟨4, _⟩ => ⟨S128x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference9Ideal.lean ====
abbrev S128x1024 : Shape := ⟨2, ![128, 1024]⟩
abbrev S128x512 : Shape := ⟨2, ![128, 512]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S128 : Shape := ⟨1, ![128]⟩
abbrev S128x1 : Shape := ⟨2, ![128, 1]⟩

abbrev nBuf : Space → Nat
  | .hbm => 58
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .bf16⟩
  | .hbm, ⟨2, _⟩ => ⟨S128x512, .bf16⟩
  | .hbm, ⟨3, _⟩ => ⟨S128x1024, .bf16⟩
  | .hbm, ⟨4, _⟩ => ⟨S128x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S128x512, .f32⟩
  | .hbm, ⟨11, _⟩ => ⟨S128x512, .f32⟩
  | .hbm, ⟨12, _⟩ => ⟨S128x1024, .f32⟩
  | .hbm, ⟨13, _⟩ => ⟨S128x1024, .f32⟩
  | .hbm, ⟨14, _⟩ => ⟨S512x1024, .f32⟩
  | .hbm, ⟨15, _⟩ => ⟨S128x1024, .f32⟩
  | .hbm, ⟨16, _⟩ => ⟨S128x1024, .f32⟩
  | .hbm, ⟨17, _⟩ => ⟨S512x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S1024x1024, .f32⟩
  | .hbm, ⟨25, _⟩ => ⟨S128x1024, .f32⟩
  | .hbm, ⟨26, _⟩ => ⟨S128x1024, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S_, .f32⟩
  | .hbm, ⟨33, _⟩ => ⟨S128x1, .f32⟩
  | .hbm, ⟨34, _⟩ => ⟨S128x1, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128, .f32⟩
  | .hbm, ⟨40, _⟩ => ⟨S128x1, .f32⟩
  | .hbm, ⟨41, _⟩ => ⟨S_, .f32⟩
  | .hbm, ⟨42, _⟩ => ⟨S128x1, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x1024, .f32⟩
  | .hbm, ⟨51, _⟩ => ⟨S128x1024, .f32⟩
  | .hbm, ⟨52, _⟩ => ⟨S1x1024, .f32⟩
  | .hbm, ⟨53, _⟩ => ⟨S128x1024, .f32⟩
  | .hbm, ⟨54, _⟩ => ⟨S128x1024, .f32⟩
  | .hbm, ⟨55, _⟩ => ⟨S1x1024, .f32⟩
  | .hbm, ⟨56, _⟩ => ⟨S128x1024, .f32⟩
  | .hbm, ⟨57, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Ssm.Prompt.Rules.lean ====
/-
  A judgement for the body of the prompt's state-space kernel. `Does M s p Q` says that the program `p`, run from the contents
  `s` of the kernel's sixteen buffers `M`, terminates without fault at contents `s'` and with a result `a` for which `Q a s'`.
  Its rules are the ones that the kernel is built from: sequencing, loads and stores of the buffers, and counted loops.
-/
module

public import proofs.«01_k».proof.Proof.Gen.Kernel8Ideal
public import Idealize.ShloMosaic.Lib.Pipeline.Sound

@[expose] public section

noncomputable section

namespace Cert.Proof.Ssm.Prompt

open Cert.Kernel8Ideal Cert.Kernel8Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost algebra: the rounds library's over the machine's cells. -/
abbrev UR (nD : Nat) (τ : Topo) : Type := Idealize.ShloMosaic.Rounds.URounds (GSem nD τ sig) Unit

local notation "𝕄" => MT nD τ sig Unit (Elt F) ℕ (UR nD τ) ℕ

/-- The kernel's sixteen buffers. -/
structure Mems where
  /-- Buffer 1: the block of u. -/
  a1 : Memref sig .tc .vmem S8x64x512 .f32
  h1 : a1.IsWhole
  /-- Buffer 2: the permutation of the rows. -/
  a2 : Memref sig .tc .vmem S512x512 .bf16
  h2 : a2.IsWhole
  /-- Buffer 3: its transpose. -/
  a3 : Memref sig .tc .vmem S512x512 .bf16
  h3 : a3.IsWhole
  /-- Buffer 4: the input matrix, slab by slab. -/
  a4 : Memref sig .tc .vmem S4x128x1024 .bf16
  h4 : a4.IsWhole
  /-- Buffer 5: the output matrix, slab by slab. -/
  a5 : Memref sig .tc .vmem S4x1024x128 .bf16
  h5 : a5.IsWhole
  /-- Buffer 6: the real parts of the diagonal. -/
  a6 : Memref sig .tc .vmem S8x2048 .f32
  h6 : a6.IsWhole
  /-- Buffer 7: the imaginary parts of the diagonal. -/
  a7 : Memref sig .tc .vmem S8x2048 .f32
  h7 : a7.IsWhole
  /-- Buffer 8: the skip vector. -/
  a8 : Memref sig .tc .vmem S1x512 .f32
  h8 : a8.IsWhole
  /-- Buffer 9: the gate's weights. -/
  a9 : Memref sig .tc .vmem S512x512 .bf16
  h9 : a9.IsWhole
  /-- Buffer 10: the block of the output. -/
  a10 : Memref sig .tc .vmem S8x64x512 .bf16
  h10 : a10.IsWhole
  /-- Buffer 11: the real parts of the last states. -/
  a11 : Memref sig .tc .vmem S8x2048 .f32
  h11 : a11.IsWhole
  /-- Buffer 12: the imaginary parts of the last states. -/
  a12 : Memref sig .tc .vmem S8x2048 .f32
  h12 : a12.IsWhole
  /-- Buffer 13: the states of the block's positions. -/
  a13 : Memref sig .tc .vmem S512x4096 .f32
  h13 : a13.IsWhole
  /-- Buffer 14: the block of u, position by position. -/
  a14 : Memref sig .tc .vmem S512x512 .f32
  h14 : a14.IsWhole
  /-- Buffer 15: the block of the output, position by position. -/
  a15 : Memref sig .tc .vmem S512x512 .bf16
  h15 : a15.IsWhole
  /-- Buffer 16: the state carried from block to block. -/
  a16 : Memref sig .tc .vmem S8x4096 .f32
  h16 : a16.IsWhole

/-- What the sixteen buffers hold. -/
structure St (F : FTy → Type) where
  /-- What buffer 1 holds. -/
  x1 : Vec F S8x64x512 .f32
  /-- What buffer 2 holds. -/
  x2 : Vec F S512x512 .bf16
  /-- What buffer 3 holds. -/
  x3 : Vec F S512x512 .bf16
  /-- What buffer 4 holds. -/
  x4 : Vec F S4x128x1024 .bf16
  /-- What buffer 5 holds. -/
  x5 : Vec F S4x1024x128 .bf16
  /-- What buffer 6 holds. -/
  x6 : Vec F S8x2048 .f32
  /-- What buffer 7 holds. -/
  x7 : Vec F S8x2048 .f32
  /-- What buffer 8 holds. -/
  x8 : Vec F S1x512 .f32
  /-- What buffer 9 holds. -/
  x9 : Vec F S512x512 .bf16
  /-- What buffer 10 holds. -/
  x10 : Vec F S8x64x512 .bf16
  /-- What buffer 11 holds. -/
  x11 : Vec F S8x2048 .f32
  /-- What buffer 12 holds. -/
  x12 : Vec F S8x2048 .f32
  /-- What buffer 13 holds. -/
  x13 : Vec F S512x4096 .f32
  /-- What buffer 14 holds. -/
  x14 : Vec F S512x512 .f32
  /-- What buffer 15 holds. -/
  x15 : Vec F S512x512 .bf16
  /-- What buffer 16 holds. -/
  x16 : Vec F S8x4096 .f32

/-- Core `c` owns the buffers, at the contents `s`. -/
def held (c : Dev nD) (M : Mems) (s : St F) : sProp 𝕄 :=
  iprop(owns (c : Thread nD τ) M.a1 fullShare s.x1 ∗ owns (c : Thread nD τ) M.a2 fullShare s.x2 ∗ owns (c : Thread nD τ) M.a3 fullShare s.x3 ∗ owns (c : Thread nD τ) M.a4 fullShare s.x4 ∗ owns (c : Thread nD τ) M.a5 fullShare s.x5 ∗ owns (c : Thread nD τ) M.a6 fullShare s.x6 ∗ owns (c : Thread nD τ) M.a7 fullShare s.x7 ∗ owns (c : Thread nD τ) M.a8 fullShare s.x8 ∗ owns (c : Thread nD τ) M.a9 fullShare s.x9 ∗ owns (c : Thread nD τ) M.a10 fullShare s.x10 ∗ owns (c : Thread nD τ) M.a11 fullShare s.x11 ∗ owns (c : Thread nD τ) M.a12 fullShare s.x12 ∗ owns (c : Thread nD τ) M.a13 fullShare s.x13 ∗ owns (c : Thread nD τ) M.a14 fullShare s.x14 ∗ owns (c : Thread nD τ) M.a15 fullShare s.x15 ∗ owns (c : Thread nD τ) M.a16 fullShare s.x16)

variable {c : Dev nD} {M : Mems}

/-- From the contents `s` the program ends without fault, at a result and contents that meet `Q`. -/
def Does (c : Dev nD) (M : Mems) (s : St F) {α : Type} (p : Prog (TpuEff nD τ sig (Elt F) Λ₀ .tc) α) (Q : α → St F → Prop) : Prop :=
  (held c M s : sProp 𝕄) ⊢ wp frame (wpE defs₀ Variants.none (c : Thread nD τ) none) Set.univ p
    fun a => iprop(∃ s', ⌜Q a s'⌝ ∗ held c M s')

variable (F) in
/-- A buffer among the sixteen: its contents can be read off and changed. -/
class Lens (c : Dev nD) (M : Mems) {S : Shape} {e : EltTy} (m : Memref sig .tc .vmem S e) where
  get : St F → Vec F S e
  set : St F → Vec F S e → St F
  same : ∀ s, set s (get s) = s
  take : ∀ s, (held c M s : sProp 𝕄) ⊢ iprop(owns (c : Thread nD τ) m fullShare (get s) ∗ (∀ X, owns (c : Thread nD τ) m fullShare X -∗ held c M (set s X)))

instance : Lens F c M M.a1 where
  get s := s.x1
  set s X := { s with x1 := X }
  same _ := rfl
  take s := by
    unfold held
    iintro ⟨H1, H2, H3, H4, H5, H6, H7, H8, H9, H10, H11, H12, H13, H14, H15, H16⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a2 where
  get s := s.x2
  set s X := { s with x2 := X }
  same _ := rfl
  take s := by
    unfold held
    iintro ⟨H1, H2, H3, H4, H5, H6, H7, H8, H9, H10, H11, H12, H13, H14, H15, H16⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a3 where
  get s := s.x3
  set s X := { s with x3 := X }
  same _ := rfl
  take s := by
    unfold held
    iintro ⟨H1, H2, H3, H4, H5, H6, H7, H8, H9, H10, H11, H12, H13, H14, H15, H16⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a4 where
  get s := s.x4
  set s X := { s with x4 := X }
  same _ := rfl
  take s := by
    unfold held
    iintro ⟨H1, H2, H3, H4, H5, H6, H7, H8, H9, H10, H11, H12, H13, H14, H15, H16⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a5 where
  get s := s.x5
  set s X := { s with x5 := X }
  same _ := rfl
  take s := by
    unfold held
    iintro ⟨H1, H2, H3, H4, H5, H6, H7, H8, H9, H10, H11, H12, H13, H14, H15, H16⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a6 where
  get s := s.x6
  set s X := { s with x6 := X }
  same _ := rfl
  take s := by
    unfold held
    iintro ⟨H1, H2, H3, H4, H5, H6, H7, H8, H9, H10, H11, H12, H13, H14, H15, H16⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a7 where
  get s := s.x7
  set s X := { s with x7 := X }
  same _ := rfl
  take s := by
    unfold held
    iintro ⟨H1, H2, H3, H4, H5, H6, H7, H8, H9, H10, H11, H12, H13, H14, H15, H16⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a8 where
  get s := s.x8
  set s X := { s with x8 := X }
  same _ := rfl
  take s := by
    unfold held
    iintro ⟨H1, H2, H3, H4, H5, H6, H7, H8, H9, H10, H11, H12, H13, H14, H15, H16⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a9 where
  get s := s.x9
  set s X := { s with x9 := X }
  same _ := rfl
  take s := by
    unfold held
    iintro ⟨H1, H2, H3, H4, H5, H6, H7, H8, H9, H10, H11, H12, H13, H14, H15, H16⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a10 where
  get s := s.x10
  set s X := { s with x10 := X }
  same _ := rfl
  take s := by
    unfold held
    iintro ⟨H1, H2, H3, H4, H5, H6, H7, H8, H9, H10, H11, H12, H13, H14, H15, H16⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a11 where
  get s := s.x11
  set s X := { s with x11 := X }
  same _ := rfl
  take s := by
    unfold held
    iintro ⟨H1, H2, H3, H4, H5, H6, H7, H8, H9, H10, H11, H12, H13, H14, H15, H16⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a12 where
  get s := s.x12
  set s X := { s with x12 := X }
  same _ := rfl
  take s := by
    unfold held
    iintro ⟨H1, H2, H3, H4, H5, H6, H7, H8, H9, H10, H11, H12, H13, H14, H15, H16⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a13 where
  get s := s.x13
  set s X := { s with x13 := X }
  same _ := rfl
  take s := by
    unfold held
    iintro ⟨H1, H2, H3, H4, H5, H6, H7, H8, H9, H10, H11, H12, H13, H14, H15, H16⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a14 where
  get s := s.x14
  set s X := { s with x14 := X }
  same _ := rfl
  take s := by
    unfold held
    iintro ⟨H1, H2, H3, H4, H5, H6, H7, H8, H9, H10, H11, H12, H13, H14, H15, H16⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a15 where
  get s := s.x15
  set s X := { s with x15 := X }
  same _ := rfl
  take s := by
    unfold held
    iintro ⟨H1, H2, H3, H4, H5, H6, H7, H8, H9, H10, H11, H12, H13, H14, H15, H16⟩
    isplitl [H15]; · iexact H15
    iintro %X H15
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

instance : Lens F c M M.a16 where
  get s := s.x16
  set s X := { s with x16 := X }
  same _ := rfl
  take s := by
    unfold held
    iintro ⟨H1, H2, H3, H4, H5, H6, H7, H8, H9, H10, H11, H12, H13, H14, H15, H16⟩
    isplitl [H16]; · iexact H16
    iintro %X H16
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

namespace Does

variable {α β : Type} {s : St F}

theorem pure {a : α} {Q : α → St F → Prop} (h : Q a s) : Does c M s (Pure.pure a : Prog (TpuEff nD τ sig (Elt F) Λ₀ .tc) α) Q := by
  unfold Does
  show (held c M s : sProp 𝕄) ⊢ wp frame (wpE defs₀ Variants.none (c : Thread nD τ) none) Set.univ (.ret a) _
  rw [wp_ret]
  refine BIBase.Entails.trans ?_ BI.fupd_intro
  iintro H
  iexists s
  isplitr
  · ipureintro; exact h
  iexact H

theorem bind {p : Prog (TpuEff nD τ sig (Elt F) Λ₀ .tc) α} {k : α → Prog (TpuEff nD τ sig (Elt F) Λ₀ .tc) β}
    {Q : α → St F → Prop} {R : β → St F → Prop}
    (hp : Does c M s p Q) (hk : ∀ a s', Q a s' → Does c M s' (k a) R) : Does c M s (p >>= k) R := by
  unfold Does at *
  rw [wp_bind]
  refine hp.trans (wp_mono _ _ _ fun a => ?_)
  iintro ⟨%s', %h, H⟩
  iapply (hk a s' h)
  iexact H

theorem mono {p : Prog (TpuEff nD τ sig (Elt F) Λ₀ .tc) α} {Q R : α → St F → Prop}
    (hp : Does c M s p Q) (h : ∀ a s', Q a s' → R a s') : Does c M s p R := by
  unfold Does at *
  refine hp.trans (wp_mono _ _ _ fun a => ?_)
  iintro ⟨%s', %hq, H⟩
  iexists s'
  isplitr
  · ipureintro; exact h a s' hq
  iexact H

theorem load {S : Shape} {e : EltTy} {m : Memref sig .tc .vmem S e} [L : Lens F c M m] {r : LoadRect S} {hl : m.view.LoadsAt r}
    {Q : (r.shape.Idx → Elt F e) → St F → Prop} (h : Q (fun x => L.get s (r.idx x)) s) :
    Does c M s (Prog.lift (.load m r hl)) Q := by
  unfold Does
  refine (L.take s).trans ?_
  unfold owns
  iintro ⟨⟨%f, %hf, H⟩, Hb⟩
  iapply (wp_load Variants.none (c : Thread nD τ) none Set.univ (m.view.setOn_subset_set r.set)) $$ H
  iintro H
  rw [wp_ret]
  imodintro
  iexists (L.set s (L.get s))
  isplitr
  · ipureintro
    rw [L.same, show View.readAt (Elt F) m.view r f = fun x => L.get s (r.idx x) from by rw [← hf]; rfl]; exact h
  iapply Hb
  iexists f
  isplitr
  · ipureintro; exact hf
  iexact H

theorem store {S : Shape} {e : EltTy} {m : Memref sig .tc .vmem S e} [L : Lens F c M m] {r : Rect S} {w : r.shape.Idx → Elt F e}
    {hx : (m.access r).Stores Finset.univ} {hm : (Finset.univ : Finset r.shape.Idx) = Finset.univ ∨ ∀ a, r.stride a = 1}
    {Q : PUnit → St F → Prop}
    (h : ∀ X : Vec F S e, (∀ x, X (r.toLoadRect.idx x) = w x) → (∀ j, j ∉ r.toLoadRect.set → X j = L.get s j) → Q ⟨⟩ (L.set s X)) :
    Does c M s (Prog.lift (.store m r w Finset.univ hx hm)) Q := by
  unfold Does
  refine (L.take s).trans ?_
  unfold owns
  iintro ⟨⟨%f, %hf, H⟩, Hb⟩
  iapply (wp_store Variants.none (c : Thread nD τ) none Set.univ (m := m)
    (((m.access r).setOn_subset_set Finset.univ).trans (View.set_slice_subset _ _))) $$ H
  iintro H
  rw [wp_ret]
  imodintro
  iexists (L.set s (m.view.read (Elt F) ((m.access r).write (Elt F) f w Finset.univ)))
  isplitr
  · ipureintro
    refine h _ (fun x => ?_) fun j hj => ?_
    · exact congrFun (View.read_write_univ (v := m.access r) f w) x
    · rw [← hf]
      show _root_.cast _ (((m.access r).write (Elt F) f w Finset.univ) (m.view.emb j)) = _root_.cast _ (f (m.view.emb j))
      rw [View.write_of_not_mem]
      intro hm'
      obtain ⟨x, -, hx⟩ := Finset.mem_map.mp hm'
      exact hj (m.view.emb.injective hx ▸ r.toLoadRect.idx_mem x)
  iapply Hb
  iexists _
  isplitr
  · ipureintro; rfl
  iexact H

/-- A counted loop keeps an invariant that each trip carries on. -/
theorem loop {σ : Type} {w : Nat} {l : Scf.Loop w} {hok : l.OK} {init : σ}
    {body : Fin l.trips → σ → Prog (TpuEff nD τ sig (Elt F) Λ₀ .tc) σ} (I : Nat → σ → St F → Prop) {Q : σ → St F → Prop}
    (h0 : I 0 init s) (h : ∀ (k : Fin l.trips) a s', I k a s' → Does c M s' (body k a) (I (k.val + 1)))
    (hQ : ∀ a s', I l.trips a s' → Q a s') : Does c M s (Scf.Loop.for l hok init body) Q := by
  unfold Does at *
  refine BIBase.Entails.trans ?_ (Scf.wp_for frame (wpE defs₀ Variants.none (c : Thread nD τ) none) Set.univ l.lb l.ub l.st hok init body
    (fun n a => iprop(∃ s', ⌜I n a s'⌝ ∗ held c M s')) (fun k a => ?_))
  · iintro H
    isplitl [H]
    · iexists s
      isplitr
      · ipureintro; exact h0
      iexact H
    iintro %a ⟨%s', %hI, H⟩
    iexists s'
    isplitr
    · ipureintro; exact hQ a s' hI
    iexact H
  · iintro ⟨%s', %hI, H⟩
    iapply (h k a s' hI)
    iexact H

end Does

end Cert.Proof.Ssm.Prompt

end
-- ==== Proof.Ssm.Prompt.Safe.lean ====
/-
  The body of the prompt's state-space kernel ends without fault from any contents of its buffers: stretch by stretch, then whole.
-/
module

public import proofs.«01_k».proof.Proof.Ssm.Prompt.Rules

@[expose] public section

noncomputable section

namespace Cert.Proof.Ssm.Prompt

open Cert.Kernel8Ideal Cert.Kernel8Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] {c : Dev nD} {M : Mems} {i : grid0.Coords}

set_option maxHeartbeats 4000000 in
theorem ends_k0_part1 : ∀ (s : St F), Does c M s (k0_part1 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16) (fun _ _ => True) := by
  intros; unfold k0_part1
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part2 : ∀ (s : St F) v23 v26, Does c M s (k0_part2 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v23 v26) (fun _ _ => True) := by
  intros; unfold k0_part2
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part3 : ∀ (s : St F) v35 v60, Does c M s (k0_part3 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v35 v60) (fun _ _ => True) := by
  intros; unfold k0_part3
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part4 : ∀ (s : St F) v85 v89 v90, Does c M s (k0_part4 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v85 v89 v90) (fun _ _ => True) := by
  intros; unfold k0_part4
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part5 : ∀ (s : St F) v122 v124 cst_79, Does c M s (k0_part5 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v122 v124 cst_79) (fun _ _ => True) := by
  intros; unfold k0_part5
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part6 : ∀ (s : St F) v149 v151 v152, Does c M s (k0_part6 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v149 v151 v152) (fun _ _ => True) := by
  intros; unfold k0_part6
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part7 : ∀ (s : St F) v177 v179, Does c M s (k0_part7 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v177 v179) (fun _ _ => True) := by
  intros; unfold k0_part7
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part8 : ∀ (s : St F) v200 v202 v204 v206 cst_165, Does c M s (k0_part8 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v200 v202 v204 v206 cst_165) (fun _ _ => True) := by
  intros; unfold k0_part8
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part9 : ∀ (s : St F) v234 v236, Does c M s (k0_part9 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v234 v236) (fun _ _ => True) := by
  intros; unfold k0_part9
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part10 : ∀ (s : St F) v267 v270 v272 cst_218, Does c M s (k0_part10 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v267 v270 v272 cst_218) (fun _ _ => True) := by
  intros; unfold k0_part10
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part11 : ∀ (s : St F) v274 v285 v296 v298 v300 v301, Does c M s (k0_part11 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v274 v285 v296 v298 v300 v301) (fun _ _ => True) := by
  intros; unfold k0_part11
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_k0_part12 : ∀ (s : St F) v339, Does c M s (k0_part12 i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 v339) (fun _ _ => True) := by
  intros; unfold k0_part12
  repeat' first | extract_lets | with_reducible exact Does.pure trivial | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

set_option maxHeartbeats 4000000 in
theorem ends_cc0_ssm_prompt : ∀ (s : St F), Does c M s (cc0_ssm_prompt i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16) (fun _ _ => True) := by
  intros; unfold cc0_ssm_prompt
  repeat' first | extract_lets | with_reducible exact Does.pure trivial | with_reducible exact ends_k0_part1 .. | with_reducible exact ends_k0_part2 .. | with_reducible exact ends_k0_part3 .. | with_reducible exact ends_k0_part4 .. | with_reducible exact ends_k0_part5 .. | with_reducible exact ends_k0_part6 .. | with_reducible exact ends_k0_part7 .. | with_reducible exact ends_k0_part8 .. | with_reducible exact ends_k0_part9 .. | with_reducible exact ends_k0_part10 .. | with_reducible exact ends_k0_part11 .. | with_reducible exact ends_k0_part12 .. | with_reducible refine Does.load trivial | with_reducible refine Does.store fun _ _ _ => trivial | with_reducible refine Does.loop (fun _ _ _ => True) trivial (fun _ _ _ _ => ?_) (fun _ _ _ => trivial) | with_reducible refine Does.bind (Q := fun _ _ => True) ?_ fun _ _ _ => ?_ | split

end Cert.Proof.Ssm.Prompt

end
-- ==== Proof.Ssm.Prompt.Entry.lean ====
/-
  What the core's arrays hold when the grid is entered: what the host's preparation leaves in them (`V`). The preparation
  writes none of the ten arguments.
-/
module

public import proofs.«01_k».proof.Proof.Gen.Kernel8Ideal.Launch
public import Idealize.ShloMosaic.Lib.Pipeline.Frame

@[expose] public section

set_option maxRecDepth 16384

noncomputable section

namespace Cert.Proof.Ssm.Prompt

open Cert.Kernel8Ideal Cert.Kernel8Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The arrays of core `c` after the host's preparation. -/
def V (c : Dev nD) (b : Ref sig .tc) : Buf (Elt F) ((c : Thread nD τ).loc b) :=
  StableHlo.after (List.flatten [hostOps0, hostOps0_1, hostOps0_2, hostOps0_3, hostOps0_4]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor

/-- What no host operation writes is as it was launched. -/
theorem V_of_unwritten (c : Dev nD) (b : Ref sig .tc)
    (h : (List.flatten [hostOps0, hostOps0_1, hostOps0_2, hostOps0_3, hostOps0_4] : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) :=
  V_of_unwritten m c main_arg0 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg1 (c : Dev nD) : V m c main_arg1 = m ((c : Thread nD τ).loc main_arg1) :=
  V_of_unwritten m c main_arg1 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg2 (c : Dev nD) : V m c main_arg2 = m ((c : Thread nD τ).loc main_arg2) :=
  V_of_unwritten m c main_arg2 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg3 (c : Dev nD) : V m c main_arg3 = m ((c : Thread nD τ).loc main_arg3) :=
  V_of_unwritten m c main_arg3 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg4 (c : Dev nD) : V m c main_arg4 = m ((c : Thread nD τ).loc main_arg4) :=
  V_of_unwritten m c main_arg4 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg5 (c : Dev nD) : V m c main_arg5 = m ((c : Thread nD τ).loc main_arg5) :=
  V_of_unwritten m c main_arg5 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg6 (c : Dev nD) : V m c main_arg6 = m ((c : Thread nD τ).loc main_arg6) :=
  V_of_unwritten m c main_arg6 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg7 (c : Dev nD) : V m c main_arg7 = m ((c : Thread nD τ).loc main_arg7) :=
  V_of_unwritten m c main_arg7 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg8 (c : Dev nD) : V m c main_arg8 = m ((c : Thread nD τ).loc main_arg8) :=
  V_of_unwritten m c main_arg8 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

theorem V_arg9 (c : Dev nD) : V m c main_arg9 = m ((c : Thread nD τ).loc main_arg9) :=
  V_of_unwritten m c main_arg9 (by
    simp only [hostOps0, hostOps0_1, hostOps0_2, hostOps0_3, hostOps0_4, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

end Cert.Proof.Ssm.Prompt

end
-- ==== Proof.Ssm.Prompt.Run.lean ====
/-
  The run of the prompt's state-space kernel. At every grid point the body is handed its twelve staged blocks and its four
  scratch buffers at some contents and hands them back at some contents; nothing is said of what any block holds. The
  arguments end as they began: one is only fetched, and the others are no block's array.
-/
module

public import proofs.«01_k».proof.Proof.Ssm.Prompt.Safe
public import proofs.«01_k».proof.Proof.Ssm.Prompt.Entry
public import proofs.«01_k».proof.Proof.Gen.Kernel8Ideal.Points

@[expose] public section

set_option maxRecDepth 16384

noncomputable section

namespace Cert.Proof.Ssm.Prompt

open Cert.Kernel8Ideal Cert.Kernel8Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligationLoose ΦA)

variable {F : FTy → Type} [FloatOps F] [∀ e, Nonempty (Elt F e)]

local notation "𝕄" => MT nD τ sig Unit (Elt F) ℕ (UR nD τ) ℕ

/-- The buffers the body runs with at point `t`. -/
def mems (t : Fin cfg0.N) : Mems where
  a1 := st0_0 t
  h1 := hstage0_0 ((cfg0.slots t 0).cast nbuf0_0)
  a2 := st0_1 t
  h2 := hstage0_1 ((cfg0.slots t 1).cast nbuf0_1)
  a3 := st0_2 t
  h3 := hstage0_2 ((cfg0.slots t 2).cast nbuf0_2)
  a4 := st0_3 t
  h4 := hstage0_3 ((cfg0.slots t 3).cast nbuf0_3)
  a5 := st0_4 t
  h5 := hstage0_4 ((cfg0.slots t 4).cast nbuf0_4)
  a6 := st0_5 t
  h6 := hstage0_5 ((cfg0.slots t 5).cast nbuf0_5)
  a7 := st0_6 t
  h7 := hstage0_6 ((cfg0.slots t 6).cast nbuf0_6)
  a8 := st0_7 t
  h8 := hstage0_7 ((cfg0.slots t 7).cast nbuf0_7)
  a9 := st0_8 t
  h9 := hstage0_8 ((cfg0.slots t 8).cast nbuf0_8)
  a10 := st0_9 t
  h10 := hstage0_9 ((cfg0.slots t 9).cast nbuf0_9)
  a11 := st0_10 t
  h11 := hstage0_10 ((cfg0.slots t 10).cast nbuf0_10)
  a12 := st0_11 t
  h12 := hstage0_11 ((cfg0.slots t 11).cast nbuf0_11)
  a13 := Memref.whole cc0_scratch0
  h13 := Memref.isWhole_whole _
  a14 := Memref.whole cc0_scratch1
  h14 := Memref.isWhole_whole _
  a15 := Memref.whole cc0_scratch2
  h15 := Memref.isWhole_whole _
  a16 := Memref.whole cc0_scratch3
  h16 := Memref.isWhole_whole _

/-- A buffer held at some contents is its cells owned at some contents. -/
theorem whole_owned (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns
  iintro ⟨%f, H⟩
  iexists _, f
  isplitr
  · ipureintro; rfl
  simp only [Memref.view_whole, View.set_whole]
  iexact H

theorem owned_whole (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  unfold owns
  iintro ⟨%X, %f, -, H⟩
  iexists f
  simp only [Memref.view_whole, View.set_whole]
  iexact H

variable (m : (ℓ : Loc nD τ sig) → Buf (Elt F) ℓ) (ρ : Dev nD → PrngReg)

/-- The arrays as the grid finds them; nothing named of what the body leaves. -/
def loose (_ : Fin 1) (c : Dev nD) : Dat τ (Elt F) Unit ℕ (UR nD τ) ℕ cfg0 c where
  A w := V m c (Pipeline.arrRef spec0 w)
  after _ _ := Classical.arbitrary _
  Φ _ := ΦA spec0 c
  q _ := fullShare
  owed _ := 0

theorem loose_obligation (c : Dev nD) :
    BodyObligationLoose (loose m 0 c) (defs₀ (F := F)) Variants.none () Set.univ (fun _ => true) := by
  intro t
  rw [show (loose m 0 c).Φ t.succ = ΦA spec0 c from rfl, show (loose m 0 c).Φ t.castSucc = ΦA spec0 c from rfl,
    show (loose m 0 c).owesAt () t.succ = (loose m 0 c).owesAt () t.castSucc from rfl]
  show iprop(ΦA spec0 c ∗ (loose m 0 c).owesAt () t.castSucc
      ∗ bigSep Finset.univ fun w : Fin 12 => iprop(∃ X, owns (c : Thread nD τ) ((cfg0.win w).stage (cfg0.slots t w)) fullShare X))
    ⊢ wp frame (wpE (defs₀ (F := F)) Variants.none c none) Set.univ (bodyAt0 t) fun _ =>
      iprop(ΦA spec0 c ∗ (loose m 0 c).owesAt () t.castSucc
      ∗ bigSep Finset.univ fun w : Fin 12 => iprop(∃ X, owns (c : Thread nD τ) ((cfg0.win w).stage (cfg0.slots t w)) fullShare X))
  unfold ΦA
  rw [bigSep_W0, scopedRest0_eq]
  iintro ⟨⟨⟨HA, HB, HC, HD⟩, Hr⟩, Ho, ⟨%X0, H0⟩, ⟨%X1, H1⟩, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩⟩
  ihave HA := whole_owned c cc0_scratch0 $$ HA
  icases HA with ⟨%Y0, HA⟩
  ihave HB := whole_owned c cc0_scratch1 $$ HB
  icases HB with ⟨%Y1, HB⟩
  ihave HC := whole_owned c cc0_scratch2 $$ HC
  icases HC with ⟨%Y2, HC⟩
  ihave HD := whole_owned c cc0_scratch3 $$ HD
  icases HD with ⟨%Y3, HD⟩
  have hb := ends_cc0_ssm_prompt (c := c) (M := mems t) (i := grid0.coords t) ⟨X0, X1, X2, X3, X4, X5, X6, X7, X8, X9, X10, X11, Y0, Y1, Y2, Y3⟩
  unfold Does held at hb
  iapply wp_wand_r
  isplitl [H0 H1 H2 H3 H4 H5 H6 H7 H8 H9 H10 H11 HA HB HC HD]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HA]; · iexact HA
    isplitl [HB]; · iexact HB
    isplitl [HC]; · iexact HC
    iexact HD
  iintro %a ⟨%s', -, H0, H1, H2, H3, H4, H5, H6, H7, H8, H9, H10, H11, HA, HB, HC, HD⟩
  isplitl [HA HB HC HD Hr]
  · isplitl [HA HB HC HD]
    · isplitl [HA]; · iapply owned_whole c cc0_scratch0; iexists _; iexact HA
      isplitl [HB]; · iapply owned_whole c cc0_scratch1; iexists _; iexact HB
      isplitl [HC]; · iapply owned_whole c cc0_scratch2; iexists _; iexact HC
      iapply owned_whole c cc0_scratch3; iexists _; iexact HD
    iexact Hr
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Proof.Ssm.Prompt

end
-- ==== Proof.Ssm.Prompt.Frame.lean ====
/-
  The run of the prompt's state-space kernel leaves its ten arguments as they were: one is only fetched, and the others are
  no block's array.
-/
module

public import proofs.«01_k».proof.Proof.Ssm.Prompt.Run

@[expose] public section

set_option maxRecDepth 16384

noncomputable section

namespace Cert.Proof.Ssm.Prompt

open Cert.Kernel8Ideal Cert.Kernel8Ideal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg BodyObligationLoose ΦA)

variable {F : FTy → Type} [FloatOps F] [∀ e, Nonempty (Elt F e)]

variable (m : (ℓ : Loc nD τ sig) → Buf (Elt F) ℓ) (ρ : Dev nD → PrngReg)

theorem loose_share (c : Dev nD) (w : Fin cfg0.W) : (loose m 0 c).share w = fullShare := by
  unfold Dat.share; split <;> rfl

set_option maxHeartbeats 1600000 in
theorem enters : Pipeline.HMain (Ix := Unit) (Name := ℕ) (U := Idealize.ShloMosaic.UR sig nD τ) (Lvl := ℕ) cfgs 0 defs₀ Variants.none m (main (F := F)) (V m) :=
  Pipeline.hmain_prefixes cfgs 0 defs₀ Variants.none m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨fresh0, fresh1, fresh2, fresh3, fresh4⟩) main_chain

theorem loose_A (c : Dev nD) (w : Fin cfg0.W) : (loose m 0 c).A w = V m c (Pipeline.arrRef cfg0.spec w) := rfl

theorem loose_Φ (c : Dev nD) (t : Fin (cfg0.N + 1)) : (loose m 0 c).Φ t = ΦA cfg0.spec c := rfl

theorem loose_owed (c : Dev nD) (t : Fin (cfg0.N + 1)) : (loose m 0 c).owed t = 0 := rfl

/-- What the launch ends with: the arrays of the windows and every array that is no window's, and the counters. -/
def Ends (r : PUnit × MemSt nD τ sig (Elt F)) : Prop :=
  Pipeline.RDat.FramePost cfg0 (fun c => (loose m 0 c).toRForget fun _ => true) (V m) r ∧ r.2.sem = fun _ => 0

set_option maxHeartbeats 1600000 in
theorem ran : θ_run defs (onTc (τ := τ) (main (F := F))) ⟨m, fun _ => 0, ρ⟩ (Ends m) := by
  refine Pipeline.θ_run_frame_forget cfgs (loose m) 0 launch0 defs₀ Variants.none (fun _ => true) m ρ main
    (loose_obligation m) (loose_share m) (loose_owed m) (V m) ?_ (loose_A m) (loose_Φ m) (Ends m) (fun r h => h)
  have h := enters m
  generalize V m = W at *
  exact h

/-- At the compiled mesh, for any float values, from any memory with zero counters, every weakly fair execution terminates
    without fault, the ten arguments end unchanged and every counter is zero again. -/
theorem run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono
    (fun r h => ⟨fun c => ⟨(h.1.arr_in c (0 : Fin 12) rfl).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c),
      ((h.1 c).2 main_arg3 (Pipeline.mem_restRefs_of main_arg3 (by decide) (by decide))).trans (V_arg3 m c),
      ((h.1 c).2 main_arg4 (Pipeline.mem_restRefs_of main_arg4 (by decide) (by decide))).trans (V_arg4 m c),
      ((h.1 c).2 main_arg5 (Pipeline.mem_restRefs_of main_arg5 (by decide) (by decide))).trans (V_arg5 m c),
      ((h.1 c).2 main_arg6 (Pipeline.mem_restRefs_of main_arg6 (by decide) (by decide))).trans (V_arg6 m c),
      ((h.1 c).2 main_arg7 (Pipeline.mem_restRefs_of main_arg7 (by decide) (by decide))).trans (V_arg7 m c),
      ((h.1 c).2 main_arg8 (Pipeline.mem_restRefs_of main_arg8 (by decide) (by decide))).trans (V_arg8 m c),
      ((h.1 c).2 main_arg9 (Pipeline.mem_restRefs_of main_arg9 (by decide) (by decide))).trans (V_arg9 m c)⟩, h.2⟩) (ran m ρ)

end Cert.Proof.Ssm.Prompt

end
-- ==== Proof.Attn.Safe.lean ====
/-
  A judgement for the frame of the attention kernel. `Safe P bd p` says that the program `p`, run while holding `P`,
  terminates without fault and gives `P` back. It is meant for a `P` that owns every buffer `p` touches at SOME contents:
  then nothing has to be said of the values the program computes, and the judgement is closed under everything the kernel
  is built from — sequencing, loads and stores of owned buffers, assumptions that hold, branches, counted loops and calls
  of labels.
-/
module

public import proofs.«01_k».proof.Proof.Gen.Kernel
public import Idealize.ShloMosaic.Lib.Pipeline.Sound

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

/-- The ghost algebra: the rounds library's over the machine's cells. -/
abbrev UR (nD : Nat) (τ : Topo) : Type := Idealize.ShloMosaic.Rounds.URounds (GSem nD τ sig) Unit

local notation "𝕄" => MT nD τ sig Unit (Elt F) ℕ (UR nD τ) ℕ

/-- The variants of the two while loops: the trips they may still make. -/
abbrev 𝒱₀ : Variants := Variants.nat

variable {c : Dev nD} {P : sProp (MT nD τ sig Unit (Elt F) ℕ (UR nD τ) ℕ)} {bd : Option ℕ}

/-- Run while holding `P`, the program ends without fault and holds `P` again. -/
def Safe (c : Dev nD) (P : sProp 𝕄) (bd : Option ℕ) {α : Type} (p : Prog (TpuEff nD τ sig (Elt F) (Λ₀ F) .tc) α) : Prop :=
  P ⊢ wp frame (wpE defs₀ 𝒱₀ (c : Thread nD τ) bd) Set.univ p fun _ => P

/-- A memref's elements, owned at some contents. -/
def Own (c : Dev nD) {sp : Space} {s : Shape} {e : EltTy} (m : Memref sig .tc sp s e) : sProp 𝕄 :=
  iprop(∃ f, (m.view.loc (c : Thread nD τ) ↦[m.view.set]{fullShare} f))

/-- `P` owns the memref: it can be taken out and put back at any contents. -/
def Has (c : Dev nD) (P : sProp 𝕄) {sp : Space} {s : Shape} {e : EltTy} (m : Memref sig .tc sp s e) : Prop :=
  P ⊢ iprop(Own c m ∗ (Own c m -∗ P))

namespace Safe

variable {α β : Type}

theorem pure (a : α) : Safe c P bd (Pure.pure a : Prog (TpuEff nD τ sig (Elt F) (Λ₀ F) .tc) α) := by
  unfold Safe
  show P ⊢ wp frame (wpE defs₀ 𝒱₀ (c : Thread nD τ) bd) Set.univ (.ret a) fun _ => P
  rw [wp_ret]
  exact BI.fupd_intro

theorem bind {p : Prog (TpuEff nD τ sig (Elt F) (Λ₀ F) .tc) α} {k : α → Prog (TpuEff nD τ sig (Elt F) (Λ₀ F) .tc) β}
    (hp : Safe c P bd p) (hk : ∀ x, Safe c P bd (k x)) : Safe c P bd (p >>= k) := by
  unfold Safe at *
  rw [wp_bind]
  exact hp.trans (wp_mono _ _ _ fun x => hk x)

theorem load {sp : CoreSpace} {s : Shape} {e : EltTy} {m : Memref sig .tc sp s e} {r : LoadRect s} {hl : m.view.LoadsAt r}
    (h : Has c P m) : Safe c P bd (Prog.lift (.load m r hl)) := by
  unfold Safe
  refine h.trans ?_
  unfold Own
  iintro ⟨⟨%f, H⟩, Hb⟩
  iapply (wp_load 𝒱₀ (c : Thread nD τ) bd Set.univ (m.view.setOn_subset_set r.set)) $$ H
  iintro H
  rw [wp_ret]
  imodintro
  iapply Hb
  iexists f
  iexact H

theorem smemLoad {s : Shape} {e : EltTy} {m : Memref sig .tc .smem s e} {r : Rect s} {h1 : r.shape.numel = 1} {hp : e.packing = 1}
    (h : Has c P m) : Safe c P bd (Idealize.ShloMosaic.smemLoad m r h1 hp) := by
  unfold Safe
  refine h.trans ?_
  unfold Own Idealize.ShloMosaic.smemLoad smemLoadElt
  iintro ⟨⟨%f, H⟩, Hb⟩
  iapply (wp_load 𝒱₀ (c : Thread nD τ) bd Set.univ (m.view.setOn_subset_set r.toLoadRect.set)) $$ H
  iintro H
  rw [wp_ret]
  imodintro
  iapply Hb
  iexists f
  iexact H

theorem store {sp : CoreSpace} {s : Shape} {e : EltTy} {m : Memref sig .tc sp s e} {r : Rect s} {w : r.shape.Idx → Elt F e}
    {Mk : Finset r.shape.Idx} {hx : (m.access r).Stores Mk} {hm : Mk = Finset.univ ∨ ∀ a, r.stride a = 1}
    (h : Has c P m) : Safe c P bd (Prog.lift (.store m r w Mk hx hm)) := by
  unfold Safe
  refine h.trans ?_
  unfold Own
  iintro ⟨⟨%f, H⟩, Hb⟩
  iapply (wp_store 𝒱₀ (c : Thread nD τ) bd Set.univ (m := m)
    (((m.access r).setOn_subset_set Mk).trans (View.set_slice_subset _ _))) $$ H
  iintro H
  rw [wp_ret]
  imodintro
  iapply Hb
  iexists _
  iexact H

theorem assume {p : Prop} {d : Decidable p} (h : p) : Safe c P bd (Prog.lift (TpuEff.assume p d)) := by
  unfold Safe
  refine BIBase.Entails.trans ?_ (wp_assume 𝒱₀ (c : Thread nD τ) bd Set.univ h)
  rw [wp_ret]
  exact BI.fupd_intro

/-- A counted loop is safe when each trip is. -/
theorem loop {σ : Type} {w : Nat} {l : Scf.Loop w} {hok : l.OK} {init : σ}
    {body : Fin l.trips → σ → Prog (TpuEff nD τ sig (Elt F) (Λ₀ F) .tc) σ}
    (h : ∀ k a, Safe c P bd (body k a)) : Safe c P bd (Scf.Loop.for l hok init body) := by
  unfold Scf.Loop.for
  rw [Scf.for_eq]
  generalize List.finRange (Scf.trips l.lb l.ub l.st) = ks
  induction ks generalizing init with
  | nil => exact Safe.pure init
  | cons k ks ih => rw [Scf.forFrom_cons]; exact Safe.bind (h k init) fun x => ih

/-- A call is safe when the label's body is, entered at a variant below the present one. -/
theorem call {ℓ : (Λ₀ F).Label} {a : (Λ₀ F).Args ℓ} (v : ℕ) (hv : ∀ u ∈ bd, v < u)
    (h : Safe c P (some v) (defs₀ (F := F) .tc ℓ a)) : Safe c P bd (Prog.lift (.call ℓ a)) := by
  unfold Safe at *
  refine h.trans (BIBase.Entails.trans (wp_mono _ _ _ fun x => ?_) (wp_call 𝒱₀ (c : Thread nD τ) bd Set.univ v hv))
  rw [wp_ret]
  exact BI.fupd_intro

end Safe

/-- `P` owns the kernel's eighteen buffers: the nine staged blocks and the nine scratch buffers. -/
structure Held (c : Dev nD) (P : sProp (MT nD τ sig Unit (Elt F) ℕ (UR nD τ) ℕ))
    (arg2 : Memref sig .tc .vmem S1x512x256 .bf16)
    (arg3 : Memref sig .tc .vmem S1x256x256 .bf16)
    (arg4 : Memref sig .tc .vmem S1x8x256 .f32)
    (arg5 : Memref sig .tc .vmem S1x8192x512 .bf16)
    (arg6 : Memref sig .tc .vmem S1x512x8192 .bf16)
    (arg7 : Memref sig .tc .vmem S1x8192x32 .bf16)
    (arg8 : Memref sig .tc .vmem S8x2x256x256 .f32)
    (arg9 : Memref sig .tc .smem S8 .f32)
    (arg10 : Memref sig .tc .vmem S1x256x512 .bf16)
    (arg11 : Memref sig .tc .vmem S8192x256 .i32)
    (arg12 : Memref sig .tc .vmem S8192x256 .i16)
    (arg13 : Memref sig .tc .vmem S512x256 .f32)
    (arg14 : Memref sig .tc .vmem S8x128x256 .bf16)
    (arg15 : Memref sig .tc .vmem S8x1x256 .f32)
    (arg16 : Memref sig .tc .vmem S8x1x256 .f32)
    (arg17 : Memref sig .tc .vmem S2x8x1x256 .f32)
    (arg18 : Memref sig .tc .vmem S2x8x1x256 .f32)
    (arg19 : Memref sig .tc .vmem S2x8x256x256 .f32) : Prop where
  h2 : Has c P arg2
  h3 : Has c P arg3
  h4 : Has c P arg4
  h5 : Has c P arg5
  h6 : Has c P arg6
  h7 : Has c P arg7
  h8 : Has c P arg8
  h9 : Has c P arg9
  h10 : Has c P arg10
  h11 : Has c P arg11
  h12 : Has c P arg12
  h13 : Has c P arg13
  h14 : Has c P arg14
  h15 : Has c P arg15
  h16 : Has c P arg16
  h17 : Has c P arg17
  h18 : Has c P arg18
  h19 : Has c P arg19

end Cert.Proof.Attn

end
-- ==== Proof.Attn.While.lean ====
/-
  The two while loops of the selection: the bisection of the k-th largest score key, and that of the index at which a tie is cut.
  Each stops by its trip counter, which every trip raises: the variant is what the counter lacks to its bound.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg11 : Memref sig .tc .vmem S8192x256 .i32} {harg11 : arg11.IsWhole} {arg12 : Memref sig .tc .vmem S8192x256 .i16} {harg12 : arg12.IsWhole}

/-- What a counter below its bound lacks shrinks when a step is added that does not carry it past the signed range. -/
theorem lacks_lt (x n d : BitVec 32) (hn : n.toInt ≤ 1000) (hd : 0 < d.toInt) (hd' : d.toInt ≤ 1000)
    (h : Scalar.cmpi .slt x n = 1#1) : (n.toInt - (Scalar.addi x d).toInt).toNat < (n.toInt - x.toInt).toNat := by
  have hx : x.toInt < n.toInt := by
    simp only [Scalar.cmpi, IntOp.cmpi] at h
    by_contra hc
    have : x.slt n = false := by simp [BitVec.slt, hc]
    rw [this] at h
    exact absurd h (by decide)
  have hl := BitVec.le_toInt x
  have : (Scalar.addi x d).toInt = x.toInt + d.toInt := by
    show (x + d).toInt = _
    rw [BitVec.toInt_add]
    exact Int.bmod_eq_of_le (by omega) (by omega)
  omega

/-- The first word of a conjunction that is one is one. -/
theorem of_andi {a b : BitVec 1} (h : Scalar.andi a b = 1#1) : a = 1#1 := by
  revert a b; decide

section Bisect

variable (H : Has c P arg11)

include H

set_option maxHeartbeats 4000000 in
theorem s163 : ∀ v84 k0_hw1 arg20 arg21 arg22 arg23 arg24 v335 c0_i32_185 c1_i32_187 k0_t11 arg26, Safe c P bd (k0_part163 i v84 k0_hw1 arg11 harg11 arg20 arg21 arg22 arg23 arg24 v335 c0_i32_185 c1_i32_187 k0_t11 arg26) := by
  intros; unfold k0_part163; have h11 := H;
  repeat' first | extract_lets | with_reducible exact Safe.pure _ | with_reducible refine Safe.load ?_ | with_reducible assumption | with_reducible refine Safe.bind ?_ fun _ => ?_

set_option maxHeartbeats 4000000 in
theorem s164 : ∀ v84 k0_hw1 arg20 arg21 arg22 arg23 arg24 v335 k0_t11 arg25 v412 v458, Safe c P bd (k0_part164 i v84 k0_hw1 arg11 harg11 arg20 arg21 arg22 arg23 arg24 v335 k0_t11 arg25 v412 v458) := by
  intros; unfold k0_part164; have h11 := H;
  repeat' first | extract_lets | with_reducible exact Safe.pure _ | with_reducible refine Safe.load ?_ | with_reducible assumption | with_reducible refine Safe.bind ?_ fun _ => ?_

set_option maxHeartbeats 4000000 in
theorem s165 : ∀ v84 k0_hw1 arg20 arg21 arg22 arg23 arg24 v335 v341 c1_i32_188 k0_t12 arg26, Safe c P bd (k0_part165 i v84 k0_hw1 arg11 harg11 arg20 arg21 arg22 arg23 arg24 v335 v341 c1_i32_188 k0_t12 arg26) := by
  intros; unfold k0_part165; have h11 := H;
  repeat' first | extract_lets | with_reducible exact Safe.pure _ | with_reducible refine Safe.load ?_ | with_reducible assumption | with_reducible refine Safe.bind ?_ fun _ => ?_

set_option maxHeartbeats 4000000 in
theorem s166 : ∀ v84 k0_hw1 arg20 arg21 arg22 arg23 arg24 v335 k0_t12 arg25 v412 v458, Safe c P bd (k0_part166 i v84 k0_hw1 arg11 harg11 arg20 arg21 arg22 arg23 arg24 v335 k0_t12 arg25 v412 v458) := by
  intros; unfold k0_part166; have h11 := H;
  repeat' first | extract_lets | with_reducible exact Safe.pure _ | with_reducible refine Safe.load ?_ | with_reducible assumption | with_reducible refine Safe.bind ?_ fun _ => ?_

set_option maxHeartbeats 4000000 in
theorem s167 : ∀ v84 k0_hw1 arg20 arg21 arg22 arg23 arg24 v373 c0_i32_199 c1_i32_201 k0_t13 arg26, Safe c P bd (k0_part167 i v84 k0_hw1 arg11 harg11 arg20 arg21 arg22 arg23 arg24 v373 c0_i32_199 c1_i32_201 k0_t13 arg26) := by
  intros; unfold k0_part167; have h11 := H;
  repeat' first | extract_lets | with_reducible exact Safe.pure _ | with_reducible refine Safe.load ?_ | with_reducible assumption | with_reducible refine Safe.bind ?_ fun _ => ?_

set_option maxHeartbeats 4000000 in
theorem s168 : ∀ v84 k0_hw1 arg20 arg21 arg22 arg23 arg24 v373 k0_t13 arg25 v412 v458, Safe c P bd (k0_part168 i v84 k0_hw1 arg11 harg11 arg20 arg21 arg22 arg23 arg24 v373 k0_t13 arg25 v412 v458) := by
  intros; unfold k0_part168; have h11 := H;
  repeat' first | extract_lets | with_reducible exact Safe.pure _ | with_reducible refine Safe.load ?_ | with_reducible assumption | with_reducible refine Safe.bind ?_ fun _ => ?_

set_option maxHeartbeats 4000000 in
theorem s169 : ∀ v84 k0_hw1 arg20 arg21 arg22 arg23 arg24 v373 v379 c1_i32_202 k0_t14 arg26, Safe c P bd (k0_part169 i v84 k0_hw1 arg11 harg11 arg20 arg21 arg22 arg23 arg24 v373 v379 c1_i32_202 k0_t14 arg26) := by
  intros; unfold k0_part169; have h11 := H;
  repeat' first | extract_lets | with_reducible exact Safe.pure _ | with_reducible refine Safe.load ?_ | with_reducible assumption | with_reducible refine Safe.bind ?_ fun _ => ?_

set_option maxHeartbeats 4000000 in
theorem s170 : ∀ v84 k0_hw1 arg20 arg21 arg22 arg23 arg24 v373 k0_t14 arg25 v412 v458, Safe c P bd (k0_part170 i v84 k0_hw1 arg11 harg11 arg20 arg21 arg22 arg23 arg24 v373 k0_t14 arg25 v412 v458) := by
  intros; unfold k0_part170; have h11 := H;
  repeat' first | extract_lets | with_reducible exact Safe.pure _ | with_reducible refine Safe.load ?_ | with_reducible assumption | with_reducible refine Safe.bind ?_ fun _ => ?_

set_option maxHeartbeats 4000000 in
theorem s171 : ∀ v84 k0_hw1 arg20 arg21 arg22 arg23 arg24 v23, Safe c P bd (k0_part171 i v84 k0_hw1 arg11 harg11 arg20 arg21 arg22 arg23 arg24 v23) := by
  intros; unfold k0_part171;
  repeat' first | extract_lets | with_reducible exact Safe.pure _ | with_reducible refine Safe.loop fun _ _ => ?_ | with_reducible exact s163 H .. | with_reducible exact s164 H .. | with_reducible exact s165 H .. | with_reducible exact s166 H .. | with_reducible assumption | with_reducible refine Safe.bind ?_ fun _ => ?_ | split

set_option maxHeartbeats 2000000 in
theorem while1_safe (n : ℕ) : ∀ v84 k0_hw1 arg20 arg21 arg22 arg23 arg24, ((34#32).toInt - arg20.toInt).toNat = n →
    Safe c P (some n) (cc0_while1 (F := F) i v84 k0_hw1 arg11 harg11 arg20 arg21 arg22 arg23 arg24) := by
  induction n using Nat.strong_induction_on with
  | _ n ih =>
  intro v84 k0_hw1 arg20 arg21 arg22 arg23 arg24 hn
  unfold cc0_while1
  extract_lets
  split
  · rename_i hc
    have hlt := lacks_lt arg20 34#32 2#32 (by decide) (by decide) (by decide) (of_andi hc)
    repeat' first | extract_lets | with_reducible exact Safe.pure _ | with_reducible refine Safe.loop fun _ _ => ?_ | with_reducible exact s167 H .. | with_reducible exact s168 H .. | with_reducible exact s169 H .. | with_reducible exact s170 H .. | with_reducible exact s171 H .. | with_reducible refine Safe.bind ?_ fun _ => ?_ | split | (refine Safe.call _ (fun u hu => ?_) (ih _ (hn ▸ hlt) _ k0_hw1 _ _ _ _ _ rfl); cases hu; exact hn ▸ hlt)
  · exact Safe.pure _

set_option maxHeartbeats 2000000 in
theorem while1_call (v84 : BitVec 32) (k0_hw1 : k0_chk1 v84) (arg20 : BitVec 32) (arg21 arg22 arg23 arg24 : IVec S1x256 32) :
    Safe (F := F) c P none (Prog.lift (.call (1 : (Λ₀ F).Label) ⟨i, v84, k0_hw1, arg11, harg11, arg20, arg21, arg22, arg23, arg24⟩)) :=
  Safe.call _ (fun _ h => nomatch h) (while1_safe H _ v84 k0_hw1 arg20 arg21 arg22 arg23 arg24 rfl)

end Bisect

section Tie

variable (H : Has c P arg12)

include H

set_option maxHeartbeats 4000000 in
theorem s172 : ∀ v84 k0_hw1 v119 v124 v114 arg20 arg21 arg22 v329 c0_i32_183 c1_i32_185 k0_t17 arg24, Safe c P bd (k0_part172 i v84 k0_hw1 v119 v124 arg12 harg12 v114 arg20 arg21 arg22 v329 c0_i32_183 c1_i32_185 k0_t17 arg24) := by
  intros; unfold k0_part172; have h12 := H;
  repeat' first | extract_lets | with_reducible exact Safe.pure _ | with_reducible refine Safe.load ?_ | with_reducible assumption | with_reducible refine Safe.bind ?_ fun _ => ?_

set_option maxHeartbeats 4000000 in
theorem s173 : ∀ v84 k0_hw1 v119 v124 v114 arg20 arg21 arg22 v329 v335 c1_i32_186 k0_t18 arg24, Safe c P bd (k0_part173 i v84 k0_hw1 v119 v124 arg12 harg12 v114 arg20 arg21 arg22 v329 v335 c1_i32_186 k0_t18 arg24) := by
  intros; unfold k0_part173; have h12 := H;
  repeat' first | extract_lets | with_reducible exact Safe.pure _ | with_reducible refine Safe.load ?_ | with_reducible assumption | with_reducible refine Safe.bind ?_ fun _ => ?_

set_option maxHeartbeats 2000000 in
theorem while2_safe (n : ℕ) : ∀ v84 k0_hw1 v119 v124 v114 arg20 arg21 arg22, ((14#32).toInt - arg20.toInt).toNat = n →
    Safe c P (some n) (cc0_while2 (F := F) i v84 k0_hw1 v119 v124 arg12 harg12 v114 arg20 arg21 arg22) := by
  induction n using Nat.strong_induction_on with
  | _ n ih =>
  intro v84 k0_hw1 v119 v124 v114 arg20 arg21 arg22 hn
  unfold cc0_while2
  extract_lets
  split
  · rename_i hc
    have hlt := lacks_lt arg20 14#32 1#32 (by decide) (by decide) (by decide) (of_andi hc)
    repeat' first | extract_lets | with_reducible exact Safe.pure _ | with_reducible refine Safe.load ?_ | with_reducible exact H | with_reducible refine Safe.loop fun _ _ => ?_ | with_reducible exact s172 H .. | with_reducible exact s173 H .. | with_reducible refine Safe.bind ?_ fun _ => ?_ | split | (refine Safe.call _ (fun u hu => ?_) (ih _ (hn ▸ hlt) _ k0_hw1 _ _ _ _ _ _ rfl); cases hu; exact hn ▸ hlt)
  · exact Safe.pure _

set_option maxHeartbeats 2000000 in
theorem while2_call (v84 : BitVec 32) (k0_hw1 : k0_chk1 v84) (v119 : BitVec 32) (v124 : IVec S512x256 16) (v114 : IVec S1x256 32) (arg20 : BitVec 32) (arg21 arg22 : IVec S1x256 32) :
    Safe (F := F) c P none (Prog.lift (.call (2 : (Λ₀ F).Label) ⟨i, v84, k0_hw1, v119, v124, arg12, harg12, v114, arg20, arg21, arg22⟩)) :=
  Safe.call _ (fun _ h => nomatch h) (while2_safe H _ v84 k0_hw1 v119 v124 v114 arg20 arg21 arg22 rfl)

end Tie

end Cert.Proof.Attn

end
-- ==== Proof.Attn.Parts1.lean ====
/-
  Scoring of a key block, counting of the keys above a threshold, and the second half of the attention body: each stretch of statements is safe while the kernel's buffers are held.
  Straight-line code: loads and stores of held buffers, the values left unnamed.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s1 : ∀ c0_i32_6 c1_i32_8 k0_t1, Safe c P bd (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_6 c1_i32_8 k0_t1) := by
  intros; unfold k0_part1; have h3 := H.h3; have h4 := H.h4; have h7 := H.h7;
  repeat' first | extract_lets | with_reducible exact Safe.pure _ | with_reducible refine Safe.load ?_ | with_reducible assumption | with_reducible refine Safe.bind ?_ fun _ => ?_

set_option maxHeartbeats 4000000 in
theorem s2 : ∀ v333 v354 v357, Safe c P bd (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v333 v354 v357) := by
  intros; unfold k0_part2; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s3 : ∀ v4 v5 k0_t1 v330 v333 v384 v389 v391, Safe c P bd (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v5 k0_t1 v330 v333 v384 v389 v391) := by
  intros; unfold k0_part3; have h3 := H.h3; have h4 := H.h4; have h11 := H.h11;
  repeat' first | extract_lets | with_reducible exact Safe.pure _ | with_reducible refine Safe.load ?_ | with_reducible refine Safe.store ?_ | with_reducible assumption | with_reducible refine Safe.bind ?_ fun _ => ?_

set_option maxHeartbeats 4000000 in
theorem s4 : ∀ k0_t1 arg21 arg20 v330 v420 v426, Safe c P bd (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 arg21 arg20 v330 v420 v426) := by
  intros; unfold k0_part4; have h3 := H.h3; have h4 := H.h4; have h7 := H.h7; have h12 := H.h12;
  repeat' first | extract_lets | with_reducible exact Safe.pure _ | with_reducible refine Safe.load ?_ | with_reducible refine Safe.store ?_ | with_reducible assumption | with_reducible refine Safe.bind ?_ fun _ => ?_

set_option maxHeartbeats 4000000 in
theorem s5 : ∀ v447 v458 v461 v463 v464, Safe c P bd (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v447 v458 v461 v463 v464) := by
  intros; unfold k0_part5; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s6 : ∀ v4 v5 v444 v447 v498, Safe c P bd (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v5 v444 v447 v498) := by
  intros; unfold k0_part6; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s7 : ∀ v29 c1_i32_9 k0_t2, Safe c P bd (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v29 c1_i32_9 k0_t2) := by
  intros; unfold k0_part7; have h3 := H.h3; have h4 := H.h4; have h7 := H.h7;
  repeat' first | extract_lets | with_reducible exact Safe.pure _ | with_reducible refine Safe.load ?_ | with_reducible assumption | with_reducible refine Safe.bind ?_ fun _ => ?_

set_option maxHeartbeats 4000000 in
theorem s8 : ∀ v333 v354 v357, Safe c P bd (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v333 v354 v357) := by
  intros; unfold k0_part8; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s9 : ∀ v4 v5 k0_t2 v330 v333 v384 v389 v391, Safe c P bd (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v5 k0_t2 v330 v333 v384 v389 v391) := by
  intros; unfold k0_part9; have h3 := H.h3; have h4 := H.h4; have h11 := H.h11;
  repeat' first | extract_lets | with_reducible exact Safe.pure _ | with_reducible refine Safe.load ?_ | with_reducible refine Safe.store ?_ | with_reducible assumption | with_reducible refine Safe.bind ?_ fun _ => ?_

set_option maxHeartbeats 4000000 in
theorem s10 : ∀ k0_t2 arg21 arg20 v330 v420 v426, Safe c P bd (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 arg21 arg20 v330 v420 v426) := by
  intros; unfold k0_part10; have h3 := H.h3; have h4 := H.h4; have h7 := H.h7; have h12 := H.h12;
  repeat' first | extract_lets | with_reducible exact Safe.pure _ | with_reducible refine Safe.load ?_ | with_reducible refine Safe.store ?_ | with_reducible assumption | with_reducible refine Safe.bind ?_ fun _ => ?_

set_option maxHeartbeats 4000000 in
theorem s11 : ∀ v447 v458 v461 v463 v464, Safe c P bd (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v447 v458 v461 v463 v464) := by
  intros; unfold k0_part11; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s12 : ∀ v4 v5 v444 v447 v498, Safe c P bd (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v5 v444 v447 v498) := by
  intros; unfold k0_part12; have h3 := H.h3; have h4 := H.h4;
  repeat' first | extract_lets | with_reducible exact Safe.pure _ | with_reducible refine Safe.load ?_ | with_reducible assumption | with_reducible refine Safe.bind ?_ fun _ => ?_

set_option maxHeartbeats 4000000 in
theorem s13 : ∀ v50 c0_i32_14 c1_i32_16 k0_t3 arg21, Safe c P bd (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 c0_i32_14 c1_i32_16 k0_t3 arg21) := by
  intros; unfold k0_part13; have h12 := H.h12;
  repeat' first | extract_lets | with_reducible exact Safe.pure _ | with_reducible refine Safe.load ?_ | with_reducible assumption | with_reducible refine Safe.bind ?_ fun _ => ?_

set_option maxHeartbeats 4000000 in
theorem s14 : ∀ v50 v56 c1_i32_17 k0_t4 arg21, Safe c P bd (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v50 v56 c1_i32_17 k0_t4 arg21) := by
  intros; unfold k0_part14; have h12 := H.h12;
  repeat' first | extract_lets | with_reducible exact Safe.pure _ | with_reducible refine Safe.load ?_ | with_reducible assumption | with_reducible refine Safe.bind ?_ fun _ => ?_

set_option maxHeartbeats 4000000 in
theorem s15 : ∀ v336 c0_i32_185 c1_i32_187 k0_t6 arg26, Safe c P bd (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v336 c0_i32_185 c1_i32_187 k0_t6 arg26) := by
  intros; unfold k0_part15; have h12 := H.h12;
  repeat' first | extract_lets | with_reducible exact Safe.pure _ | with_reducible refine Safe.load ?_ | with_reducible assumption | with_reducible refine Safe.bind ?_ fun _ => ?_

set_option maxHeartbeats 4000000 in
theorem s16 : ∀ v336 v342 c1_i32_188 k0_t7 arg26, Safe c P bd (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v336 v342 c1_i32_188 k0_t7 arg26) := by
  intros; unfold k0_part16; have h12 := H.h12;
  repeat' first | extract_lets | with_reducible exact Safe.pure _ | with_reducible refine Safe.load ?_ | with_reducible assumption | with_reducible refine Safe.bind ?_ fun _ => ?_

set_option maxHeartbeats 4000000 in
theorem s17 : ∀ v336 c0_i32_185 c1_i32_187 k0_t9 arg26, Safe c P bd (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v336 c0_i32_185 c1_i32_187 k0_t9 arg26) := by
  intros; unfold k0_part17; have h12 := H.h12;
  repeat' first | extract_lets | with_reducible exact Safe.pure _ | with_reducible refine Safe.load ?_ | with_reducible assumption | with_reducible refine Safe.bind ?_ fun _ => ?_

set_option maxHeartbeats 4000000 in
theorem s18 : ∀ v336 v342 c1_i32_188 k0_t10 arg26, Safe c P bd (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v336 v342 c1_i32_188 k0_t10 arg26) := by
  intros; unfold k0_part18; have h12 := H.h12;
  repeat' first | extract_lets | with_reducible exact Safe.pure _ | with_reducible refine Safe.load ?_ | with_reducible assumption | with_reducible refine Safe.bind ?_ fun _ => ?_

set_option maxHeartbeats 4000000 in
theorem s19 : ∀ v5 v109_1 v131 c0_i32_46 c1_i32_49 k0_t19, Safe c P bd (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v109_1 v131 c0_i32_46 c1_i32_49 k0_t19) := by
  intros; unfold k0_part19; have h11 := H.h11;
  repeat' first | extract_lets | with_reducible exact Safe.pure _ | with_reducible refine Safe.load ?_ | with_reducible refine Safe.store ?_ | with_reducible assumption | with_reducible refine Safe.bind ?_ fun _ => ?_

set_option maxHeartbeats 4000000 in
theorem s20 : ∀ v5 v109_1 v131 v136 c1_i32_50 k0_t20, Safe c P bd (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v5 v109_1 v131 v136 c1_i32_50 k0_t20) := by
  intros; unfold k0_part20; have h11 := H.h11;
  repeat' first | extract_lets | with_reducible exact Safe.pure _ | with_reducible refine Safe.load ?_ | with_reducible refine Safe.store ?_ | with_reducible assumption | with_reducible refine Safe.bind ?_ fun _ => ?_

set_option maxHeartbeats 4000000 in
theorem s137 : ∀ arg1 k0_h4, Safe c P bd (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h4) := by
  intros; unfold k0_part137; have h5 := H.h5; have h8 := H.h8; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s138 : ∀ k0_h4 v328 v331 v351 v358, Safe c P bd (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v331 v351 v358) := by
  intros; unfold k0_part138; have h8 := H.h8; have h11 := H.h11; have h14 := H.h14; have h15 := H.h15; have h18 := H.h18; have h19 := H.h19;
  repeat' first | extract_lets | with_reducible exact Safe.pure _ | with_reducible refine Safe.load ?_ | with_reducible refine Safe.store ?_ | with_reducible assumption | with_reducible refine Safe.bind ?_ fun _ => ?_ | split

set_option maxHeartbeats 4000000 in
theorem s139 : ∀ k0_h4 v328 v384 v386, Safe c P bd (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v384 v386) := by
  intros; unfold k0_part139; have h5 := H.h5; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s140 : ∀ k0_h4 v328 v400 v410 v415, Safe c P bd (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v400 v410 v415) := by
  intros; unfold k0_part140; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s141 : ∀ k0_h4 v328 v443 v446, Safe c P bd (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v443 v446) := by
  intros; unfold k0_part141; have h5 := H.h5; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s142 : ∀ v469 v476, Safe c P bd (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v469 v476) := by
  intros; unfold k0_part142; have h8 := H.h8; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s143 : ∀ k0_h4 v328 v505, Safe c P bd (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v505) := by
  intros; unfold k0_part143; have h8 := H.h8; have h11 := H.h11; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s144 : ∀ k0_h4 v328, Safe c P bd (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328) := by
  intros; unfold k0_part144; have h5 := H.h5; have h8 := H.h8; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s145 : ∀ k0_h4 v328 v538 v558 v565, Safe c P bd (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v328 v538 v558 v565) := by
  intros; unfold k0_part145; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s146 : ∀ arg1 v591 v596, Safe c P bd (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v591 v596) := by
  intros; unfold k0_part146; have h15 := H.h15; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s147 : ∀ k0_h4 v606 v608 v615, Safe c P bd (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v608 v615) := by
  intros; unfold k0_part147; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s148 : ∀ k0_h4 v606 v638 v645, Safe c P bd (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v638 v645) := by
  intros; unfold k0_part148; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s149 : ∀ k0_h4 v606 v668 v675 v686, Safe c P bd (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v668 v675 v686) := by
  intros; unfold k0_part149; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s150 : ∀ k0_h4 v606 v698 v705 v717, Safe c P bd (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v698 v705 v717) := by
  intros; unfold k0_part150; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s151 : ∀ k0_h4 v606 v728 v735 v747 v748, Safe c P bd (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v728 v735 v747 v748) := by
  intros; unfold k0_part151; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s152 : ∀ k0_h4 v606 v765 v777 v780, Safe c P bd (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v765 v777 v780) := by
  intros; unfold k0_part152; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s153 : ∀ k0_h4 v606 v807 v810 v811 cst_610, Safe c P bd (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h4 v606 v807 v810 v811 cst_610) := by
  intros; unfold k0_part153; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

end Cert.Proof.Attn

end
-- ==== Proof.Attn.Parts2.lean ====
/-
  The first attention loop of a tile: each stretch of statements is safe while the kernel's buffers are held.
  Straight-line code: loads and stores of held buffers, the values left unnamed.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s21 : ∀ c0_i32_107 c1_i32_110 k0_t21, Safe c P bd (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_107 c1_i32_110 k0_t21) := by
  intros; unfold k0_part21; have h5 := H.h5; have h9 := H.h9; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s22 : ∀ k0_t21 v331 v334 v352 v359, Safe c P bd (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v334 v352 v359) := by
  intros; unfold k0_part22; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s23 : ∀ k0_t21 v331 v383 v390, Safe c P bd (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v383 v390) := by
  intros; unfold k0_part23; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s24 : ∀ k0_t21 v331 v399 v407 v417 v419 v420, Safe c P bd (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v399 v407 v417 v419 v420) := by
  intros; unfold k0_part24; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s25 : ∀ k0_t21 v331 v438 v448 v450 v451, Safe c P bd (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v438 v448 v450 v451) := by
  intros; unfold k0_part25; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s26 : ∀ k0_t21 v331 v464 v472 v482 v484, Safe c P bd (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v464 v472 v482 v484) := by
  intros; unfold k0_part26; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s27 : ∀ k0_t21 v331 v503 v513 v515, Safe c P bd (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v503 v513 v515) := by
  intros; unfold k0_part27; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s28 : ∀ k0_t21 v331 v529 v537 v542 v544, Safe c P bd (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v331 v529 v537 v542 v544) := by
  intros; unfold k0_part28; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s29 : ∀ k0_t21 v329 v568 v573 v575, Safe c P bd (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v329 v568 v573 v575) := by
  intros; unfold k0_part29; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s30 : ∀ k0_t21 v593 v596 v603 v604, Safe c P bd (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v596 v603 v604) := by
  intros; unfold k0_part30; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s31 : ∀ k0_t21 v593 v634 v635, Safe c P bd (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v634 v635) := by
  intros; unfold k0_part31; have h5 := H.h5; have h9 := H.h9; have h11 := H.h11; have h14 := H.h14; have h15 := H.h15; have h17 := H.h17; have h18 := H.h18;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s32 : ∀ k0_t21 v593 v661 v668 v669, Safe c P bd (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v661 v668 v669) := by
  intros; unfold k0_part32; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s33 : ∀ k0_t21 v593 v699 v700, Safe c P bd (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v699 v700) := by
  intros; unfold k0_part33; have h5 := H.h5; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s34 : ∀ k0_t21 v593 v726 v733, Safe c P bd (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v726 v733) := by
  intros; unfold k0_part34; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s35 : ∀ k0_t21 v593 v764, Safe c P bd (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v764) := by
  intros; unfold k0_part35; have h5 := H.h5; have h9 := H.h9; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s36 : ∀ k0_t21 v593 v791 v794, Safe c P bd (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v593 v791 v794) := by
  intros; unfold k0_part36; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s37 : ∀ k0_t21 v327 v593 v825, Safe c P bd (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v327 v593 v825) := by
  intros; unfold k0_part37; have h9 := H.h9; have h11 := H.h11; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s38 : ∀ k0_t21 v855, Safe c P bd (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855) := by
  intros; unfold k0_part38; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s39 : ∀ k0_t21 v855 v887, Safe c P bd (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v887) := by
  intros; unfold k0_part39; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s40 : ∀ k0_t21 v855 v917, Safe c P bd (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v917) := by
  intros; unfold k0_part40; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s41 : ∀ k0_t21 v855 v947, Safe c P bd (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v947) := by
  intros; unfold k0_part41; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s42 : ∀ k0_t21 v855 v977 v979, Safe c P bd (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v977 v979) := by
  intros; unfold k0_part42; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s43 : ∀ k0_t21 v855 v1007 v1009, Safe c P bd (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v1007 v1009) := by
  intros; unfold k0_part43; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s44 : ∀ k0_t21 v855 v1037 v1039, Safe c P bd (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v855 v1037 v1039) := by
  intros; unfold k0_part44; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s45 : ∀ k0_t21 v329 v855 v1067 v1069 v1071, Safe c P bd (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v329 v855 v1067 v1069 v1071) := by
  intros; unfold k0_part45; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s46 : ∀ k0_t21 v1097 v1099 v1101 v1102, Safe c P bd (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1099 v1101 v1102) := by
  intros; unfold k0_part46; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s47 : ∀ k0_t21 v1097 v1129 v1131 v1134, Safe c P bd (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1129 v1131 v1134) := by
  intros; unfold k0_part47; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s48 : ∀ k0_t21 v1097 v1159 v1166, Safe c P bd (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1159 v1166) := by
  intros; unfold k0_part48; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s49 : ∀ k0_t21 v1097 v1189 v1196, Safe c P bd (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1189 v1196) := by
  intros; unfold k0_part49; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s50 : ∀ k0_t21 v1097 v1219 v1226 v1227, Safe c P bd (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1219 v1226 v1227) := by
  intros; unfold k0_part50; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s51 : ∀ k0_t21 v1097 v1249 v1256 v1259, Safe c P bd (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1249 v1256 v1259) := by
  intros; unfold k0_part51; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s52 : ∀ k0_t21 v1097 v1279 v1286 v1289 v1290, Safe c P bd (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t21 v1097 v1279 v1286 v1289 v1290) := by
  intros; unfold k0_part52; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

end Cert.Proof.Attn

end
-- ==== Proof.Attn.Parts3.lean ====
/-
  The second attention loop of a tile: each stretch of statements is safe while the kernel's buffers are held.
  Straight-line code: loads and stores of held buffers, the values left unnamed.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s54 : ∀ v235 c1_i32_111 k0_t22, Safe c P bd (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v235 c1_i32_111 k0_t22) := by
  intros; unfold k0_part54; have h5 := H.h5; have h9 := H.h9; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s55 : ∀ k0_t22 v331 v334 v352 v359, Safe c P bd (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v334 v352 v359) := by
  intros; unfold k0_part55; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s56 : ∀ k0_t22 v331 v383 v390, Safe c P bd (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v383 v390) := by
  intros; unfold k0_part56; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s57 : ∀ k0_t22 v331 v399 v407 v417 v419 v420, Safe c P bd (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v399 v407 v417 v419 v420) := by
  intros; unfold k0_part57; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s58 : ∀ k0_t22 v331 v438 v448 v450 v451, Safe c P bd (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v438 v448 v450 v451) := by
  intros; unfold k0_part58; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s59 : ∀ k0_t22 v331 v464 v472 v482 v484, Safe c P bd (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v464 v472 v482 v484) := by
  intros; unfold k0_part59; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s60 : ∀ k0_t22 v331 v503 v513 v515, Safe c P bd (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v503 v513 v515) := by
  intros; unfold k0_part60; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s61 : ∀ k0_t22 v331 v529 v537 v542 v544, Safe c P bd (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v331 v529 v537 v542 v544) := by
  intros; unfold k0_part61; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s62 : ∀ k0_t22 v329 v568 v573 v575, Safe c P bd (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v329 v568 v573 v575) := by
  intros; unfold k0_part62; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s63 : ∀ k0_t22 v593 v596 v603 v604, Safe c P bd (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v596 v603 v604) := by
  intros; unfold k0_part63; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s64 : ∀ k0_t22 v593 v634 v635, Safe c P bd (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v634 v635) := by
  intros; unfold k0_part64; have h5 := H.h5; have h9 := H.h9; have h11 := H.h11; have h14 := H.h14; have h15 := H.h15; have h17 := H.h17; have h18 := H.h18;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s65 : ∀ k0_t22 v593 v661 v668 v669, Safe c P bd (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v661 v668 v669) := by
  intros; unfold k0_part65; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s66 : ∀ k0_t22 v593 v699 v700, Safe c P bd (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v699 v700) := by
  intros; unfold k0_part66; have h5 := H.h5; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s67 : ∀ k0_t22 v593 v726 v733, Safe c P bd (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v726 v733) := by
  intros; unfold k0_part67; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s68 : ∀ k0_t22 v593 v764, Safe c P bd (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v764) := by
  intros; unfold k0_part68; have h5 := H.h5; have h9 := H.h9; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s69 : ∀ k0_t22 v593 v791 v794, Safe c P bd (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v593 v791 v794) := by
  intros; unfold k0_part69; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s70 : ∀ k0_t22 v327 v593 v825, Safe c P bd (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v327 v593 v825) := by
  intros; unfold k0_part70; have h9 := H.h9; have h11 := H.h11; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s71 : ∀ k0_t22 v855, Safe c P bd (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855) := by
  intros; unfold k0_part71; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s72 : ∀ k0_t22 v855 v887, Safe c P bd (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v887) := by
  intros; unfold k0_part72; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s73 : ∀ k0_t22 v855 v917, Safe c P bd (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v917) := by
  intros; unfold k0_part73; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s74 : ∀ k0_t22 v855 v947, Safe c P bd (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v947) := by
  intros; unfold k0_part74; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s75 : ∀ k0_t22 v855 v977 v979, Safe c P bd (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v977 v979) := by
  intros; unfold k0_part75; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s76 : ∀ k0_t22 v855 v1007 v1009, Safe c P bd (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v1007 v1009) := by
  intros; unfold k0_part76; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s77 : ∀ k0_t22 v855 v1037 v1039, Safe c P bd (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v855 v1037 v1039) := by
  intros; unfold k0_part77; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s78 : ∀ k0_t22 v329 v855 v1067 v1069 v1071, Safe c P bd (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v329 v855 v1067 v1069 v1071) := by
  intros; unfold k0_part78; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s79 : ∀ k0_t22 v1097 v1099 v1101 v1102, Safe c P bd (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1099 v1101 v1102) := by
  intros; unfold k0_part79; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s80 : ∀ k0_t22 v1097 v1129 v1131 v1134, Safe c P bd (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1129 v1131 v1134) := by
  intros; unfold k0_part80; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s81 : ∀ k0_t22 v1097 v1159 v1166, Safe c P bd (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1159 v1166) := by
  intros; unfold k0_part81; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s82 : ∀ k0_t22 v1097 v1189 v1196, Safe c P bd (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1189 v1196) := by
  intros; unfold k0_part82; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s83 : ∀ k0_t22 v1097 v1219 v1226 v1227, Safe c P bd (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1219 v1226 v1227) := by
  intros; unfold k0_part83; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s84 : ∀ k0_t22 v1097 v1249 v1256 v1259, Safe c P bd (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1249 v1256 v1259) := by
  intros; unfold k0_part84; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s85 : ∀ k0_t22 v1097 v1279 v1286 v1289 v1290, Safe c P bd (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t22 v1097 v1279 v1286 v1289 v1290) := by
  intros; unfold k0_part85; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

end Cert.Proof.Attn

end
-- ==== Proof.Attn.Parts4.lean ====
/-
  The block before the diagonal: each stretch of statements is safe while the kernel's buffers are held.
  Straight-line code: loads and stores of held buffers, the values left unnamed.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s87 : ∀ v213 k0_h2, Safe c P bd (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v213 k0_h2) := by
  intros; unfold k0_part87; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s88 : ∀ k0_h2 v329 v332 v350 v357 v358, Safe c P bd (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v332 v350 v357 v358) := by
  intros; unfold k0_part88; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s89 : ∀ k0_h2 v329 v381 v388 v389, Safe c P bd (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v381 v388 v389) := by
  intros; unfold k0_part89; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s90 : ∀ k0_h2 v329 v397 v415 v422, Safe c P bd (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v397 v415 v422) := by
  intros; unfold k0_part90; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s91 : ∀ k0_h2 v329 v446 v453, Safe c P bd (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v446 v453) := by
  intros; unfold k0_part91; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s92 : ∀ k0_h2 v329 v462 v470 v480 v482 v483, Safe c P bd (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v462 v470 v480 v482 v483) := by
  intros; unfold k0_part92; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s93 : ∀ k0_h2 v329 v501 v511 v513 v514, Safe c P bd (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v501 v511 v513 v514) := by
  intros; unfold k0_part93; have h5 := H.h5; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s94 : ∀ k0_h2 v329 v527 v535 v545 v547, Safe c P bd (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v329 v527 v535 v545 v547) := by
  intros; unfold k0_part94; have h9 := H.h9; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_  | exact Safe.smemLoad h9

set_option maxHeartbeats 4000000 in
theorem s95 : ∀ v327 v566 v576 v578, Safe c P bd (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v327 v566 v576 v578) := by
  intros; unfold k0_part95; have h15 := H.h15; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s96 : ∀ k0_h2 v591 v593 v600 v606, Safe c P bd (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v593 v600 v606) := by
  intros; unfold k0_part96; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s97 : ∀ k0_h2 v591 v623 v630 v636, Safe c P bd (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v623 v630 v636) := by
  intros; unfold k0_part97; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s98 : ∀ k0_h2 v591 v653 v660 v666, Safe c P bd (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v653 v660 v666) := by
  intros; unfold k0_part98; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s99 : ∀ k0_h2 v591 v683 v690, Safe c P bd (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v683 v690) := by
  intros; unfold k0_part99; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s100 : ∀ k0_h2 v591 v713 v720, Safe c P bd (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v713 v720) := by
  intros; unfold k0_part100; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s101 : ∀ k0_h2 v591 v743 v750 v761, Safe c P bd (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v743 v750 v761) := by
  intros; unfold k0_part101; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s102 : ∀ k0_h2 v591 v773 v780 v792, Safe c P bd (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v591 v773 v780 v792) := by
  intros; unfold k0_part102; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s103 : ∀ arg1 k0_h3, Safe c P bd (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h3) := by
  intros; unfold k0_part103; have h5 := H.h5; have h8 := H.h8; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s104 : ∀ k0_h3 v329 v332 v352 cst_207, Safe c P bd (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v332 v352 cst_207) := by
  intros; unfold k0_part104; have h8 := H.h8; have h11 := H.h11; have h14 := H.h14; have h15 := H.h15; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s105 : ∀ k0_h3 v329 v385 v387, Safe c P bd (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v385 v387) := by
  intros; unfold k0_part105; have h5 := H.h5; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s106 : ∀ k0_h3 v329 v401 v411 v415, Safe c P bd (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v401 v411 v415) := by
  intros; unfold k0_part106; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s107 : ∀ k0_h3 v329 v444 v445, Safe c P bd (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v444 v445) := by
  intros; unfold k0_part107; have h5 := H.h5; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s108 : ∀ v477, Safe c P bd (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v477) := by
  intros; unfold k0_part108; have h8 := H.h8; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s109 : ∀ k0_h3 v329 v470 v505, Safe c P bd (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v470 v505) := by
  intros; unfold k0_part109; have h8 := H.h8; have h11 := H.h11; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s110 : ∀ k0_h3 v329 v523, Safe c P bd (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v523) := by
  intros; unfold k0_part110; have h5 := H.h5; have h8 := H.h8; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s111 : ∀ k0_h3 v329 v539 v559 v566, Safe c P bd (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v329 v539 v559 v566) := by
  intros; unfold k0_part111; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

end Cert.Proof.Attn

end
-- ==== Proof.Attn.Parts5.lean ====
/-
  The diagonal block: each stretch of statements is safe while the kernel's buffers are held.
  Straight-line code: loads and stores of held buffers, the values left unnamed.
-/
module

public import proofs.«01_k».proof.Proof.Attn.Safe

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s112 : ∀ arg1 k0_h3 v592 v594 v595, Safe c P bd (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h3 v592 v594 v595) := by
  intros; unfold k0_part112; have h5 := H.h5; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s113 : ∀ k0_h3 v607 v610 v620 v624, Safe c P bd (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v610 v620 v624) := by
  intros; unfold k0_part113; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s114 : ∀ k0_h3 v607 v653 v654, Safe c P bd (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v653 v654) := by
  intros; unfold k0_part114; have h5 := H.h5; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s115 : ∀ v686, Safe c P bd (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v686) := by
  intros; unfold k0_part115; have h8 := H.h8; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s116 : ∀ k0_h3 v607 v679 v714, Safe c P bd (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v679 v714) := by
  intros; unfold k0_part116; have h8 := H.h8; have h11 := H.h11; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s117 : ∀ k0_h3 v607 v732, Safe c P bd (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v732) := by
  intros; unfold k0_part117; have h5 := H.h5; have h8 := H.h8; have h11 := H.h11; have h14 := H.h14; have h15 := H.h15; have h17 := H.h17; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s118 : ∀ k0_h3 v607 v748 v768 v775, Safe c P bd (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v748 v768 v775) := by
  intros; unfold k0_part118; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s119 : ∀ k0_h3 v607 v801 v803 v804, Safe c P bd (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v801 v803 v804) := by
  intros; unfold k0_part119; have h5 := H.h5; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s120 : ∀ k0_h3 v607 v817 v832 v833, Safe c P bd (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v607 v817 v832 v833) := by
  intros; unfold k0_part120; have h8 := H.h8; have h11 := H.h11; have h14 := H.h14; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s121 : ∀ v327 v860, Safe c P bd (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v327 v860) := by
  intros; unfold k0_part121; have h15 := H.h15; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s122 : ∀ k0_h3 v885 v887 v889 v890, Safe c P bd (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v887 v889 v890) := by
  intros; unfold k0_part122; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s123 : ∀ k0_h3 v885 v917 v919 v922, Safe c P bd (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v917 v919 v922) := by
  intros; unfold k0_part123; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s124 : ∀ k0_h3 v885 v947 v954, Safe c P bd (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v947 v954) := by
  intros; unfold k0_part124; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s125 : ∀ k0_h3 v885 v977 v984, Safe c P bd (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v977 v984) := by
  intros; unfold k0_part125; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s126 : ∀ k0_h3 v885 v1007 v1014 v1015, Safe c P bd (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v1007 v1014 v1015) := by
  intros; unfold k0_part126; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s127 : ∀ k0_h3 v885 v1037 v1044 v1047, Safe c P bd (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v1037 v1044 v1047) := by
  intros; unfold k0_part127; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s128 : ∀ k0_h3 v885 v1067 v1074 v1077 v1078, Safe c P bd (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v885 v1067 v1074 v1077 v1078) := by
  intros; unfold k0_part128; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s129 : ∀ arg1 k0_h3 v885 v1097 v1104 v1110, Safe c P bd (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h3 v885 v1097 v1104 v1110) := by
  intros; unfold k0_part129; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s130 : ∀ k0_h3 v1127 v1129 v1136 v1139 v1141, Safe c P bd (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1129 v1136 v1139 v1141) := by
  intros; unfold k0_part130; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s131 : ∀ k0_h3 v1127 v1159 v1166 v1172, Safe c P bd (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1159 v1166 v1172) := by
  intros; unfold k0_part131; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s132 : ∀ k0_h3 v1127 v1189 v1196 v1202, Safe c P bd (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1189 v1196 v1202) := by
  intros; unfold k0_part132; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s133 : ∀ k0_h3 v1127 v1219 v1226 v1232, Safe c P bd (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1219 v1226 v1232) := by
  intros; unfold k0_part133; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s134 : ∀ k0_h3 v1127 v1249 v1256, Safe c P bd (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1249 v1256) := by
  intros; unfold k0_part134; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s135 : ∀ k0_h3 v1127 v1279 v1286, Safe c P bd (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1279 v1286) := by
  intros; unfold k0_part135; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

set_option maxHeartbeats 4000000 in
theorem s136 : ∀ k0_h3 v1127 v1309 v1316 v1327, Safe c P bd (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h3 v1127 v1309 v1316 v1327) := by
  intros; unfold k0_part136; have h6 := H.h6; have h13 := H.h13; have h16 := H.h16; have h17 := H.h17; have h18 := H.h18; have h19 := H.h19;
  repeat' first | extract_lets | with_reducible exact Safe.pure _ | with_reducible refine Safe.load ?_ | with_reducible refine Safe.store ?_ | with_reducible assumption | with_reducible refine Safe.bind ?_ fun _ => ?_

end Cert.Proof.Attn

end
-- ==== Proof.Attn.Body.lean ====
/-
  The whole body of the attention kernel, put together from its stretches: safe while the kernel's buffers are held.
-/
module

public import proofs.«01_k».proof.Proof.Attn.While
public import proofs.«01_k».proof.Proof.Attn.Parts1
public import proofs.«01_k».proof.Proof.Attn.Parts2
public import proofs.«01_k».proof.Proof.Attn.Parts3
public import proofs.«01_k».proof.Proof.Attn.Parts4
public import proofs.«01_k».proof.Proof.Attn.Parts5

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]
variable {c : Dev nD} {P : sProp (MT nD τ sig Unit (Elt F) ℕ (UR nD τ) ℕ)} {bd : Option ℕ} {i : grid0.Coords}
variable {arg2 : Memref sig .tc .vmem S1x512x256 .bf16} {harg2 : arg2.IsWhole} {arg3 : Memref sig .tc .vmem S1x256x256 .bf16} {harg3 : arg3.IsWhole} {arg4 : Memref sig .tc .vmem S1x8x256 .f32} {harg4 : arg4.IsWhole} {arg5 : Memref sig .tc .vmem S1x8192x512 .bf16} {harg5 : arg5.IsWhole} {arg6 : Memref sig .tc .vmem S1x512x8192 .bf16} {harg6 : arg6.IsWhole} {arg7 : Memref sig .tc .vmem S1x8192x32 .bf16} {harg7 : arg7.IsWhole} {arg8 : Memref sig .tc .vmem S8x2x256x256 .f32} {harg8 : arg8.IsWhole} {arg9 : Memref sig .tc .smem S8 .f32} {harg9 : arg9.IsWhole} {arg10 : Memref sig .tc .vmem S1x256x512 .bf16} {harg10 : arg10.IsWhole} {arg11 : Memref sig .tc .vmem S8192x256 .i32} {harg11 : arg11.IsWhole} {arg12 : Memref sig .tc .vmem S8192x256 .i16} {harg12 : arg12.IsWhole} {arg13 : Memref sig .tc .vmem S512x256 .f32} {harg13 : arg13.IsWhole} {arg14 : Memref sig .tc .vmem S8x128x256 .bf16} {harg14 : arg14.IsWhole} {arg15 : Memref sig .tc .vmem S8x1x256 .f32} {harg15 : arg15.IsWhole} {arg16 : Memref sig .tc .vmem S8x1x256 .f32} {harg16 : arg16.IsWhole} {arg17 : Memref sig .tc .vmem S2x8x1x256 .f32} {harg17 : arg17.IsWhole} {arg18 : Memref sig .tc .vmem S2x8x1x256 .f32} {harg18 : arg18.IsWhole} {arg19 : Memref sig .tc .vmem S2x8x256x256 .f32} {harg19 : arg19.IsWhole}
variable (H : Held c P arg2 arg3 arg4 arg5 arg6 arg7 arg8 arg9 arg10 arg11 arg12 arg13 arg14 arg15 arg16 arg17 arg18 arg19)

include H

set_option maxHeartbeats 4000000 in
theorem s53 : ∀ c0_i32_107 c1_i32_110 k0_t21, Safe c P bd (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_107 c1_i32_110 k0_t21) := by
  intros; unfold k0_part53; have h6 := H.h6; have h13 := H.h13; have h16 := H.h16;
  repeat' first | extract_lets | with_reducible exact Safe.pure _ | with_reducible refine Safe.load ?_ | with_reducible refine Safe.store ?_ | with_reducible exact s21 H .. | with_reducible exact s22 H .. | with_reducible exact s23 H .. | with_reducible exact s24 H .. | with_reducible exact s25 H .. | with_reducible exact s26 H .. | with_reducible exact s27 H .. | with_reducible exact s28 H .. | with_reducible exact s29 H .. | with_reducible exact s30 H .. | with_reducible exact s31 H .. | with_reducible exact s32 H .. | with_reducible exact s33 H .. | with_reducible exact s34 H .. | with_reducible exact s35 H .. | with_reducible exact s36 H .. | with_reducible exact s37 H .. | with_reducible exact s38 H .. | with_reducible exact s39 H .. | with_reducible exact s40 H .. | with_reducible exact s41 H .. | with_reducible exact s42 H .. | with_reducible exact s43 H .. | with_reducible exact s44 H .. | with_reducible exact s45 H .. | with_reducible exact s46 H .. | with_reducible exact s47 H .. | with_reducible exact s48 H .. | with_reducible exact s49 H .. | with_reducible exact s50 H .. | with_reducible exact s51 H .. | with_reducible exact s52 H .. | with_reducible assumption | with_reducible refine Safe.bind ?_ fun _ => ?_ | split | (dsimp +zetaDelta only)

set_option maxHeartbeats 4000000 in
theorem s86 : ∀ v235 c1_i32_111 k0_t22, Safe c P bd (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v235 c1_i32_111 k0_t22) := by
  intros; unfold k0_part86; have h6 := H.h6; have h13 := H.h13; have h16 := H.h16;
  repeat' first | extract_lets | with_reducible exact Safe.pure _ | with_reducible refine Safe.load ?_ | with_reducible refine Safe.store ?_ | with_reducible exact s54 H .. | with_reducible exact s55 H .. | with_reducible exact s56 H .. | with_reducible exact s57 H .. | with_reducible exact s58 H .. | with_reducible exact s59 H .. | with_reducible exact s60 H .. | with_reducible exact s61 H .. | with_reducible exact s62 H .. | with_reducible exact s63 H .. | with_reducible exact s64 H .. | with_reducible exact s65 H .. | with_reducible exact s66 H .. | with_reducible exact s67 H .. | with_reducible exact s68 H .. | with_reducible exact s69 H .. | with_reducible exact s70 H .. | with_reducible exact s71 H .. | with_reducible exact s72 H .. | with_reducible exact s73 H .. | with_reducible exact s74 H .. | with_reducible exact s75 H .. | with_reducible exact s76 H .. | with_reducible exact s77 H .. | with_reducible exact s78 H .. | with_reducible exact s79 H .. | with_reducible exact s80 H .. | with_reducible exact s81 H .. | with_reducible exact s82 H .. | with_reducible exact s83 H .. | with_reducible exact s84 H .. | with_reducible exact s85 H .. | with_reducible assumption | with_reducible refine Safe.bind ?_ fun _ => ?_ | split | (dsimp +zetaDelta only)

set_option maxHeartbeats 4000000 in
theorem s154 : Safe c P bd (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  intros; unfold k0_part154; have h11 := H.h11; have h12 := H.h12;
  repeat' first | extract_lets | with_reducible exact Safe.pure _ | with_reducible refine Safe.load ?_ | with_reducible refine Safe.store ?_ | with_reducible refine Safe.loop fun _ _ => ?_ | with_reducible exact s1 H .. | with_reducible exact s2 H .. | with_reducible exact s3 H .. | with_reducible exact s4 H .. | with_reducible exact s5 H .. | with_reducible exact s6 H .. | with_reducible exact s7 H .. | with_reducible exact s8 H .. | with_reducible exact s9 H .. | with_reducible exact s10 H .. | with_reducible exact s11 H .. | with_reducible exact s12 H .. | with_reducible assumption | with_reducible refine Safe.bind ?_ fun _ => ?_ | split | (dsimp +zetaDelta only)

set_option maxHeartbeats 4000000 in
theorem s155 : ∀ v23 v33 v35 v37 v38, Safe c P bd (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v33 v35 v37 v38) := by
  intros; unfold k0_part155;
  repeat' first | extract_lets | with_reducible exact Safe.pure _ | with_reducible refine Safe.loop fun _ _ => ?_ | with_reducible exact s13 H .. | with_reducible exact s14 H .. | with_reducible assumption | with_reducible refine Safe.bind ?_ fun _ => ?_ | split | (dsimp +zetaDelta only)

set_option maxHeartbeats 4000000 in
theorem s156 : ∀ v23 v35 v36 v68 v69 v74 v81, Safe c P none (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v23 v35 v36 v68 v69 v74 v81) := by
  intros; unfold k0_part156;
  repeat' first | extract_lets | with_reducible exact Safe.pure _ | with_reducible refine Safe.loop fun _ _ => ?_ | with_reducible exact Safe.assume (k0_chk1_all _) | with_reducible exact s15 H .. | with_reducible exact s16 H .. | with_reducible exact s17 H .. | with_reducible exact s18 H .. | with_reducible assumption | with_reducible refine Safe.bind ?_ fun _ => ?_ | split | exact while1_call H.h11 _ _ _ _ _ _ _

set_option maxHeartbeats 4000000 in
theorem s157 : ∀ v0 v5 v23 v84 k0_hw1 v109_1 v112 v114 v119 v121 c0_i32_41, Safe c P none (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v5 v23 v84 k0_hw1 v109_1 v112 v114 v119 v121 c0_i32_41) := by
  intros; unfold k0_part157; have h2 := H.h2; have h11 := H.h11; have h12 := H.h12; have h14 := H.h14;
  repeat' first | extract_lets | with_reducible exact Safe.pure _ | with_reducible refine Safe.load ?_ | with_reducible refine Safe.store ?_ | with_reducible refine Safe.loop fun _ _ => ?_ | with_reducible exact s19 H .. | with_reducible exact s20 H .. | with_reducible assumption | with_reducible refine Safe.bind ?_ fun _ => ?_ | split | exact while2_call H.h12 _ _ _ _ _ _ _ _

set_option maxHeartbeats 4000000 in
theorem s158 : ∀ v139, Safe c P bd (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v139) := by
  intros; unfold k0_part158; have h2 := H.h2; have h14 := H.h14;
  repeat' first | extract_lets | with_reducible exact Safe.pure _ | with_reducible refine Safe.load ?_ | with_reducible refine Safe.store ?_ | with_reducible assumption | with_reducible refine Safe.bind ?_ fun _ => ?_

set_option maxHeartbeats 4000000 in
theorem s159 : ∀ arg1 v139 v185, Safe c P bd (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v139 v185) := by
  intros; unfold k0_part159; have h13 := H.h13; have h14 := H.h14; have h15 := H.h15; have h16 := H.h16;
  repeat' first | extract_lets | with_reducible exact Safe.pure _ | with_reducible refine Safe.load ?_ | with_reducible refine Safe.store ?_ | with_reducible assumption | with_reducible refine Safe.bind ?_ fun _ => ?_

set_option maxHeartbeats 4000000 in
theorem s160 : ∀ arg1 v213 c2_i32_100 v214 v216, Safe c P bd (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v213 c2_i32_100 v214 v216) := by
  intros; unfold k0_part160; have h13 := H.h13;
  repeat' first | extract_lets | with_reducible exact Safe.pure _ | with_reducible refine Safe.load ?_ | with_reducible refine Safe.store ?_ | with_reducible refine Safe.loop fun _ _ => ?_ | with_reducible exact s53 H .. | with_reducible exact s86 H .. | with_reducible exact s87 H .. | with_reducible exact s88 H .. | with_reducible exact s89 H .. | with_reducible exact s90 H .. | with_reducible exact s91 H .. | with_reducible exact s92 H .. | with_reducible exact s93 H .. | with_reducible exact s94 H .. | with_reducible exact s95 H .. | with_reducible exact s96 H .. | with_reducible exact s97 H .. | with_reducible exact s98 H .. | with_reducible exact s99 H .. | with_reducible exact s100 H .. | with_reducible exact s101 H .. | with_reducible exact s102 H .. | with_reducible exact s103 H .. | with_reducible exact s104 H .. | with_reducible exact s105 H .. | with_reducible exact s106 H .. | with_reducible exact s107 H .. | with_reducible exact s108 H .. | with_reducible exact s109 H .. | with_reducible exact s110 H .. | with_reducible exact s111 H .. | with_reducible exact s112 H .. | with_reducible exact s113 H .. | with_reducible exact s114 H .. | with_reducible exact s115 H .. | with_reducible exact s116 H .. | with_reducible exact s117 H .. | with_reducible exact s118 H .. | with_reducible exact s119 H .. | with_reducible exact s120 H .. | with_reducible exact s121 H .. | with_reducible exact s122 H .. | with_reducible exact s123 H .. | with_reducible exact s124 H .. | with_reducible exact s125 H .. | with_reducible exact s126 H .. | with_reducible exact s127 H .. | with_reducible exact s128 H .. | with_reducible exact s129 H .. | with_reducible exact s130 H .. | with_reducible exact s131 H .. | with_reducible exact s132 H .. | with_reducible exact s133 H .. | with_reducible exact s134 H .. | with_reducible exact s135 H .. | with_reducible exact s136 H .. | with_reducible assumption | with_reducible refine Safe.bind ?_ fun _ => ?_ | split | (dsimp +zetaDelta only)

set_option maxHeartbeats 4000000 in
theorem s161 : ∀ arg1 c0_i32_122, Safe c P bd (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 c0_i32_122) := by
  intros; unfold k0_part161; have h13 := H.h13; have h16 := H.h16;
  repeat' first | extract_lets | with_reducible exact Safe.pure _ | with_reducible refine Safe.load ?_ | with_reducible refine Safe.store ?_ | with_reducible exact s137 H .. | with_reducible exact s138 H .. | with_reducible exact s139 H .. | with_reducible exact s140 H .. | with_reducible exact s141 H .. | with_reducible exact s142 H .. | with_reducible exact s143 H .. | with_reducible exact s144 H .. | with_reducible exact s145 H .. | with_reducible exact s146 H .. | with_reducible exact s147 H .. | with_reducible exact s148 H .. | with_reducible exact s149 H .. | with_reducible exact s150 H .. | with_reducible exact s151 H .. | with_reducible exact s152 H .. | with_reducible exact s153 H .. | with_reducible assumption | with_reducible refine Safe.bind ?_ fun _ => ?_ | split | (dsimp +zetaDelta only)

set_option maxHeartbeats 4000000 in
theorem s162 : ∀ v281 v282, Safe c P bd (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v281 v282) := by
  intros; unfold k0_part162; have h13 := H.h13; have h16 := H.h16;
  repeat' first | extract_lets | with_reducible exact Safe.pure _ | with_reducible refine Safe.load ?_ | with_reducible refine Safe.store ?_ | with_reducible assumption | with_reducible refine Safe.bind ?_ fun _ => ?_
set_option maxHeartbeats 4000000 in
theorem body_safe : Safe c P none (cc0_attn_prompt (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  unfold cc0_attn_prompt; have h10 := H.h10; have h13 := H.h13; have h16 := H.h16
  repeat' first | extract_lets | with_reducible exact Safe.pure _ | with_reducible refine Safe.load ?_ | with_reducible refine Safe.store ?_ | with_reducible exact s154 H .. | with_reducible exact s155 H .. | with_reducible exact s156 H .. | with_reducible exact s157 H .. | with_reducible exact s158 H .. | with_reducible exact s159 H .. | with_reducible exact s160 H .. | with_reducible exact s161 H .. | with_reducible exact s162 H .. | with_reducible assumption | with_reducible refine Safe.bind ?_ fun _ => ?_ | split | (dsimp +zetaDelta only)

end Cert.Proof.Attn

end
-- ==== Proof.Attn.Run.lean ====
/-
  The run of the attention kernel. At every grid point the body is handed its nine staged blocks, its scratch buffers and the
  generator register, all at some contents, and hands them back at some contents (`body_obligation`, from `body_safe`); the
  launch is the library's, nothing being said of what any block holds. The kernel's arguments end as they began because a
  window that is only fetched is never written back.
-/
module

public import proofs.«01_k».proof.Proof.Attn.Body
public import proofs.«01_k».proof.Proof.Gen.Kernel.Launch
public import proofs.«01_k».proof.Proof.Gen.Kernel.Points
public import Idealize.ShloMosaic.Lib.Pipeline.Frame

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligationLoose ΦA)

variable {F : FTy → Type} [BitOps F] [∀ e, Nonempty (Elt F e)]

local notation "𝕄" => MT nD τ sig Unit (Elt F) ℕ (UR nD τ) ℕ

/-! ### Ownership at some contents, in the pipeline's words -/

theorem own_of_owns (c : Dev nD) {sp : Space} {s : Shape} {e : EltTy} (m : Memref sig .tc sp s e) :
    (iprop(∃ X, owns (c : Thread nD τ) m fullShare X) : sProp 𝕄) ⊢ Own c m := by
  unfold owns Own
  iintro ⟨%X, %f, -, H⟩
  iexists f
  iexact H

theorem owns_of_own (c : Dev nD) {sp : Space} {s : Shape} {e : EltTy} (m : Memref sig .tc sp s e) :
    (Own c m : sProp 𝕄) ⊢ iprop(∃ X, owns (c : Thread nD τ) m fullShare X) := by
  unfold owns Own
  iintro ⟨%f, H⟩
  iexists _, f
  isplitr
  · ipureintro; rfl
  iexact H

theorem own_whole (c : Dev nD) (b : Ref sig .tc) :
    (iprop(∃ f : Buf (Elt F) ((c : Thread nD τ).loc b), ((c : Thread nD τ).loc b) ↦{fullShare} f) : sProp 𝕄)
      = Own c (Memref.whole b) := by
  unfold Own
  simp only [Memref.view_whole, View.set_whole]

/-! ### What the body runs with -/

section Point

variable (c : Dev nD)
  (a0 : Memref sig .tc .vmem S1x512x256 .bf16) (a1 : Memref sig .tc .vmem S1x256x256 .bf16)
  (a2 : Memref sig .tc .vmem S1x8x256 .f32) (a3 : Memref sig .tc .vmem S1x8192x512 .bf16)
  (a4 : Memref sig .tc .vmem S1x512x8192 .bf16) (a5 : Memref sig .tc .vmem S1x8192x32 .bf16)
  (a6 : Memref sig .tc .vmem S8x2x256x256 .f32) (a7 : Memref sig .tc .smem S8 .f32)
  (a8 : Memref sig .tc .vmem S1x256x512 .bf16)

/-- The nine blocks and the nine scratch buffers, each at some contents, and whatever else is carried along. -/
def held (R : sProp (MT nD τ sig Unit (Elt F) ℕ (UR nD τ) ℕ)) : sProp (MT nD τ sig Unit (Elt F) ℕ (UR nD τ) ℕ) :=
  iprop((Own c a0 ∗ Own c a1 ∗ Own c a2 ∗ Own c a3 ∗ Own c a4 ∗ Own c a5 ∗ Own c a6 ∗ Own c a7 ∗ Own c a8)
    ∗ (Own c (Memref.whole cc0_scratch0) ∗ Own c (Memref.whole cc0_scratch1) ∗ Own c (Memref.whole cc0_scratch2)
      ∗ Own c (Memref.whole cc0_scratch3) ∗ Own c (Memref.whole cc0_scratch4) ∗ Own c (Memref.whole cc0_scratch5)
      ∗ Own c (Memref.whole cc0_scratch6) ∗ Own c (Memref.whole cc0_scratch7) ∗ Own c (Memref.whole cc0_scratch8))
    ∗ R)

variable {c}

/-- A part of a separating conjunction can be taken out and put back. -/
theorem has_left {P R : sProp (MT nD τ sig Unit (Elt F) ℕ (UR nD τ) ℕ)} {sp : Space} {s : Shape} {e : EltTy} {m : Memref sig .tc sp s e}
    (h : Has c P m) : Has c iprop(P ∗ R) m := by
  unfold Has at *
  iintro ⟨HP, HR⟩
  ihave HP := h $$ HP
  icases HP with ⟨HO, Hb⟩
  isplitl [HO]; · iexact HO
  iintro HO
  isplitl [HO Hb]
  · iapply Hb; iexact HO
  iexact HR

theorem has_right {P R : sProp (MT nD τ sig Unit (Elt F) ℕ (UR nD τ) ℕ)} {sp : Space} {s : Shape} {e : EltTy} {m : Memref sig .tc sp s e}
    (h : Has c R m) : Has c iprop(P ∗ R) m := by
  unfold Has at *
  iintro ⟨HP, HR⟩
  ihave HR := h $$ HR
  icases HR with ⟨HO, Hb⟩
  isplitl [HO]; · iexact HO
  iintro HO
  isplitl [HP]; · iexact HP
  iapply Hb; iexact HO

theorem has_self {sp : Space} {s : Shape} {e : EltTy} (m : Memref sig .tc sp s e) : Has (F := F) c (Own c m) m := by
  unfold Has
  iintro HO
  isplitl [HO]; · iexact HO
  iintro HO
  iexact HO

variable (c)

/-- All eighteen buffers are held. -/
theorem held_held (R : sProp (MT nD τ sig Unit (Elt F) ℕ (UR nD τ) ℕ)) :
    Held c (held c a0 a1 a2 a3 a4 a5 a6 a7 a8 R) a0 a1 a2 a3 a4 a5 a6 a7 a8 (Memref.whole cc0_scratch0) (Memref.whole cc0_scratch1)
      (Memref.whole cc0_scratch2) (Memref.whole cc0_scratch3) (Memref.whole cc0_scratch4) (Memref.whole cc0_scratch5)
      (Memref.whole cc0_scratch6) (Memref.whole cc0_scratch7) (Memref.whole cc0_scratch8) where
  h2 := has_left (has_left (has_self _))
  h3 := has_left (has_right (has_left (has_self _)))
  h4 := has_left (has_right (has_right (has_left (has_self _))))
  h5 := has_left (has_right (has_right (has_right (has_left (has_self _)))))
  h6 := has_left (has_right (has_right (has_right (has_right (has_left (has_self _))))))
  h7 := has_left (has_right (has_right (has_right (has_right (has_right (has_left (has_self _)))))))
  h8 := has_left (has_right (has_right (has_right (has_right (has_right (has_right (has_left (has_self _))))))))
  h9 := has_left (has_right (has_right (has_right (has_right (has_right (has_right (has_right (has_left (has_self _)))))))))
  h10 := has_left (has_right (has_right (has_right (has_right (has_right (has_right (has_right (has_right (has_self _)))))))))
  h11 := has_right (has_left (has_left (has_self _)))
  h12 := has_right (has_left (has_right (has_left (has_self _))))
  h13 := has_right (has_left (has_right (has_right (has_left (has_self _)))))
  h14 := has_right (has_left (has_right (has_right (has_right (has_left (has_self _))))))
  h15 := has_right (has_left (has_right (has_right (has_right (has_right (has_left (has_self _)))))))
  h16 := has_right (has_left (has_right (has_right (has_right (has_right (has_right (has_left (has_self _))))))))
  h17 := has_right (has_left (has_right (has_right (has_right (has_right (has_right (has_right (has_left (has_self _)))))))))
  h18 := has_right (has_left (has_right (has_right (has_right (has_right (has_right (has_right (has_right (has_left (has_self _))))))))))
  h19 := has_right (has_left (has_right (has_right (has_right (has_right (has_right (has_right (has_right (has_right (has_self _))))))))))

end Point

/-! ### The pipeline's data -/

variable (m : (ℓ : Loc nD τ sig) → Buf (Elt F) ℓ) (ρ : Dev nD → PrngReg)

/-- The arrays as they are at launch; nothing named of what the body leaves. -/
def dats (_ : Fin 1) (c : Dev nD) : Dat τ (Elt F) Unit ℕ (UR nD τ) ℕ (cfg0 (F := F)) c where
  A w := m ((c : Thread nD τ).loc (Pipeline.arrRef spec0 w))
  after _ _ := Classical.arbitrary _
  Φ _ := ΦA spec0 c
  q _ := fullShare
  owed _ := 0

/-- The body at any point keeps what it is handed. -/
theorem body_obligation (c : Dev nD) :
    BodyObligationLoose (dats m 0 c) (defs₀ (F := F)) 𝒱₀ () Set.univ (fun _ => true) := by
  intro t
  rw [show (dats m 0 c).Φ t.succ = ΦA spec0 c from rfl, show (dats m 0 c).Φ t.castSucc = ΦA spec0 c from rfl,
    show (dats m 0 c).owesAt () t.succ = (dats m 0 c).owesAt () t.castSucc from rfl]
  show iprop(ΦA spec0 c ∗ (dats m 0 c).owesAt () t.castSucc
      ∗ bigSep Finset.univ fun w : Fin 9 => iprop(∃ X, owns (c : Thread nD τ) (((cfg0 (F := F)).win w).stage ((cfg0 (F := F)).slots t w)) fullShare X))
    ⊢ wp frame (wpE (defs₀ (F := F)) 𝒱₀ c none) Set.univ (bodyAt0 t) fun _ =>
      iprop(ΦA spec0 c ∗ (dats m 0 c).owesAt () t.castSucc
      ∗ bigSep Finset.univ fun w : Fin 9 => iprop(∃ X, owns (c : Thread nD τ) (((cfg0 (F := F)).win w).stage ((cfg0 (F := F)).slots t w)) fullShare X))
  have hs : Safe c (held c (st0_0 t) (st0_1 t) (st0_2 t) (st0_3 t) (st0_4 t) (st0_5 t) (st0_6 t) (st0_7 t) (st0_8 t)
      iprop((∃ r, prngReg c r) ∗ (dats m 0 c).owesAt () t.castSucc)) none (bodyAt0 (F := F) t) :=
    body_safe (held_held c (st0_0 t) (st0_1 t) (st0_2 t) (st0_3 t) (st0_4 t) (st0_5 t) (st0_6 t) (st0_7 t) (st0_8 t) _)
  unfold Safe at hs
  have he : iprop(ΦA spec0 c ∗ (dats m 0 c).owesAt () t.castSucc
      ∗ bigSep Finset.univ fun w : Fin 9 => iprop(∃ X, owns (c : Thread nD τ) (((cfg0 (F := F)).win w).stage ((cfg0 (F := F)).slots t w)) fullShare X))
      ⊢ held c (st0_0 t) (st0_1 t) (st0_2 t) (st0_3 t) (st0_4 t) (st0_5 t) (st0_6 t) (st0_7 t) (st0_8 t)
      iprop((∃ r, prngReg c r) ∗ (dats m 0 c).owesAt () t.castSucc) := by
    unfold ΦA held
    rw [bigSep_W0, scopedRest0_eq]
    simp only [own_whole]
    iintro ⟨⟨HS, Hr⟩, Ho, H0, H1, H2, H3, H4, H5, H6, H7, H8⟩
    isplitl [H0 H1 H2 H3 H4 H5 H6 H7 H8]
    · isplitl [H0]; · iapply own_of_owns; iexact H0
      isplitl [H1]; · iapply own_of_owns; iexact H1
      isplitl [H2]; · iapply own_of_owns; iexact H2
      isplitl [H3]; · iapply own_of_owns; iexact H3
      isplitl [H4]; · iapply own_of_owns; iexact H4
      isplitl [H5]; · iapply own_of_owns; iexact H5
      isplitl [H6]; · iapply own_of_owns; iexact H6
      isplitl [H7]; · iapply own_of_owns; iexact H7
      iapply own_of_owns; iexact H8
    isplitl [HS]; · iexact HS
    isplitl [Hr]; · iexact Hr
    iexact Ho
  have he' : held c (st0_0 t) (st0_1 t) (st0_2 t) (st0_3 t) (st0_4 t) (st0_5 t) (st0_6 t) (st0_7 t) (st0_8 t)
      iprop((∃ r, prngReg c r) ∗ (dats m 0 c).owesAt () t.castSucc)
      ⊢ iprop(ΦA spec0 c ∗ (dats m 0 c).owesAt () t.castSucc
      ∗ bigSep Finset.univ fun w : Fin 9 => iprop(∃ X, owns (c : Thread nD τ) (((cfg0 (F := F)).win w).stage ((cfg0 (F := F)).slots t w)) fullShare X)) := by
    unfold ΦA held
    rw [bigSep_W0, scopedRest0_eq]
    simp only [own_whole]
    iintro ⟨⟨H0, H1, H2, H3, H4, H5, H6, H7, H8⟩, HS, Hr, Ho⟩
    isplitl [HS Hr]
    · isplitl [HS]; · iexact HS
      iexact Hr
    isplitl [Ho]; · iexact Ho
    isplitl [H0]; · iapply owns_of_own; iexact H0
    isplitl [H1]; · iapply owns_of_own; iexact H1
    isplitl [H2]; · iapply owns_of_own; iexact H2
    isplitl [H3]; · iapply owns_of_own; iexact H3
    isplitl [H4]; · iapply owns_of_own; iexact H4
    isplitl [H5]; · iapply owns_of_own; iexact H5
    isplitl [H6]; · iapply owns_of_own; iexact H6
    isplitl [H7]; · iapply owns_of_own; iexact H7
    iapply owns_of_own; iexact H8
  exact he.trans (hs.trans (wp_mono _ _ _ fun _ => he'))

theorem share_eq (c : Dev nD) (w : Fin (cfg0 (F := F)).W) : (dats m 0 c).share w = fullShare := by
  unfold Dat.share; split <;> rfl

/-- The claim's post, at any float values. -/
def Post (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0

/-- At the compiled mesh, for any float values, from any memory with zero counters, every weakly fair execution terminates
    without fault, the eight arguments end unchanged and every counter is zero again. -/
theorem run : θ_run defs (onTc (τ := τ) (main (F := F))) ⟨m, fun _ => 0, ρ⟩ (Post m) :=
  Pipeline.θ_run_frame_forget cfgs (dats m) 0 launch0 defs₀ 𝒱₀ (fun _ => true) m ρ main
    (body_obligation m) (share_eq m) (fun _ _ => rfl)
    (fun c b => m ((c : Thread nD τ).loc b))
    (Pipeline.hmain_region cfgs 0 defs₀ 𝒱₀ m main fun c => by
      simp only [main, Prog.lift, Prog.bind_op, Prog.bind_ret]; rfl)
    (fun _ _ => rfl) (fun _ _ => rfl) (Post m)
    (fun r h => ⟨fun c => ⟨h.1.arr_in c (0 : Fin 9) rfl, h.1.arr_in c (1 : Fin 9) rfl, h.1.arr_in c (2 : Fin 9) rfl,
      h.1.arr_in c (3 : Fin 9) rfl, h.1.arr_in c (4 : Fin 9) rfl, h.1.arr_in c (5 : Fin 9) rfl, h.1.arr_in c (6 : Fin 9) rfl,
      h.1.arr_in c (7 : Fin 9) rfl⟩, h.2⟩)

end Cert.Proof.Attn

end
-- ==== Proof.Norm.lean ====
/-
  The layer norm of a row of 1024 numbers over the extended reals, as both programs compute it: the mean subtracted, the
  result scaled by the reciprocal root of the mean square plus a constant, then by the gain, and the bias added.
-/
module

public import Idealize.ShloMosaic.Lib.Pipeline.ValueKit
public import Idealize.ShloMosaic.Lib.Pointwise

@[expose] public section

noncomputable section

namespace Cert.Proof

open Idealize.ShloMosaic

/-- A row less its mean, at position `k`. -/
def centred (f : Fin 1024 → EReal) (k : Fin 1024) : EReal :=
  f k - Ideal.div (∑ j : Fin 1024, f j) (Ideal.ofBits .f32 0x44800000#32)

/-- The normalised row `d` (already centred) at position `k`, scaled by `g` and shifted by `b`. -/
def scaled (d : Fin 1024 → EReal) (g b : EReal) (k : Fin 1024) : EReal :=
  d k * Ideal.rsqrt (Ideal.div (∑ j : Fin 1024, d j * d j) (Ideal.ofBits .f32 0x44800000#32)
      + Ideal.ofBits .f32 0x3727C5AC#32) * g + b

/-- The layer norm of the row `f` at position `k`. -/
def norm (f : Fin 1024 → EReal) (g b : EReal) (k : Fin 1024) : EReal := scaled (centred f) g b k

end Cert.Proof

end
-- ==== Proof.Ffn.Rows.lean ====
/-
  What one step of the feed-forward block leaves at an entry, as a formula over the extended reals.
-/
module

public import Idealize.ShloMosaic.Lib.IdealHost
public import proofs.«01_k».proof.Proof.Norm

@[expose] public section

set_option maxRecDepth 16384

noncomputable section

namespace Cert.Proof.Ffn

open Idealize.ShloMosaic

/-- The gated activation of a row at one hidden unit: its gate times the logistic function of the gate, times its up-projection. -/
def hid (x : Fin 1024 → EReal) (wg wu : Fin 1024 → EReal) : EReal :=
  (∑ k : Fin 1024, x k * wg k) * Ideal.logistic (∑ k : Fin 1024, x k * wg k) * (∑ k : Fin 1024, x k * wu k)

/-- The scaled residual and the block's output at position `k` of a row, before the norm. -/
def row (x : Fin 1024 → EReal) (wg wu : Fin 1024 → Fin 2816 → EReal) (wd : Fin 2816 → Fin 1024 → EReal) (k : Fin 1024) : EReal :=
  Ideal.ofBits .f32 0x3F9837F0#32 * x k
    + ∑ j : Fin 2816, hid x (fun i => wg i j) (fun i => wu i j) * wd j k

/-- The column of the joint input weights that holds column `j` of the gate's. -/
def left (j : Fin 2816) : Fin 5632 := ⟨j.val, by have := j.isLt; omega⟩

/-- The column of the joint input weights that holds column `j` of the up-projection's. -/
def right (j : Fin 2816) : Fin 5632 := ⟨2816 + j.val, by have := j.isLt; omega⟩

/-- What the 256 hidden units from position `a` on add to position `k` of a row. -/
def chunk (x : Fin 1024 → EReal) (wg wu : Fin 1024 → Fin 2816 → EReal) (wd : Fin 2816 → Fin 1024 → EReal) (k : Fin 1024)
    (a : ℕ) (ha : a + 256 ≤ 2816) : EReal :=
  ∑ j : Fin 256, hid x (fun i => wg i ⟨a + j.val, by have := j.isLt; omega⟩) (fun i => wu i ⟨a + j.val, by have := j.isLt; omega⟩)
    * wd ⟨a + j.val, by have := j.isLt; omega⟩ k

/-- The residual and the chunks added one after the other are the row. -/
theorem row_eq_chunks (x : Fin 1024 → EReal) (wg wu : Fin 1024 → Fin 2816 → EReal) (wd : Fin 2816 → Fin 1024 → EReal) (k : Fin 1024) :
    Ideal.ofBits .f32 0x3F9837F0#32 * x k + chunk x wg wu wd k 0 (by omega) + chunk x wg wu wd k 256 (by omega)
      + chunk x wg wu wd k 512 (by omega) + chunk x wg wu wd k 768 (by omega) + chunk x wg wu wd k 1024 (by omega)
      + chunk x wg wu wd k 1280 (by omega) + chunk x wg wu wd k 1536 (by omega) + chunk x wg wu wd k 1792 (by omega)
      + chunk x wg wu wd k 2048 (by omega) + chunk x wg wu wd k 2304 (by omega) + chunk x wg wu wd k 2560 (by omega)
      = row x wg wu wd k := by
  have h : ∑ j : Fin 2816, hid x (fun i => wg i j) (fun i => wu i j) * wd j k
      = ∑ s : Fin 11, chunk x wg wu wd k (s.val * 256) (by have := s.isLt; omega) :=
    (Fin.sum_mul_add_fin 11 256 (fun j : Fin 2816 => hid x (fun i => wg i j) (fun i => wu i j) * wd j k)).symm
  rw [row, h]
  simp only [Fin.sum_univ_succ, Fin.sum_univ_zero, add_zero, add_assoc]
  rfl

end Cert.Proof.Ffn

end
-- ==== Proof.Ffn.Prompt.Payloads.lean ====
/-
  What the feed-forward kernel's block and the reference's array hold at one row and column.
-/
module

public import proofs.«01_k».proof.Proof.Gen.Kernel2Ideal.Value
public import proofs.«01_k».proof.Proof.Gen.Reference2Ideal.Run
public import proofs.«01_k».proof.Proof.Ffn.Rows

@[expose] public section

set_option maxRecDepth 16384

noncomputable section

namespace Cert.Proof.Ffn.Prompt

open Idealize.ShloMosaic Idealize.ShloMosaic.TcCoe Idealize.SL.Sem

section Kernel
open Cert.Kernel2Ideal Cert.Kernel2Ideal.Gen

theorem start_apply (v0 : Vec Ideal S512x1024 .f32) (r : Fin 512) (k : Fin 1024) :
    k0_pay4 v0 (ix2 r k) = Ideal.ofBits .f32 0x3F9837F0#32 * v0 (ix2 r k) := by
  pointwise [k0_pay4]

theorem step0_apply (v0 : Vec Ideal S512x1024 .f32) (g u : Vec Ideal S1024x256 .bf16) (a : Vec Ideal S512x1024 .f32) (o : Vec Ideal S256x1024 .bf16) (r : Fin 512) (k : Fin 1024) :
    k0_pay5 v0 g u a o (ix2 r k) = a (ix2 r k) + ∑ j : Fin 256, hid (fun i => v0 (ix2 r i)) (fun i => g (ix2 i j)) (fun i => u (ix2 i j)) * o (ix2 j k) := by
  pointwise [k0_pay5, k0_pay3, hid]

theorem step1_apply (v0 : Vec Ideal S512x1024 .f32) (g u : Vec Ideal S1024x256 .bf16) (a : Vec Ideal S512x1024 .f32) (o : Vec Ideal S256x1024 .bf16) (r : Fin 512) (k : Fin 1024) :
    k0_pay8 (k0_pay6 v0 u) (k0_pay7 v0 g) a o (ix2 r k) = a (ix2 r k) + ∑ j : Fin 256, hid (fun i => v0 (ix2 r i)) (fun i => g (ix2 i j)) (fun i => u (ix2 i j)) * o (ix2 j k) := by
  pointwise [k0_pay8, k0_pay6, k0_pay7, k0_pay3, hid]

theorem step2_apply (v0 : Vec Ideal S512x1024 .f32) (g u : Vec Ideal S1024x256 .bf16) (a : Vec Ideal S512x1024 .f32) (o : Vec Ideal S256x1024 .bf16) (r : Fin 512) (k : Fin 1024) :
    k0_pay9 (k0_pay3 v0) g u a o (ix2 r k) = a (ix2 r k) + ∑ j : Fin 256, hid (fun i => v0 (ix2 r i)) (fun i => g (ix2 i j)) (fun i => u (ix2 i j)) * o (ix2 j k) := by
  pointwise [k0_pay9, k0_pay3, hid]

theorem step3_apply (v0 : Vec Ideal S512x1024 .f32) (g u : Vec Ideal S1024x256 .bf16) (a : Vec Ideal S512x1024 .f32) (o : Vec Ideal S256x1024 .bf16) (r : Fin 512) (k : Fin 1024) :
    k0_pay12 (k0_pay3 v0) (k0_pay10 (k0_pay3 v0) g) (k0_pay11 u) a o (ix2 r k) = a (ix2 r k) + ∑ j : Fin 256, hid (fun i => v0 (ix2 r i)) (fun i => g (ix2 i j)) (fun i => u (ix2 i j)) * o (ix2 j k) := by
  pointwise [k0_pay12, k0_pay10, k0_pay11, k0_pay3, hid]

theorem step4_apply (v0 : Vec Ideal S512x1024 .f32) (g u : Vec Ideal S1024x256 .bf16) (a : Vec Ideal S512x1024 .f32) (o : Vec Ideal S256x1024 .bf16) (r : Fin 512) (k : Fin 1024) :
    k0_pay13 (k0_pay3 v0) g u a o (ix2 r k) = a (ix2 r k) + ∑ j : Fin 256, hid (fun i => v0 (ix2 r i)) (fun i => g (ix2 i j)) (fun i => u (ix2 i j)) * o (ix2 j k) := by
  pointwise [k0_pay13, k0_pay3, hid]

theorem step5_apply (v0 : Vec Ideal S512x1024 .f32) (g u : Vec Ideal S1024x256 .bf16) (a : Vec Ideal S512x1024 .f32) (o : Vec Ideal S256x1024 .bf16) (r : Fin 512) (k : Fin 1024) :
    k0_pay15 (k0_pay3 v0) (k0_pay14 (k0_pay3 v0) g) u a o (ix2 r k) = a (ix2 r k) + ∑ j : Fin 256, hid (fun i => v0 (ix2 r i)) (fun i => g (ix2 i j)) (fun i => u (ix2 i j)) * o (ix2 j k) := by
  pointwise [k0_pay15, k0_pay14, k0_pay3, hid]

theorem step6_apply (v0 : Vec Ideal S512x1024 .f32) (g u : Vec Ideal S1024x256 .bf16) (a : Vec Ideal S512x1024 .f32) (o : Vec Ideal S256x1024 .bf16) (r : Fin 512) (k : Fin 1024) :
    k0_pay16 (k0_pay3 v0) g u a o (ix2 r k) = a (ix2 r k) + ∑ j : Fin 256, hid (fun i => v0 (ix2 r i)) (fun i => g (ix2 i j)) (fun i => u (ix2 i j)) * o (ix2 j k) := by
  pointwise [k0_pay16, k0_pay3, hid]

theorem step7_apply (v0 : Vec Ideal S512x1024 .f32) (g u : Vec Ideal S1024x256 .bf16) (a : Vec Ideal S512x1024 .f32) (o : Vec Ideal S256x1024 .bf16) (r : Fin 512) (k : Fin 1024) :
    k0_pay17 (k0_pay3 v0) g u a o (ix2 r k) = a (ix2 r k) + ∑ j : Fin 256, hid (fun i => v0 (ix2 r i)) (fun i => g (ix2 i j)) (fun i => u (ix2 i j)) * o (ix2 j k) := by
  pointwise [k0_pay17, k0_pay3, hid]

theorem step8_apply (v0 : Vec Ideal S512x1024 .f32) (g u : Vec Ideal S1024x256 .bf16) (a : Vec Ideal S512x1024 .f32) (o : Vec Ideal S256x1024 .bf16) (r : Fin 512) (k : Fin 1024) :
    k0_pay19 (k0_pay18 (k0_pay3 v0) g u a o) (ix2 r k) = a (ix2 r k) + ∑ j : Fin 256, hid (fun i => v0 (ix2 r i)) (fun i => g (ix2 i j)) (fun i => u (ix2 i j)) * o (ix2 j k) := by
  pointwise [k0_pay19, k0_pay18, k0_pay3, hid]

theorem step9_apply (v0 : Vec Ideal S512x1024 .f32) (g u : Vec Ideal S1024x256 .bf16) (a : Vec Ideal S512x1024 .f32) (o : Vec Ideal S256x1024 .bf16) (r : Fin 512) (k : Fin 1024) :
    k0_pay20 (k0_pay3 v0) g u a o (ix2 r k) = a (ix2 r k) + ∑ j : Fin 256, hid (fun i => v0 (ix2 r i)) (fun i => g (ix2 i j)) (fun i => u (ix2 i j)) * o (ix2 j k) := by
  pointwise [k0_pay20, k0_pay3, hid]

theorem step10_apply (v0 : Vec Ideal S512x1024 .f32) (g u : Vec Ideal S1024x256 .bf16) (a : Vec Ideal S512x1024 .f32) (o : Vec Ideal S256x1024 .bf16) (r : Fin 512) (k : Fin 1024) :
    k0_pay1 (k0_pay21 (k0_pay3 v0) g u a o) (ix2 r k) = a (ix2 r k) + ∑ j : Fin 256, hid (fun i => v0 (ix2 r i)) (fun i => g (ix2 i j)) (fun i => u (ix2 i j)) * o (ix2 j k) := by
  pointwise [k0_pay1, k0_pay21, k0_pay3, hid]

theorem pay2_apply (v : Vec Ideal S512x1024 .f32) (g b : Vec Ideal S1x1024 .f32) (r : Fin 512) (k : Fin 1024) :
    k0_pay2 v g b (ix2 r k) = norm (fun j => v (ix2 r j)) (g (ix2 0 k)) (b (ix2 0 k)) k := by
  pointwise [k0_pay2, norm, scaled, centred]

end Kernel

end Cert.Proof.Ffn.Prompt

end
-- ==== Proof.Ffn.Prompt.Kernel.lean ====
/-
  The array the feed-forward kernel's pipeline leaves: block by block the formula of `Ffn/Rows`.
-/
module

public import Idealize.ShloMosaic.Lib.Pipeline.ReadBack
public import proofs.«01_k».proof.Proof.Ffn.Prompt.Payloads

@[expose] public section

set_option maxRecDepth 16384

noncomputable section

namespace Cert.Proof.Ffn.Prompt

open Idealize.ShloMosaic Idealize.ShloMosaic.TcCoe Idealize.SL.Sem
open Cert.Kernel2Ideal Cert.Kernel2Ideal.Gen

variable (m : (ℓ : Loc nD τ sig) → Buf (Elt Ideal) ℓ)

/-- The kernel's result as a formula of its arguments. -/
def kernelOut (c : Dev nD) : FVec Ideal S65536x1024 .f32 := fun y =>
  norm (row (fun j => (m ((c.tc : Thread nD τ).loc main_arg0) : FVec Ideal S65536x1024 .f32) (ix2 (y 0) j))
      (fun i j => (m ((c.tc : Thread nD τ).loc main_arg1) : FVec Ideal S1x1024x5632 .f32) (ix3 0 i (left j)))
      (fun i j => (m ((c.tc : Thread nD τ).loc main_arg1) : FVec Ideal S1x1024x5632 .f32) (ix3 0 i (right j)))
      (fun i j => (m ((c.tc : Thread nD τ).loc main_arg2) : FVec Ideal S1x2816x1024 .f32) (ix3 0 i j)))
    ((m ((c.tc : Thread nD τ).loc main_arg3) : FVec Ideal S1x1024 .f32) (ix2 0 (y 1))) ((m ((c.tc : Thread nD τ).loc main_arg4) : FVec Ideal S1x1024 .f32) (ix2 0 (y 1))) (y 1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- The array's row behind row `r` of the block at `t`. -/
def line (t : Fin cfg0.N) (r : Fin 512) : Fin 65536 :=
  ⟨512 * t.val + r.val, by have := t.isLt; have := r.isLt; have h : cfg0.N = 128 := rfl; omega⟩

theorem read0 (c : Dev nD) (t : Fin cfg0.N) (r : Fin 512) (j : Fin 1024) :
    iblk m c 0 t (ix2 r j) = (m ((c.tc : Thread nD τ).loc main_arg0) : FVec Ideal S65536x1024 .f32) (ix2 (line t r) j) := by
  blk_ext! [iblk, V, idx0 t, line]

theorem read1 (c : Dev nD) (t : Fin cfg0.N) (i : Fin 1024) (j : Fin 2816) :
    iblk m c 1 t (ix2 i j) = (m ((c.tc : Thread nD τ).loc main_arg1) : FVec Ideal S1x1024x5632 .f32) (ix3 0 i (left j)) := by
  blk_ext! [iblk, V, idx1 t, left]

theorem read2 (c : Dev nD) (t : Fin cfg0.N) (i : Fin 1024) (j : Fin 2816) :
    iblk m c 2 t (ix2 i j) = (m ((c.tc : Thread nD τ).loc main_arg1) : FVec Ideal S1x1024x5632 .f32) (ix3 0 i (right j)) := by
  blk_ext! [iblk, V, idx2 t, right]

theorem read3 (c : Dev nD) (t : Fin cfg0.N) (i : Fin 2816) (j : Fin 1024) :
    iblk m c 3 t (ix2 i j) = (m ((c.tc : Thread nD τ).loc main_arg2) : FVec Ideal S1x2816x1024 .f32) (ix3 0 i j) := by
  blk_ext! [iblk, V, idx3 t]

theorem read4 (c : Dev nD) (t : Fin cfg0.N) (j : Fin 1024) :
    iblk m c 4 t (ix2 0 j) = (m ((c.tc : Thread nD τ).loc main_arg3) : FVec Ideal S1x1024 .f32) (ix2 0 j) := by
  blk_ext! [iblk, V, idx4 t]

theorem read5 (c : Dev nD) (t : Fin cfg0.N) (j : Fin 1024) :
    iblk m c 5 t (ix2 0 j) = (m ((c.tc : Thread nD τ).loc main_arg4) : FVec Ideal S1x1024 .f32) (ix2 0 j) := by
  blk_ext! [iblk, V, idx5 t]

theorem place (t : Fin cfg0.N) (r : Fin 512) (k : Fin 1024) : ((View.whole main_v12).slice (win0_6.rect t)).emb (ix2 r k) = ix2 (line t r) k := by
  blk_ext! [idx6 t, line]

/-- A load of 256 columns of the gate's weights, at an entry. -/
theorem load1 (c : Dev nD) (t : Fin cfg0.N) (a : ℕ) (h : ∀ k, (![0, a] : Fin 2 → ℕ) k + (![1024, 256] : Fin 2 → ℕ) k ≤ S1024x2816.size k)
    (i : Fin 1024) (j : Fin 256) :
    View.ld (S := S1024x2816) (iblk m c 1 t) (Rect.unit ![0, a] ![1024, 256] h) (ix2 i j)
      = (m ((c.tc : Thread nD τ).loc main_arg1) : FVec Ideal S1x1024x5632 .f32) (ix3 0 i (left ⟨a + j.val, by have h1 : a + 256 ≤ 2816 := h 1; have := j.isLt; omega⟩)) :=
  (View.ld_unit_apply_of _ _ _ h _ (ix2 i ⟨a + j.val, by have h1 : a + 256 ≤ 2816 := h 1; have := j.isLt; omega⟩)
    fun k => by fin_cases k <;> simp).trans (read1 m c t i _)

/-- A load of 256 columns of the up-projection's weights, at an entry. -/
theorem load2 (c : Dev nD) (t : Fin cfg0.N) (a : ℕ) (h : ∀ k, (![0, a] : Fin 2 → ℕ) k + (![1024, 256] : Fin 2 → ℕ) k ≤ S1024x2816.size k)
    (i : Fin 1024) (j : Fin 256) :
    View.ld (S := S1024x2816) (iblk m c 2 t) (Rect.unit ![0, a] ![1024, 256] h) (ix2 i j)
      = (m ((c.tc : Thread nD τ).loc main_arg1) : FVec Ideal S1x1024x5632 .f32) (ix3 0 i (right ⟨a + j.val, by have h1 : a + 256 ≤ 2816 := h 1; have := j.isLt; omega⟩)) :=
  (View.ld_unit_apply_of _ _ _ h _ (ix2 i ⟨a + j.val, by have h1 : a + 256 ≤ 2816 := h 1; have := j.isLt; omega⟩)
    fun k => by fin_cases k <;> simp).trans (read2 m c t i _)

/-- A load of 256 rows of the output weights, at an entry. -/
theorem load3 (c : Dev nD) (t : Fin cfg0.N) (a : ℕ) (h : ∀ k, (![a, 0] : Fin 2 → ℕ) k + (![256, 1024] : Fin 2 → ℕ) k ≤ S2816x1024.size k)
    (j : Fin 256) (k : Fin 1024) :
    View.ld (S := S2816x1024) (iblk m c 3 t) (Rect.unit ![a, 0] ![256, 1024] h) (ix2 j k)
      = (m ((c.tc : Thread nD τ).loc main_arg2) : FVec Ideal S1x2816x1024 .f32) (ix3 0 ⟨a + j.val, by have h0 : a + 256 ≤ 2816 := h 0; have := j.isLt; omega⟩ k) :=
  (View.ld_unit_apply_of _ _ _ h _ (ix2 ⟨a + j.val, by have h0 : a + 256 ≤ 2816 := h 0; have := j.isLt; omega⟩ k)
    fun k => by fin_cases k <;> simp).trans (read3 m c t _ k)

theorem value (c : Dev nD) : (dats m 0 c).arrAt 6 cfg0.N = kernelOut m c := by
  refine (dats m 0 c).arrAt_eq_of_covers 6 (kernelOut m c) (by decide +kernel) fun t hf y => ?_
  blk_simp
  rw [after0_6]
  unfold outsAt0
  frame_open
  simp (disch := decide) only [↓ View.readCov_skip, ↓ View.readCov_cons_toLoadRect, ↓ View.readCov_fill]
  frame_out
  idx_vars y
  rw [pay2_apply, place]
  simp only [step10_apply, step9_apply, step8_apply, step7_apply, step6_apply, step5_apply, step4_apply, step3_apply,
    step2_apply, step1_apply, step0_apply, start_apply, load1, load2, load3, read0, read4, read5]
  refine congrArg (fun f => norm f _ _ _) (funext fun k => ?_)
  exact row_eq_chunks (fun j => (m ((c.tc : Thread nD τ).loc main_arg0) : FVec Ideal S65536x1024 .f32) (ix2 (line t y0) j))
    (fun i j => (m ((c.tc : Thread nD τ).loc main_arg1) : FVec Ideal S1x1024x5632 .f32) (ix3 0 i (left j)))
    (fun i j => (m ((c.tc : Thread nD τ).loc main_arg1) : FVec Ideal S1x1024x5632 .f32) (ix3 0 i (right j)))
    (fun i j => (m ((c.tc : Thread nD τ).loc main_arg2) : FVec Ideal S1x2816x1024 .f32) (ix3 0 i j)) k

end Cert.Proof.Ffn.Prompt

end
-- ==== Proof.Ffn.Prompt.Reference.lean ====
/-
  What the feed-forward reference's array holds at one row and column.
-/
module

public import proofs.«01_k».proof.Proof.Gen.Reference2Ideal.Run
public import proofs.«01_k».proof.Proof.Ffn.Rows

@[expose] public section

set_option maxRecDepth 16384

noncomputable section

namespace Cert.Proof.Ffn.Prompt

open Idealize.ShloMosaic Idealize.ShloMosaic.TcCoe Idealize.SL.Sem
open Cert.Reference2Ideal Cert.Reference2Ideal.Gen Cert.Reference2Ideal.Facts

variable [Cert.Reference2Ideal.Facts]

/-- The reference's array before the norm. -/
def pre (x : FVec Ideal S65536x1024 .f32) (w : FVec Ideal S1x1024x5632 .f32) (wd : FVec Ideal S1x2816x1024 .f32) : FVec Ideal S65536x1024 .f32 :=
  addf (mulf (broadcastInDim S65536x1024 ![] bcast_S_S65536x1024 (constant S_ .f32 0x3F9837F0#32)) x) (Host.dotGeneral dot_S65536x2816_S2816x1024_S65536x1024_1_0_0_1_n_n none (mulf (mulf (extractStridedSlice S65536x2816 ![0, 0] (Host.dotGeneral dot_S65536x1024_S1024x5632_S65536x5632_1_0_0_1_n_n none x (shapeCast _ w shapeCasts_S1x1024x5632_S1024x5632)) slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] (Host.dotGeneral dot_S65536x1024_S1024x5632_S65536x5632_1_0_0_1_n_n none x (shapeCast _ w shapeCasts_S1x1024x5632_S1024x5632)) slices_S65536x5632_S65536x2816_0_0)))))) (extractStridedSlice S65536x2816 ![0, 2816] (Host.dotGeneral dot_S65536x1024_S1024x5632_S65536x5632_1_0_0_1_n_n none x (shapeCast _ w shapeCasts_S1x1024x5632_S1024x5632)) slices_S65536x5632_S65536x2816_0_2816)) (shapeCast _ wd shapeCasts_S1x2816x1024_S2816x1024))

/-- The reference's rows less their means. -/
def less (h : FVec Ideal S65536x1024 .f32) : FVec Ideal S65536x1024 .f32 :=
  subf h (broadcastInDim S65536x1024 ![0, 1] bcast_S65536x1_S65536x1024_0_1 (Host.divf (broadcastInDim S65536x1 ![0] bcast_S65536_S65536x1_0 (Host.reduceAdd h (constant S_ .f32 0x00000000#32) reducesTo_S65536x1024_S65536_d1 h_S_)) (broadcastInDim S65536x1 ![] bcast_S_S65536x1 (constant S_ .f32 0x44800000#32))))

/-- The reference's norm of rows already less their means. -/
def unit (d : FVec Ideal S65536x1024 .f32) (g b : FVec Ideal S1x1024 .f32) : FVec Ideal S65536x1024 .f32 :=
  addf (mulf (mulf d (broadcastInDim S65536x1024 ![0, 1] bcast_S65536x1_S65536x1024_0_1 (Host.rsqrt (addf (Host.divf (broadcastInDim S65536x1 ![0] bcast_S65536_S65536x1_0 (Host.reduceAdd (mulf d d) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 (shapeCast _ g shapeCasts_S1x1024_S1024)))) (broadcastInDim S65536x1024 ![0, 1] bcast_S1x1024_S65536x1024_0_1 (broadcastInDim S1x1024 ![1] bcast_S1024_S1x1024_1 (shapeCast _ b shapeCasts_S1x1024_S1024)))

theorem pre_apply (x : FVec Ideal S65536x1024 .f32) (w : FVec Ideal S1x1024x5632 .f32) (wd : FVec Ideal S1x2816x1024 .f32) (r : Fin 65536) (k : Fin 1024) :
    pre x w wd (ix2 r k)
      = row (fun j => x (ix2 r j)) (fun i j => w (ix3 0 i (left j))) (fun i j => w (ix3 0 i (right j))) (fun i j => wd (ix3 0 i j)) k := by
  pointwise [pre, row, hid, left, right, Ideal.logistic, Ideal.ofBits_one_f32]

theorem less_apply (h : FVec Ideal S65536x1024 .f32) (r : Fin 65536) (k : Fin 1024) :
    less h (ix2 r k) = centred (fun j => h (ix2 r j)) k := by
  pointwise [less, centred]

theorem unit_apply (d : FVec Ideal S65536x1024 .f32) (g b : FVec Ideal S1x1024 .f32) (r : Fin 65536) (k : Fin 1024) :
    unit d g b (ix2 r k) = scaled (fun j => d (ix2 r j)) (g (ix2 0 k)) (b (ix2 0 k)) k := by
  pointwise [unit, scaled]

theorem res_eq (m : (ℓ : Loc nD τ sig) → Buf (Elt Ideal) ℓ) (c : Dev nD) :
    Cert.Reference2Ideal.Value.res_out0 m c = unit (less (pre (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl

/-- The reference's array is the formula. -/
theorem unit_less_pre (x : FVec Ideal S65536x1024 .f32) (w : FVec Ideal S1x1024x5632 .f32) (wd : FVec Ideal S1x2816x1024 .f32)
    (g b : FVec Ideal S1x1024 .f32) (r : Fin 65536) (k : Fin 1024) :
    unit (less (pre x w wd)) g b (ix2 r k)
      = norm (row (fun j => x (ix2 r j)) (fun i j => w (ix3 0 i (left j))) (fun i j => w (ix3 0 i (right j))) (fun i j => wd (ix3 0 i j)))
          (g (ix2 0 k)) (b (ix2 0 k)) k := by
  rw [unit_apply]
  simp only [less_apply, pre_apply]
  rfl

end Cert.Proof.Ffn.Prompt

end
-- ==== Proof.Ffn.Prompt.Claim.lean ====
/-
  The feed-forward block: kernel and reference end with the same array.
-/
module

public import proofs.«01_k».proof.Defs
public import proofs.«01_k».proof.Proof.Ffn.Prompt.Kernel
public import proofs.«01_k».proof.Proof.Ffn.Prompt.Reference

@[expose] public section

set_option maxRecDepth 16384

noncomputable section

namespace Cert.Proof.Ffn.Prompt

open Idealize.ShloMosaic Idealize.ShloMosaic.TcCoe Idealize.SL.Sem

theorem algebraic : Cert.algebraic_Kernel2Ideal_Reference2Ideal := by
  intro m g m' g' _ hargs
  refine ⟨kernelOut m, (θ_run (Cert.Kernel2Ideal.defs (F := Ideal)) _ _).mono (fun r h c => ?_)
      (Cert.Kernel2Ideal.Value.run_blocks (F := Ideal) m g),
    (θ_run (Cert.Reference2Ideal.defs (F := Ideal)) _ _).mono (fun r h c => ?_)
      (Cert.Reference2Ideal.Value.run (F := Ideal) m' g')⟩
  · obtain ⟨hv, hk⟩ := h c
    exact ⟨hv.trans (value m c), hk⟩
  · obtain ⟨hv, hk⟩ := h c
    refine ⟨hv.trans ?_, hk⟩
    obtain ⟨h0, h1, h2, h3, h4⟩ := hargs c
    refine (res_eq m' c).trans ?_
    rw [h0, h1, h2, h3, h4]
    funext y
    obtain ⟨a, b, rfl⟩ : ∃ a b, y = ix2 a b := ⟨_, _, eq_ix2 y⟩
    exact unit_less_pre _ _ _ _ _ a b

end Cert.Proof.Ffn.Prompt

end
-- ==== Proof.InProj.Scale.lean ====
/-
  A row times a column, and the constant that scales it: scaling the column scales the sum.
-/
module

public import Idealize.ShloMosaic.Lib.Pipeline.ValueKit
public import Idealize.ShloMosaic.Lib.Pointwise
public import Idealize.ShloMosaic.Lib.IdealHost

@[expose] public section

noncomputable section

namespace Cert.Proof.InProj

open Idealize.ShloMosaic

/-- The product of the row `x` with the column `n` of `w`. -/
def proj (x : Fin 1024 → EReal) (w : Fin 1024 → Fin 4392 → EReal) (n : Fin 4392) : EReal := ∑ j : Fin 1024, x j * w j n

theorem sum_mul_coe {n : Nat} (f : Fin n → EReal) (r : ℝ) (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih,
      EReal.right_distrib_of_nonneg_of_ne_top (by exact_mod_cast hr) (EReal.coe_ne_top r)]

/-- The scale of the attention's queries, a real number. -/
theorem att_scale : ∃ r : ℝ, 0 ≤ r ∧ Ideal.ofBits .f32 0x3E38AA3B#32 = (r : EReal) := by
  refine ⟨12102203 / 67108864, by norm_num, ?_⟩
  simp [Ideal.ofBits, Ideal.ieee, -EReal.coe_mul]
  norm_num

/-- The scale of the indexer's weights, a real number. -/
theorem idx_scale : ∃ r : ℝ, 0 ≤ r ∧ Ideal.ofBits .f32 0x3D800000#32 = (r : EReal) := by
  refine ⟨1 / 16, by norm_num, ?_⟩
  simp [Ideal.ofBits, Ideal.ieee, -EReal.coe_mul]
  norm_num

/-- A column scaled by a real number before the product, or the product scaled after. -/
theorem sum_scale {n : Nat} (s : EReal) (h : ∃ r : ℝ, 0 ≤ r ∧ s = (r : EReal)) (x w : Fin n → EReal) :
    ∑ k, x k * (w k * s) = (∑ k, x k * w k) * s := by
  obtain ⟨r, hr, rfl⟩ := h
  rw [← sum_mul_coe _ r hr]
  exact Finset.sum_congr rfl fun k _ => (mul_assoc _ _ _).symm

end Cert.Proof.InProj

end
-- ==== Proof.InProj.Prompt.Reference.lean ====
/-
  The reference's projections of the prompt, entry by entry: each is a block of columns of one product.
-/
module

public import proofs.«01_k».proof.Proof.Gen.Reference3Ideal.Run
public import proofs.«01_k».proof.Proof.InProj.Scale

@[expose] public section

set_option maxRecDepth 16384

noncomputable section

namespace Cert.Proof.InProj.Prompt

open Idealize.ShloMosaic Idealize.ShloMosaic.TcCoe Idealize.SL.Sem
open Cert.Reference3Ideal Cert.Reference3Ideal.Gen Cert.Reference3Ideal.Facts

variable [Cert.Reference3Ideal.Facts]

/-- The reference's `u`. -/
def ref_u (x : FVec Ideal S8x8192x1024 .f32) (w : FVec Ideal S1x1024x4392 .f32) : FVec Ideal S8x8192x512 .f32 :=
  extractStridedSlice S8x8192x512 ![0, 0, 0] (Host.dotGeneral dot_S8x8192x1024_S1024x4392_S8x8192x4392_2_0_01_1_n_n none x (shapeCast _ w shapeCasts_S1x1024x4392_S1024x4392)) slices_S8x8192x4392_S8x8192x512_0_0_0

theorem ref_u_apply (x : FVec Ideal S8x8192x1024 .f32) (w : FVec Ideal S1x1024x4392 .f32) (a : Fin 8) (r : Fin 8192) (k : Fin 512) :
    ref_u x w (ix3 a r k) = proj (fun j => x (ix3 a r j)) (fun j n => w (ix3 0 j n)) ⟨0 + k.val, by omega⟩ := by
  pointwise [ref_u, proj]

/-- The reference's `k`. -/
def ref_k (x : FVec Ideal S8x8192x1024 .f32) (w : FVec Ideal S1x1024x4392 .f32) : FVec Ideal S8x8192x512 .f32 :=
  extractStridedSlice S8x8192x512 ![0, 0, 1024] (Host.dotGeneral dot_S8x8192x1024_S1024x4392_S8x8192x4392_2_0_01_1_n_n none x (shapeCast _ w shapeCasts_S1x1024x4392_S1024x4392)) slices_S8x8192x4392_S8x8192x512_0_0_1024

theorem ref_k_apply (x : FVec Ideal S8x8192x1024 .f32) (w : FVec Ideal S1x1024x4392 .f32) (a : Fin 8) (r : Fin 8192) (k : Fin 512) :
    ref_k x w (ix3 a r k) = proj (fun j => x (ix3 a r j)) (fun j n => w (ix3 0 j n)) ⟨1024 + k.val, by omega⟩ := by
  pointwise [ref_k, proj]

/-- The reference's `v`. -/
def ref_v (x : FVec Ideal S8x8192x1024 .f32) (w : FVec Ideal S1x1024x4392 .f32) : FVec Ideal S8x8192x512 .f32 :=
  extractStridedSlice S8x8192x512 ![0, 0, 1536] (Host.dotGeneral dot_S8x8192x1024_S1024x4392_S8x8192x4392_2_0_01_1_n_n none x (shapeCast _ w shapeCasts_S1x1024x4392_S1024x4392)) slices_S8x8192x4392_S8x8192x512_0_0_1536

theorem ref_v_apply (x : FVec Ideal S8x8192x1024 .f32) (w : FVec Ideal S1x1024x4392 .f32) (a : Fin 8) (r : Fin 8192) (k : Fin 512) :
    ref_v x w (ix3 a r k) = proj (fun j => x (ix3 a r j)) (fun j n => w (ix3 0 j n)) ⟨1536 + k.val, by omega⟩ := by
  pointwise [ref_v, proj]

/-- The reference's `ki`. -/
def ref_ki (x : FVec Ideal S8x8192x1024 .f32) (w : FVec Ideal S1x1024x4392 .f32) : FVec Ideal S8x8192x32 .f32 :=
  extractStridedSlice S8x8192x32 ![0, 0, 2304] (Host.dotGeneral dot_S8x8192x1024_S1024x4392_S8x8192x4392_2_0_01_1_n_n none x (shapeCast _ w shapeCasts_S1x1024x4392_S1024x4392)) slices_S8x8192x4392_S8x8192x32_0_0_2304

theorem ref_ki_apply (x : FVec Ideal S8x8192x1024 .f32) (w : FVec Ideal S1x1024x4392 .f32) (a : Fin 8) (r : Fin 8192) (k : Fin 32) :
    ref_ki x w (ix3 a r k) = proj (fun j => x (ix3 a r j)) (fun j n => w (ix3 0 j n)) ⟨2304 + k.val, by omega⟩ := by
  pointwise [ref_ki, proj]

/-- The reference's `kb`. -/
def ref_kb (x : FVec Ideal S8x8192x1024 .f32) (w : FVec Ideal S1x1024x4392 .f32) : FVec Ideal S8x8192x512 .bf16 :=
  truncf .bf16 (extractStridedSlice S8x8192x512 ![0, 0, 1024] (Host.dotGeneral dot_S8x8192x1024_S1024x4392_S8x8192x4392_2_0_01_1_n_n none x (shapeCast _ w shapeCasts_S1x1024x4392_S1024x4392)) slices_S8x8192x4392_S8x8192x512_0_0_1024) bitsLt_bf16_f32

theorem ref_kb_apply (x : FVec Ideal S8x8192x1024 .f32) (w : FVec Ideal S1x1024x4392 .f32) (a : Fin 8) (r : Fin 8192) (k : Fin 512) :
    ref_kb x w (ix3 a r k) = proj (fun j => x (ix3 a r j)) (fun j n => w (ix3 0 j n)) ⟨1024 + k.val, by omega⟩ := by
  pointwise [ref_kb, proj]

/-- The reference's `kib`. -/
def ref_kib (x : FVec Ideal S8x8192x1024 .f32) (w : FVec Ideal S1x1024x4392 .f32) : FVec Ideal S8x8192x32 .bf16 :=
  truncf .bf16 (extractStridedSlice S8x8192x32 ![0, 0, 2304] (Host.dotGeneral dot_S8x8192x1024_S1024x4392_S8x8192x4392_2_0_01_1_n_n none x (shapeCast _ w shapeCasts_S1x1024x4392_S1024x4392)) slices_S8x8192x4392_S8x8192x32_0_0_2304) bitsLt_bf16_f32

theorem ref_kib_apply (x : FVec Ideal S8x8192x1024 .f32) (w : FVec Ideal S1x1024x4392 .f32) (a : Fin 8) (r : Fin 8192) (k : Fin 32) :
    ref_kib x w (ix3 a r k) = proj (fun j => x (ix3 a r j)) (fun j n => w (ix3 0 j n)) ⟨2304 + k.val, by omega⟩ := by
  pointwise [ref_kib, proj]

/-- The reference's `ga`. -/
def ref_ga (x : FVec Ideal S8x8192x1024 .f32) (w : FVec Ideal S1x1024x4392 .f32) : FVec Ideal S8x8192x1024 .bf16 :=
  truncf .bf16 (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (extractStridedSlice S8x8192x1024 ![0, 0, 2344] (Host.dotGeneral dot_S8x8192x1024_S1024x4392_S8x8192x4392_2_0_01_1_n_n none x (shapeCast _ w shapeCasts_S1x1024x4392_S1024x4392)) slices_S8x8192x4392_S8x8192x1024_0_0_2344))))) bitsLt_bf16_f32

theorem ref_ga_apply (x : FVec Ideal S8x8192x1024 .f32) (w : FVec Ideal S1x1024x4392 .f32) (a : Fin 8) (r : Fin 8192) (k : Fin 1024) :
    ref_ga x w (ix3 a r k) = Ideal.logistic (proj (fun j => x (ix3 a r j)) (fun j n => w (ix3 0 j n)) ⟨2344 + k.val, by omega⟩) := by
  pointwise [ref_ga, proj, Ideal.logistic, Ideal.ofBits_one_f32]

/-- The reference's `gb`. -/
def ref_gb (x : FVec Ideal S8x8192x1024 .f32) (w : FVec Ideal S1x1024x4392 .f32) : FVec Ideal S8x8192x1024 .bf16 :=
  truncf .bf16 (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (extractStridedSlice S8x8192x1024 ![0, 0, 3368] (Host.dotGeneral dot_S8x8192x1024_S1024x4392_S8x8192x4392_2_0_01_1_n_n none x (shapeCast _ w shapeCasts_S1x1024x4392_S1024x4392)) slices_S8x8192x4392_S8x8192x1024_0_0_3368))))) bitsLt_bf16_f32

theorem ref_gb_apply (x : FVec Ideal S8x8192x1024 .f32) (w : FVec Ideal S1x1024x4392 .f32) (a : Fin 8) (r : Fin 8192) (k : Fin 1024) :
    ref_gb x w (ix3 a r k) = Ideal.logistic (proj (fun j => x (ix3 a r j)) (fun j n => w (ix3 0 j n)) ⟨3368 + k.val, by omega⟩) := by
  pointwise [ref_gb, proj, Ideal.logistic, Ideal.ofBits_one_f32]

/-- The reference's `q`. -/
def ref_q (x : FVec Ideal S8x8192x1024 .f32) (w : FVec Ideal S1x1024x4392 .f32) : FVec Ideal S8x512x8192 .bf16 :=
  truncf .bf16 (transpose S8x512x8192 [0, 2, 1] (mulf (extractStridedSlice S8x8192x512 ![0, 0, 512] (Host.dotGeneral dot_S8x8192x1024_S1024x4392_S8x8192x4392_2_0_01_1_n_n none x (shapeCast _ w shapeCasts_S1x1024x4392_S1024x4392)) slices_S8x8192x4392_S8x8192x512_0_0_512) (broadcastInDim S8x8192x512 ![] bcast_S_S8x8192x512 (constant S_ .f32 0x3E38AA3B#32))) transposes_S8x8192x512_S8x512x8192_0_2_1) bitsLt_bf16_f32

theorem ref_q_apply (x : FVec Ideal S8x8192x1024 .f32) (w : FVec Ideal S1x1024x4392 .f32) (a : Fin 8) (r : Fin 8192) (k : Fin 512) :
    ref_q x w (ix3 a k r) = proj (fun j => x (ix3 a r j)) (fun j n => w (ix3 0 j n)) ⟨512 + k.val, by omega⟩ * Ideal.ofBits .f32 0x3E38AA3B#32 := by
  pointwise [ref_q, proj]

/-- The reference's `vt`. -/
def ref_vt (x : FVec Ideal S8x8192x1024 .f32) (w : FVec Ideal S1x1024x4392 .f32) : FVec Ideal S8x512x8192 .bf16 :=
  truncf .bf16 (transpose S8x512x8192 [0, 2, 1] (extractStridedSlice S8x8192x512 ![0, 0, 1536] (Host.dotGeneral dot_S8x8192x1024_S1024x4392_S8x8192x4392_2_0_01_1_n_n none x (shapeCast _ w shapeCasts_S1x1024x4392_S1024x4392)) slices_S8x8192x4392_S8x8192x512_0_0_1536) transposes_S8x8192x512_S8x512x8192_0_2_1) bitsLt_bf16_f32

theorem ref_vt_apply (x : FVec Ideal S8x8192x1024 .f32) (w : FVec Ideal S1x1024x4392 .f32) (a : Fin 8) (r : Fin 8192) (k : Fin 512) :
    ref_vt x w (ix3 a k r) = proj (fun j => x (ix3 a r j)) (fun j n => w (ix3 0 j n)) ⟨1536 + k.val, by omega⟩ := by
  pointwise [ref_vt, proj]

/-- The reference's `qi`. -/
def ref_qi (x : FVec Ideal S8x8192x1024 .f32) (w : FVec Ideal S1x1024x4392 .f32) : FVec Ideal S8x256x8192 .bf16 :=
  truncf .bf16 (transpose S8x256x8192 [0, 2, 1] (extractStridedSlice S8x8192x256 ![0, 0, 2048] (Host.dotGeneral dot_S8x8192x1024_S1024x4392_S8x8192x4392_2_0_01_1_n_n none x (shapeCast _ w shapeCasts_S1x1024x4392_S1024x4392)) slices_S8x8192x4392_S8x8192x256_0_0_2048) transposes_S8x8192x256_S8x256x8192_0_2_1) bitsLt_bf16_f32

theorem ref_qi_apply (x : FVec Ideal S8x8192x1024 .f32) (w : FVec Ideal S1x1024x4392 .f32) (a : Fin 8) (r : Fin 8192) (k : Fin 256) :
    ref_qi x w (ix3 a k r) = proj (fun j => x (ix3 a r j)) (fun j n => w (ix3 0 j n)) ⟨2048 + k.val, by omega⟩ := by
  pointwise [ref_qi, proj]

/-- The reference's `wi`. -/
def ref_wi (x : FVec Ideal S8x8192x1024 .f32) (w : FVec Ideal S1x1024x4392 .f32) : FVec Ideal S8x8x8192 .f32 :=
  transpose S8x8x8192 [0, 2, 1] (mulf (extractStridedSlice S8x8192x8 ![0, 0, 2336] (Host.dotGeneral dot_S8x8192x1024_S1024x4392_S8x8192x4392_2_0_01_1_n_n none x (shapeCast _ w shapeCasts_S1x1024x4392_S1024x4392)) slices_S8x8192x4392_S8x8192x8_0_0_2336) (broadcastInDim S8x8192x8 ![] bcast_S_S8x8192x8 (constant S_ .f32 0x3D800000#32))) transposes_S8x8192x8_S8x8x8192_0_2_1

theorem ref_wi_apply (x : FVec Ideal S8x8192x1024 .f32) (w : FVec Ideal S1x1024x4392 .f32) (a : Fin 8) (r : Fin 8192) (k : Fin 8) :
    ref_wi x w (ix3 a k r) = proj (fun j => x (ix3 a r j)) (fun j n => w (ix3 0 j n)) ⟨2336 + k.val, by omega⟩ * Ideal.ofBits .f32 0x3D800000#32 := by
  pointwise [ref_wi, proj]

end Cert.Proof.InProj.Prompt

end
-- ==== Proof.InProj.Prompt.Blocks.lean ====
/-
  The blocks of the prompt and of the weights the kernel's body reads, entry by entry.
-/
module

public import proofs.«01_k».proof.Proof.Gen.Kernel3Ideal.Value
public import proofs.«01_k».proof.Proof.InProj.Scale
public import Idealize.ShloMosaic.Lib.StableHlo.ReadAt

@[expose] public section

set_option maxRecDepth 16384

noncomputable section

namespace Cert.Proof.InProj.Prompt

open Idealize.ShloMosaic Idealize.ShloMosaic.TcCoe Idealize.SL.Sem
open Cert.Kernel3Ideal Cert.Kernel3Ideal.Gen

variable (m : (ℓ : Loc nD τ sig) → Buf (Elt Ideal) ℓ)

theorem idx0 : ∀ t : Fin cfg0.N, win0_0.index t = ![t.val / 16, t.val % 16, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val / 16, t.val % 16, 0] := (by decide +kernel : ∀ t : Fin grid0.N, _)
theorem idx12 : ∀ t : Fin cfg0.N, win0_12.index t = ![t.val / 16, t.val % 16, 0] := (by decide +kernel : ∀ t : Fin grid0.N, _)
theorem idx13 : ∀ t : Fin cfg0.N, win0_13.index t = ![t.val / 16, t.val % 16, 0] := (by decide +kernel : ∀ t : Fin grid0.N, _)
theorem idx14 : ∀ t : Fin cfg0.N, win0_14.index t = ![t.val / 16, t.val % 16, 0] := (by decide +kernel : ∀ t : Fin grid0.N, _)
theorem idx15 : ∀ t : Fin cfg0.N, win0_15.index t = ![t.val / 16, t.val % 16, 0] := (by decide +kernel : ∀ t : Fin grid0.N, _)
theorem idx16 : ∀ t : Fin cfg0.N, win0_16.index t = ![t.val / 16, t.val % 16, 0] := (by decide +kernel : ∀ t : Fin grid0.N, _)
theorem idx17 : ∀ t : Fin cfg0.N, win0_17.index t = ![t.val / 16, t.val % 16, 0] := (by decide +kernel : ∀ t : Fin grid0.N, _)
theorem idx18 : ∀ t : Fin cfg0.N, win0_18.index t = ![t.val / 16, t.val % 16, 0] := (by decide +kernel : ∀ t : Fin grid0.N, _)
theorem idx19 : ∀ t : Fin cfg0.N, win0_19.index t = ![t.val / 16, 0, t.val % 16] := (by decide +kernel : ∀ t : Fin grid0.N, _)
theorem idx20 : ∀ t : Fin cfg0.N, win0_20.index t = ![t.val / 16, 0, t.val % 16] := (by decide +kernel : ∀ t : Fin grid0.N, _)
theorem idx21 : ∀ t : Fin cfg0.N, win0_21.index t = ![t.val / 16, 0, t.val % 16] := (by decide +kernel : ∀ t : Fin grid0.N, _)
theorem idx22 : ∀ t : Fin cfg0.N, win0_22.index t = ![t.val / 16, 0, t.val % 16] := (by decide +kernel : ∀ t : Fin grid0.N, _)

/-- The prompt of the block at `t`. -/
def part (t : Fin cfg0.N) : Fin 8 := ⟨t.val / 16, by have := t.isLt; have h : cfg0.N = 128 := rfl; omega⟩

/-- The position behind row `r` of the block at `t`. -/
def line (t : Fin cfg0.N) (r : Fin 512) : Fin 8192 := ⟨t.val % 16 * 512 + r.val, by have := r.isLt; omega⟩

/-- The prompt `a` at position `r`. -/
def x (c : Dev nD) (a : Fin 8) (r : Fin 8192) (j : Fin 1024) : EReal := (m ((c.tc : Thread nD τ).loc main_arg0) : FVec Ideal S8x8192x1024 .f32) (ix3 a r j)

/-- The weights, row `j` and column `n`. -/
def w (c : Dev nD) (j : Fin 1024) (n : Fin 4392) : EReal := (m ((c.tc : Thread nD τ).loc main_arg1) : FVec Ideal S1x1024x4392 .f32) (ix3 0 j n)

theorem read0 (c : Dev nD) (t : Fin cfg0.N) (r : Fin 512) (j : Fin 1024) : iblk m c 0 t (ix3 0 r j) = x m c (part t) (line t r) j := by
  unfold x
  blk_ext! [iblk, V, idx0 t, part, line]

theorem read1 (c : Dev nD) (t : Fin cfg0.N) (j : Fin 1024) (k : Fin 512) :
    iblk m c 1 t (ix2 j k) = w m c j ⟨0 + k.val, by omega⟩ := by
  unfold w
  blk_simp [iblk, idx1 t]
  simp only [List.flatten_cons, List.flatten_nil, List.append_nil, List.cons_append, List.nil_append]
  after_reads_at
  blk_ext [iblk, idx1 t]

theorem read2 (c : Dev nD) (t : Fin cfg0.N) (j : Fin 1024) (k : Fin 512) :
    iblk m c 2 t (ix2 j k) = w m c j ⟨1024 + k.val, by omega⟩ := by
  unfold w
  blk_simp [iblk, idx2 t]
  simp only [List.flatten_cons, List.flatten_nil, List.append_nil, List.cons_append, List.nil_append]
  after_reads_at
  blk_ext [iblk, idx2 t]

theorem read3 (c : Dev nD) (t : Fin cfg0.N) (j : Fin 1024) (k : Fin 512) :
    iblk m c 3 t (ix2 j k) = w m c j ⟨1536 + k.val, by omega⟩ := by
  unfold w
  blk_simp [iblk, idx3 t]
  simp only [List.flatten_cons, List.flatten_nil, List.append_nil, List.cons_append, List.nil_append]
  after_reads_at
  blk_ext [iblk, idx3 t]

theorem read6 (c : Dev nD) (t : Fin cfg0.N) (j : Fin 1024) (k : Fin 32) :
    iblk m c 6 t (ix2 j k) = w m c j ⟨2304 + k.val, by omega⟩ := by
  unfold w
  blk_simp [iblk, idx6 t]
  simp only [List.flatten_cons, List.flatten_nil, List.append_nil, List.cons_append, List.nil_append]
  after_reads_at
  blk_ext [iblk, idx6 t]

theorem read4 (c : Dev nD) (t : Fin cfg0.N) (j : Fin 1024) (k : Fin 1024) :
    iblk m c 4 t (ix2 j k) = w m c j ⟨2344 + k.val, by omega⟩ := by
  unfold w
  blk_simp [iblk, idx4 t]
  simp only [List.flatten_cons, List.flatten_nil, List.append_nil, List.cons_append, List.nil_append]
  after_reads_at
  blk_ext [iblk, idx4 t]

theorem read5 (c : Dev nD) (t : Fin cfg0.N) (j : Fin 1024) (k : Fin 1024) :
    iblk m c 5 t (ix2 j k) = w m c j ⟨3368 + k.val, by omega⟩ := by
  unfold w
  blk_simp [iblk, idx5 t]
  simp only [List.flatten_cons, List.flatten_nil, List.append_nil, List.cons_append, List.nil_append]
  after_reads_at
  blk_ext [iblk, idx5 t]

theorem read7 (c : Dev nD) (t : Fin cfg0.N) (j : Fin 1024) (k : Fin 512) :
    iblk m c 7 t (ix2 k j) = w m c j ⟨512 + k.val, by omega⟩ * Ideal.ofBits .f32 0x3E38AA3B#32 := by
  unfold w
  blk_simp [iblk, idx7 t]
  simp only [List.flatten_cons, List.flatten_nil, List.append_nil, List.cons_append, List.nil_append]
  after_reads_at
  refine congrArg (· * _) ?_
  blk_ext [iblk, idx7 t]

theorem read8 (c : Dev nD) (t : Fin cfg0.N) (j : Fin 1024) (k : Fin 512) :
    iblk m c 8 t (ix2 k j) = w m c j ⟨1536 + k.val, by omega⟩ := by
  unfold w
  blk_simp [iblk, idx8 t]
  simp only [List.flatten_cons, List.flatten_nil, List.append_nil, List.cons_append, List.nil_append]
  after_reads_at
  blk_ext [iblk, idx8 t]

theorem read9 (c : Dev nD) (t : Fin cfg0.N) (j : Fin 1024) (k : Fin 256) :
    iblk m c 9 t (ix2 k j) = w m c j ⟨2048 + k.val, by omega⟩ := by
  unfold w
  blk_simp [iblk, idx9 t]
  simp only [List.flatten_cons, List.flatten_nil, List.append_nil, List.cons_append, List.nil_append]
  after_reads_at
  blk_ext [iblk, idx9 t]

theorem read10 (c : Dev nD) (t : Fin cfg0.N) (j : Fin 1024) (k : Fin 8) :
    iblk m c 10 t (ix2 ⟨k.val, by omega⟩ j) = w m c j ⟨2336 + k.val, by omega⟩ * Ideal.ofBits .f32 0x3D800000#32 := by
  unfold w
  blk_simp [iblk, idx10 t]
  simp only [List.flatten_cons, List.flatten_nil, List.append_nil, List.cons_append, List.nil_append]
  after_reads_at
  rw [dif_pos (by blk_simp [idx10 t]; have := k.isLt; omega)]
  refine congrArg (· * _) ?_
  blk_ext [iblk, idx10 t]

end Cert.Proof.InProj.Prompt

end
-- ==== Proof.InProj.Prompt.Kernel.lean ====
/-
  The projections the kernel computes of the prompt, entry by entry.
-/
module

public import proofs.«01_k».proof.Proof.InProj.Prompt.Blocks

@[expose] public section

set_option maxRecDepth 16384

noncomputable section

namespace Cert.Proof.InProj.Prompt

open Idealize.ShloMosaic Idealize.ShloMosaic.TcCoe Idealize.SL.Sem
open Cert.Kernel3Ideal Cert.Kernel3Ideal.Gen

variable (m : (ℓ : Loc nD τ sig) → Buf (Elt Ideal) ℓ)

theorem pay_u (v0 : Vec Ideal S1x512x1024 .f32) (v1 : Vec Ideal S1024x512 .bf16) (r : Fin 512) (k : Fin 512) :
    k0_pay5 v0 v1 (ix3 0 r k) = ∑ j : Fin 1024, v0 (ix3 0 r j) * v1 (ix2 j k) := by
  pointwise [k0_pay4, k0_pay5]

/-- The kernel's `u` as a formula of its arguments. -/
def out_u (c : Dev nD) : FVec Ideal S8x8192x512 .f32 := fun y =>
  proj (x m c (y 0) (y 1)) (w m c) ⟨0 + (y 2).val, by have := (y 2).isLt; change (y 2).val < 512 at this; omega⟩

theorem value_u (c : Dev nD) : (dats m 0 c).arrAt 11 cfg0.N = out_u m c := by
  refine (dats m 0 c).arrAt_eq_of_covers 11 (out_u m c) (by decide +kernel) fun t hf y => ?_
  have place : ∀ (r : Fin 512) (k : Fin 512), ((cfg0.win 11).blk t).view.emb (ix3 0 r k) = ix3 (part t) (line t r) k := fun r k => by
    blk_ext! [idx11 t, part, line]
  blk_simp
  rw [after0_11]
  unfold_out out0_11
  frame_out
  idx_vars y
  obtain rfl : y0 = 0 := Subsingleton.elim _ _
  rw [pay_u]
  simp only [read0, read1]
  refine Eq.trans ?_ (congrArg (out_u m c) (place y1 y2)).symm
  rfl

theorem pay_k (v0 : Vec Ideal S1x512x1024 .f32) (v1 : Vec Ideal S1024x512 .bf16) (r : Fin 512) (k : Fin 512) :
    k0_pay7 v0 v1 (ix3 0 r k) = ∑ j : Fin 1024, v0 (ix3 0 r j) * v1 (ix2 j k) := by
  pointwise [k0_pay4, k0_pay6, k0_pay7]

/-- The kernel's `k` as a formula of its arguments. -/
def out_k (c : Dev nD) : FVec Ideal S8x8192x512 .f32 := fun y =>
  proj (x m c (y 0) (y 1)) (w m c) ⟨1024 + (y 2).val, by have := (y 2).isLt; change (y 2).val < 512 at this; omega⟩

theorem value_k (c : Dev nD) : (dats m 0 c).arrAt 12 cfg0.N = out_k m c := by
  refine (dats m 0 c).arrAt_eq_of_covers 12 (out_k m c) (by decide +kernel) fun t hf y => ?_
  have place : ∀ (r : Fin 512) (k : Fin 512), ((cfg0.win 12).blk t).view.emb (ix3 0 r k) = ix3 (part t) (line t r) k := fun r k => by
    blk_ext! [idx12 t, part, line]
  blk_simp
  rw [after0_12]
  unfold_out out0_12
  frame_out
  idx_vars y
  obtain rfl : y0 = 0 := Subsingleton.elim _ _
  rw [pay_k]
  simp only [read0, read2]
  refine Eq.trans ?_ (congrArg (out_k m c) (place y1 y2)).symm
  rfl

theorem pay_v (v0 : Vec Ideal S1x512x1024 .f32) (v1 : Vec Ideal S1024x512 .bf16) (r : Fin 512) (k : Fin 512) :
    k0_pay9 v0 v1 (ix3 0 r k) = ∑ j : Fin 1024, v0 (ix3 0 r j) * v1 (ix2 j k) := by
  pointwise [k0_pay4, k0_pay9]

/-- The kernel's `v` as a formula of its arguments. -/
def out_v (c : Dev nD) : FVec Ideal S8x8192x512 .f32 := fun y =>
  proj (x m c (y 0) (y 1)) (w m c) ⟨1536 + (y 2).val, by have := (y 2).isLt; change (y 2).val < 512 at this; omega⟩

theorem value_v (c : Dev nD) : (dats m 0 c).arrAt 13 cfg0.N = out_v m c := by
  refine (dats m 0 c).arrAt_eq_of_covers 13 (out_v m c) (by decide +kernel) fun t hf y => ?_
  have place : ∀ (r : Fin 512) (k : Fin 512), ((cfg0.win 13).blk t).view.emb (ix3 0 r k) = ix3 (part t) (line t r) k := fun r k => by
    blk_ext! [idx13 t, part, line]
  blk_simp
  rw [after0_13]
  unfold_out out0_13
  frame_out
  idx_vars y
  obtain rfl : y0 = 0 := Subsingleton.elim _ _
  rw [pay_v]
  simp only [read0, read3]
  refine Eq.trans ?_ (congrArg (out_v m c) (place y1 y2)).symm
  rfl

theorem pay_ki (v0 : Vec Ideal S1x512x1024 .f32) (v1 : Vec Ideal S1024x32 .bf16) (r : Fin 512) (k : Fin 32) :
    k0_pay12 (k0_pay4 v0) (k0_pay10 v1) (constant S512x32 .f32 0x00000000#32) (ix3 0 r k) = ∑ j : Fin 1024, v0 (ix3 0 r j) * v1 (ix2 j k) := by
  pointwise [k0_pay10, k0_pay11, k0_pay12, k0_pay4]

/-- The kernel's `ki` as a formula of its arguments. -/
def out_ki (c : Dev nD) : FVec Ideal S8x8192x32 .f32 := fun y =>
  proj (x m c (y 0) (y 1)) (w m c) ⟨2304 + (y 2).val, by have := (y 2).isLt; change (y 2).val < 32 at this; omega⟩

theorem value_ki (c : Dev nD) : (dats m 0 c).arrAt 14 cfg0.N = out_ki m c := by
  refine (dats m 0 c).arrAt_eq_of_covers 14 (out_ki m c) (by decide +kernel) fun t hf y => ?_
  have place : ∀ (r : Fin 512) (k : Fin 32), ((cfg0.win 14).blk t).view.emb (ix3 0 r k) = ix3 (part t) (line t r) k := fun r k => by
    blk_ext! [idx14 t, part, line]
  blk_simp
  rw [after0_14]
  unfold_out out0_14
  frame_out
  idx_vars y
  obtain rfl : y0 = 0 := Subsingleton.elim _ _
  rw [pay_ki]
  simp only [read0, read6]
  refine Eq.trans ?_ (congrArg (out_ki m c) (place y1 y2)).symm
  rfl

theorem pay_kb (v0 : Vec Ideal S1x512x1024 .f32) (v1 : Vec Ideal S1024x512 .bf16) (r : Fin 512) (k : Fin 512) :
    k0_pay8 v0 v1 (ix3 0 r k) = ∑ j : Fin 1024, v0 (ix3 0 r j) * v1 (ix2 j k) := by
  pointwise [k0_pay4, k0_pay6, k0_pay8]

/-- The kernel's `kb` as a formula of its arguments. -/
def out_kb (c : Dev nD) : FVec Ideal S8x8192x512 .bf16 := fun y =>
  proj (x m c (y 0) (y 1)) (w m c) ⟨1024 + (y 2).val, by have := (y 2).isLt; change (y 2).val < 512 at this; omega⟩

theorem value_kb (c : Dev nD) : (dats m 0 c).arrAt 15 cfg0.N = out_kb m c := by
  refine (dats m 0 c).arrAt_eq_of_covers 15 (out_kb m c) (by decide +kernel) fun t hf y => ?_
  have place : ∀ (r : Fin 512) (k : Fin 512), ((cfg0.win 15).blk t).view.emb (ix3 0 r k) = ix3 (part t) (line t r) k := fun r k => by
    blk_ext! [idx15 t, part, line]
  blk_simp
  rw [after0_15]
  unfold_out out0_15
  frame_out
  idx_vars y
  obtain rfl : y0 = 0 := Subsingleton.elim _ _
  rw [pay_kb]
  simp only [read0, read2]
  refine Eq.trans ?_ (congrArg (out_kb m c) (place y1 y2)).symm
  rfl

theorem pay_kib (v0 : Vec Ideal S1x512x1024 .f32) (v1 : Vec Ideal S1024x32 .bf16) (r : Fin 512) (k : Fin 32) :
    k0_pay13 (k0_pay4 v0) (k0_pay10 v1) (constant S512x32 .f32 0x00000000#32) (ix3 0 r k) = ∑ j : Fin 1024, v0 (ix3 0 r j) * v1 (ix2 j k) := by
  pointwise [k0_pay10, k0_pay11, k0_pay13, k0_pay4]

/-- The kernel's `kib` as a formula of its arguments. -/
def out_kib (c : Dev nD) : FVec Ideal S8x8192x32 .bf16 := fun y =>
  proj (x m c (y 0) (y 1)) (w m c) ⟨2304 + (y 2).val, by have := (y 2).isLt; change (y 2).val < 32 at this; omega⟩

theorem value_kib (c : Dev nD) : (dats m 0 c).arrAt 16 cfg0.N = out_kib m c := by
  refine (dats m 0 c).arrAt_eq_of_covers 16 (out_kib m c) (by decide +kernel) fun t hf y => ?_
  have place : ∀ (r : Fin 512) (k : Fin 32), ((cfg0.win 16).blk t).view.emb (ix3 0 r k) = ix3 (part t) (line t r) k := fun r k => by
    blk_ext! [idx16 t, part, line]
  blk_simp
  rw [after0_16]
  unfold_out out0_16
  frame_out
  idx_vars y
  obtain rfl : y0 = 0 := Subsingleton.elim _ _
  rw [pay_kib]
  simp only [read0, read6]
  refine Eq.trans ?_ (congrArg (out_kib m c) (place y1 y2)).symm
  rfl

theorem pay_ga (v0 : Vec Ideal S1x512x1024 .f32) (v1 : Vec Ideal S1024x1024 .bf16) (r : Fin 512) (k : Fin 1024) :
    k0_pay14 (k0_pay4 v0) v1 (ix3 0 r k) = Ideal.logistic (∑ j : Fin 1024, v0 (ix3 0 r j) * v1 (ix2 j k)) := by
  pointwise [k0_pay14, k0_pay4]

/-- The kernel's `ga` as a formula of its arguments. -/
def out_ga (c : Dev nD) : FVec Ideal S8x8192x1024 .bf16 := fun y =>
  Ideal.logistic (proj (x m c (y 0) (y 1)) (w m c) ⟨2344 + (y 2).val, by have := (y 2).isLt; change (y 2).val < 1024 at this; omega⟩)

theorem value_ga (c : Dev nD) : (dats m 0 c).arrAt 17 cfg0.N = out_ga m c := by
  refine (dats m 0 c).arrAt_eq_of_covers 17 (out_ga m c) (by decide +kernel) fun t hf y => ?_
  have place : ∀ (r : Fin 512) (k : Fin 1024), ((cfg0.win 17).blk t).view.emb (ix3 0 r k) = ix3 (part t) (line t r) k := fun r k => by
    blk_ext! [idx17 t, part, line]
  blk_simp
  rw [after0_17]
  unfold_out out0_17
  frame_out
  idx_vars y
  obtain rfl : y0 = 0 := Subsingleton.elim _ _
  rw [pay_ga]
  simp only [read0, read4]
  refine Eq.trans ?_ (congrArg (out_ga m c) (place y1 y2)).symm
  rfl

theorem pay_gb (v0 : Vec Ideal S1x512x1024 .f32) (v1 : Vec Ideal S1024x1024 .bf16) (r : Fin 512) (k : Fin 1024) :
    k0_pay15 (k0_pay4 v0) v1 (ix3 0 r k) = Ideal.logistic (∑ j : Fin 1024, v0 (ix3 0 r j) * v1 (ix2 j k)) := by
  pointwise [k0_pay15, k0_pay4]

/-- The kernel's `gb` as a formula of its arguments. -/
def out_gb (c : Dev nD) : FVec Ideal S8x8192x1024 .bf16 := fun y =>
  Ideal.logistic (proj (x m c (y 0) (y 1)) (w m c) ⟨3368 + (y 2).val, by have := (y 2).isLt; change (y 2).val < 1024 at this; omega⟩)

theorem value_gb (c : Dev nD) : (dats m 0 c).arrAt 18 cfg0.N = out_gb m c := by
  refine (dats m 0 c).arrAt_eq_of_covers 18 (out_gb m c) (by decide +kernel) fun t hf y => ?_
  have place : ∀ (r : Fin 512) (k : Fin 1024), ((cfg0.win 18).blk t).view.emb (ix3 0 r k) = ix3 (part t) (line t r) k := fun r k => by
    blk_ext! [idx18 t, part, line]
  blk_simp
  rw [after0_18]
  unfold_out out0_18
  frame_out
  idx_vars y
  obtain rfl : y0 = 0 := Subsingleton.elim _ _
  rw [pay_gb]
  simp only [read0, read5]
  refine Eq.trans ?_ (congrArg (out_gb m c) (place y1 y2)).symm
  rfl

theorem pay_q (v0 : Vec Ideal S1x512x1024 .f32) (v1 : Vec Ideal S512x1024 .bf16) (r : Fin 512) (k : Fin 512) :
    k0_pay16 (k0_pay4 v0) v1 (ix3 0 k r) = ∑ j : Fin 1024, v0 (ix3 0 r j) * v1 (ix2 k j) := by
  pointwise [k0_pay16, k0_pay4]
  exact Finset.sum_congr rfl fun j _ => EReal.mul_comm _ _

/-- The kernel's `q` as a formula of its arguments. -/
def out_q (c : Dev nD) : FVec Ideal S8x512x8192 .bf16 := fun y =>
  proj (x m c (y 0) (y 2)) (w m c) ⟨512 + (y 1).val, by have := (y 1).isLt; change (y 1).val < 512 at this; omega⟩ * Ideal.ofBits .f32 0x3E38AA3B#32

theorem value_q (c : Dev nD) : (dats m 0 c).arrAt 19 cfg0.N = out_q m c := by
  refine (dats m 0 c).arrAt_eq_of_covers 19 (out_q m c) (by decide +kernel) fun t hf y => ?_
  have place : ∀ (r : Fin 512) (k : Fin 512), ((cfg0.win 19).blk t).view.emb (ix3 0 k r) = ix3 (part t) k (line t r) := fun r k => by
    blk_ext! [idx19 t, part, line]
  blk_simp
  rw [after0_19]
  unfold_out out0_19
  frame_out
  idx_vars y
  obtain rfl : y0 = 0 := Subsingleton.elim _ _
  rw [pay_q]
  simp only [read0, read7]
  refine Eq.trans ?_ (congrArg (out_q m c) (place y2 y1)).symm
  exact sum_scale _ att_scale _ _

theorem pay_vt (v0 : Vec Ideal S1x512x1024 .f32) (v1 : Vec Ideal S512x1024 .bf16) (r : Fin 512) (k : Fin 512) :
    k0_pay1 (k0_pay4 v0) v1 (ix3 0 k r) = ∑ j : Fin 1024, v0 (ix3 0 r j) * v1 (ix2 k j) := by
  pointwise [k0_pay1, k0_pay4]
  exact Finset.sum_congr rfl fun j _ => EReal.mul_comm _ _

/-- The kernel's `vt` as a formula of its arguments. -/
def out_vt (c : Dev nD) : FVec Ideal S8x512x8192 .bf16 := fun y =>
  proj (x m c (y 0) (y 2)) (w m c) ⟨1536 + (y 1).val, by have := (y 1).isLt; change (y 1).val < 512 at this; omega⟩

theorem value_vt (c : Dev nD) : (dats m 0 c).arrAt 20 cfg0.N = out_vt m c := by
  refine (dats m 0 c).arrAt_eq_of_covers 20 (out_vt m c) (by decide +kernel) fun t hf y => ?_
  have place : ∀ (r : Fin 512) (k : Fin 512), ((cfg0.win 20).blk t).view.emb (ix3 0 k r) = ix3 (part t) k (line t r) := fun r k => by
    blk_ext! [idx20 t, part, line]
  blk_simp
  rw [after0_20]
  unfold_out out0_20
  frame_out
  idx_vars y
  obtain rfl : y0 = 0 := Subsingleton.elim _ _
  rw [pay_vt]
  simp only [read0, read8]
  refine Eq.trans ?_ (congrArg (out_vt m c) (place y2 y1)).symm
  rfl

theorem pay_qi (v0 : Vec Ideal S1x512x1024 .f32) (v1 : Vec Ideal S256x1024 .bf16) (r : Fin 512) (k : Fin 256) :
    k0_pay2 (k0_pay4 v0) v1 (ix3 0 k r) = ∑ j : Fin 1024, v0 (ix3 0 r j) * v1 (ix2 k j) := by
  pointwise [k0_pay2, k0_pay4]
  exact Finset.sum_congr rfl fun j _ => EReal.mul_comm _ _

/-- The kernel's `qi` as a formula of its arguments. -/
def out_qi (c : Dev nD) : FVec Ideal S8x256x8192 .bf16 := fun y =>
  proj (x m c (y 0) (y 2)) (w m c) ⟨2048 + (y 1).val, by have := (y 1).isLt; change (y 1).val < 256 at this; omega⟩

theorem value_qi (c : Dev nD) : (dats m 0 c).arrAt 21 cfg0.N = out_qi m c := by
  refine (dats m 0 c).arrAt_eq_of_covers 21 (out_qi m c) (by decide +kernel) fun t hf y => ?_
  have place : ∀ (r : Fin 512) (k : Fin 256), ((cfg0.win 21).blk t).view.emb (ix3 0 k r) = ix3 (part t) k (line t r) := fun r k => by
    blk_ext! [idx21 t, part, line]
  blk_simp
  rw [after0_21]
  unfold_out out0_21
  frame_out
  idx_vars y
  obtain rfl : y0 = 0 := Subsingleton.elim _ _
  rw [pay_qi]
  simp only [read0, read9]
  refine Eq.trans ?_ (congrArg (out_qi m c) (place y2 y1)).symm
  rfl

theorem pay_wi (v0 : Vec Ideal S1x512x1024 .f32) (v1 : Vec Ideal S16x1024 .bf16) (r : Fin 512) (k : Fin 8) :
    k0_pay3 (k0_pay4 v0) v1 (ix3 0 k r) = ∑ j : Fin 1024, v0 (ix3 0 r j) * v1 (ix2 ⟨k.val, by omega⟩ j) := by
  pointwise [k0_pay3, k0_pay4]
  exact Finset.sum_congr rfl fun j _ => EReal.mul_comm _ _

/-- The kernel's `wi` as a formula of its arguments. -/
def out_wi (c : Dev nD) : FVec Ideal S8x8x8192 .f32 := fun y =>
  proj (x m c (y 0) (y 2)) (w m c) ⟨2336 + (y 1).val, by have := (y 1).isLt; change (y 1).val < 8 at this; omega⟩ * Ideal.ofBits .f32 0x3D800000#32

theorem value_wi (c : Dev nD) : (dats m 0 c).arrAt 22 cfg0.N = out_wi m c := by
  refine (dats m 0 c).arrAt_eq_of_covers 22 (out_wi m c) (by decide +kernel) fun t hf y => ?_
  have place : ∀ (r : Fin 512) (k : Fin 8), ((cfg0.win 22).blk t).view.emb (ix3 0 k r) = ix3 (part t) k (line t r) := fun r k => by
    blk_ext! [idx22 t, part, line]
  blk_simp
  rw [after0_22]
  unfold_out out0_22
  frame_out
  idx_vars y
  obtain rfl : y0 = 0 := Subsingleton.elim _ _
  rw [pay_wi]
  simp only [read0, read10]
  refine Eq.trans ?_ (congrArg (out_wi m c) (place y2 y1)).symm
  exact sum_scale _ idx_scale _ _

end Cert.Proof.InProj.Prompt

end
-- ==== Proof.InProj.Prompt.Claim.lean ====
/-
  The projections of the prompt: kernel and reference end with the same arrays.
-/
module

public import proofs.«01_k».proof.Defs
public import proofs.«01_k».proof.Proof.Gen.Kernel3Ideal.Value
public import proofs.«01_k».proof.Proof.InProj.Prompt.Reference
public import proofs.«01_k».proof.Proof.InProj.Prompt.Kernel

@[expose] public section

set_option maxRecDepth 16384

noncomputable section

namespace Cert.Proof.InProj.Prompt

open Idealize.ShloMosaic Idealize.ShloMosaic.TcCoe Idealize.SL.Sem

theorem ref_u_eq (m : (ℓ : Loc Cert.Kernel3Ideal.nD Cert.Kernel3Ideal.τ Cert.Kernel3Ideal.sig) → Buf (Elt Ideal) ℓ) (c : Dev Cert.Kernel3Ideal.nD) :
    ref_u (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_u m c := by
  funext y
  obtain ⟨a, b, d, rfl⟩ : ∃ a b d, y = ix3 a b d := ⟨_, _, _, eq_ix3 y⟩
  exact ref_u_apply _ _ a b d

theorem ref_k_eq (m : (ℓ : Loc Cert.Kernel3Ideal.nD Cert.Kernel3Ideal.τ Cert.Kernel3Ideal.sig) → Buf (Elt Ideal) ℓ) (c : Dev Cert.Kernel3Ideal.nD) :
    ref_k (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_k m c := by
  funext y
  obtain ⟨a, b, d, rfl⟩ : ∃ a b d, y = ix3 a b d := ⟨_, _, _, eq_ix3 y⟩
  exact ref_k_apply _ _ a b d

theorem ref_v_eq (m : (ℓ : Loc Cert.Kernel3Ideal.nD Cert.Kernel3Ideal.τ Cert.Kernel3Ideal.sig) → Buf (Elt Ideal) ℓ) (c : Dev Cert.Kernel3Ideal.nD) :
    ref_v (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_v m c := by
  funext y
  obtain ⟨a, b, d, rfl⟩ : ∃ a b d, y = ix3 a b d := ⟨_, _, _, eq_ix3 y⟩
  exact ref_v_apply _ _ a b d

theorem ref_ki_eq (m : (ℓ : Loc Cert.Kernel3Ideal.nD Cert.Kernel3Ideal.τ Cert.Kernel3Ideal.sig) → Buf (Elt Ideal) ℓ) (c : Dev Cert.Kernel3Ideal.nD) :
    ref_ki (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_ki m c := by
  funext y
  obtain ⟨a, b, d, rfl⟩ : ∃ a b d, y = ix3 a b d := ⟨_, _, _, eq_ix3 y⟩
  exact ref_ki_apply _ _ a b d

theorem ref_kb_eq (m : (ℓ : Loc Cert.Kernel3Ideal.nD Cert.Kernel3Ideal.τ Cert.Kernel3Ideal.sig) → Buf (Elt Ideal) ℓ) (c : Dev Cert.Kernel3Ideal.nD) :
    ref_kb (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_kb m c := by
  funext y
  obtain ⟨a, b, d, rfl⟩ : ∃ a b d, y = ix3 a b d := ⟨_, _, _, eq_ix3 y⟩
  exact ref_kb_apply _ _ a b d

theorem ref_kib_eq (m : (ℓ : Loc Cert.Kernel3Ideal.nD Cert.Kernel3Ideal.τ Cert.Kernel3Ideal.sig) → Buf (Elt Ideal) ℓ) (c : Dev Cert.Kernel3Ideal.nD) :
    ref_kib (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_kib m c := by
  funext y
  obtain ⟨a, b, d, rfl⟩ : ∃ a b d, y = ix3 a b d := ⟨_, _, _, eq_ix3 y⟩
  exact ref_kib_apply _ _ a b d

theorem ref_ga_eq (m : (ℓ : Loc Cert.Kernel3Ideal.nD Cert.Kernel3Ideal.τ Cert.Kernel3Ideal.sig) → Buf (Elt Ideal) ℓ) (c : Dev Cert.Kernel3Ideal.nD) :
    ref_ga (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_ga m c := by
  funext y
  obtain ⟨a, b, d, rfl⟩ : ∃ a b d, y = ix3 a b d := ⟨_, _, _, eq_ix3 y⟩
  exact ref_ga_apply _ _ a b d

theorem ref_gb_eq (m : (ℓ : Loc Cert.Kernel3Ideal.nD Cert.Kernel3Ideal.τ Cert.Kernel3Ideal.sig) → Buf (Elt Ideal) ℓ) (c : Dev Cert.Kernel3Ideal.nD) :
    ref_gb (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_gb m c := by
  funext y
  obtain ⟨a, b, d, rfl⟩ : ∃ a b d, y = ix3 a b d := ⟨_, _, _, eq_ix3 y⟩
  exact ref_gb_apply _ _ a b d

theorem ref_q_eq (m : (ℓ : Loc Cert.Kernel3Ideal.nD Cert.Kernel3Ideal.τ Cert.Kernel3Ideal.sig) → Buf (Elt Ideal) ℓ) (c : Dev Cert.Kernel3Ideal.nD) :
    ref_q (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_q m c := by
  funext y
  obtain ⟨a, b, d, rfl⟩ : ∃ a b d, y = ix3 a b d := ⟨_, _, _, eq_ix3 y⟩
  exact ref_q_apply _ _ a d b

theorem ref_vt_eq (m : (ℓ : Loc Cert.Kernel3Ideal.nD Cert.Kernel3Ideal.τ Cert.Kernel3Ideal.sig) → Buf (Elt Ideal) ℓ) (c : Dev Cert.Kernel3Ideal.nD) :
    ref_vt (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_vt m c := by
  funext y
  obtain ⟨a, b, d, rfl⟩ : ∃ a b d, y = ix3 a b d := ⟨_, _, _, eq_ix3 y⟩
  exact ref_vt_apply _ _ a d b

theorem ref_qi_eq (m : (ℓ : Loc Cert.Kernel3Ideal.nD Cert.Kernel3Ideal.τ Cert.Kernel3Ideal.sig) → Buf (Elt Ideal) ℓ) (c : Dev Cert.Kernel3Ideal.nD) :
    ref_qi (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_qi m c := by
  funext y
  obtain ⟨a, b, d, rfl⟩ : ∃ a b d, y = ix3 a b d := ⟨_, _, _, eq_ix3 y⟩
  exact ref_qi_apply _ _ a d b

theorem ref_wi_eq (m : (ℓ : Loc Cert.Kernel3Ideal.nD Cert.Kernel3Ideal.τ Cert.Kernel3Ideal.sig) → Buf (Elt Ideal) ℓ) (c : Dev Cert.Kernel3Ideal.nD) :
    ref_wi (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) = out_wi m c := by
  funext y
  obtain ⟨a, b, d, rfl⟩ : ∃ a b d, y = ix3 a b d := ⟨_, _, _, eq_ix3 y⟩
  exact ref_wi_apply _ _ a d b

theorem algebraic : Cert.algebraic_Kernel3Ideal_Reference3Ideal := by
  intro m g m' g' _ hargs
  refine ⟨out_u m, out_k m, out_v m, out_ki m, out_kb m, out_kib m, out_ga m, out_gb m, out_q m, out_vt m, out_qi m, out_wi m,
    (θ_run (Cert.Kernel3Ideal.defs (F := Ideal)) _ _).mono (fun r h c => ?_)
      (Cert.Kernel3Ideal.Value.run_blocks (F := Ideal) m g),
    (θ_run (Cert.Reference3Ideal.defs (F := Ideal)) _ _).mono (fun r h c => ?_)
      (Cert.Reference3Ideal.Value.run (F := Ideal) m' g')⟩
  · obtain ⟨h0, h1, h2, h3, h4, h5, h6, h7, h8, h9, h10, h11, hk⟩ := h c
    exact ⟨h0.trans (value_u m c), h1.trans (value_k m c), h2.trans (value_v m c), h3.trans (value_ki m c), h4.trans (value_kb m c), h5.trans (value_kib m c), h6.trans (value_ga m c), h7.trans (value_gb m c), h8.trans (value_q m c), h9.trans (value_vt m c), h10.trans (value_qi m c), h11.trans (value_wi m c), hk⟩
  · obtain ⟨h0, h1, h2, h3, h4, h5, h6, h7, h8, h9, h10, h11, hk⟩ := h c
    obtain ⟨e0, e1⟩ := hargs c
    rw [e0, e1] at h0 h1 h2 h3 h4 h5 h6 h7 h8 h9 h10 h11
    exact ⟨h0.trans (ref_u_eq m c), h1.trans (ref_k_eq m c), h2.trans (ref_v_eq m c), h3.trans (ref_ki_eq m c), h4.trans (ref_kb_eq m c), h5.trans (ref_kib_eq m c), h6.trans (ref_ga_eq m c), h7.trans (ref_gb_eq m c), h8.trans (ref_q_eq m c), h9.trans (ref_vt_eq m c), h10.trans (ref_qi_eq m c), h11.trans (ref_wi_eq m c), hk⟩

end Cert.Proof.InProj.Prompt

end
-- ==== Proof.Merge.Value.lean ====
/-
  What the merge of the two branches leaves, at one row and column, as a formula over the extended reals: first of the
  kernel's block, then of the reference's array.
-/
module

public import proofs.«01_k».proof.Proof.Gen.Kernel4Ideal.Value
public import proofs.«01_k».proof.Proof.Gen.Reference4Ideal.Run
public import proofs.«01_k».proof.Proof.Norm

@[expose] public section

set_option maxRecDepth 16384

noncomputable section

namespace Cert.Proof.Merge

open Idealize.ShloMosaic Idealize.ShloMosaic.TcCoe Idealize.SL.Sem

/-- The residual and the merged branches at position `k` of a row, before the norm. -/
def row (x : Fin 1024 → EReal) (ya yb : Fin 512 → EReal) (sa sb : Fin 1024 → EReal) (wa wb : Fin 512 → Fin 1024 → EReal)
    (wo : Fin 1024 → Fin 1024 → EReal) (k : Fin 1024) : EReal :=
  Ideal.ofBits .f32 0x3F9837F0#32 * x k
    + ∑ j : Fin 1024, (sa j * (∑ i : Fin 512, ya i * wa i j) + sb j * (∑ i : Fin 512, yb i * wb i j)) * wo j k

/-- The merged and normed array: at row `r` and column `k`, the norm of that row. -/
def out (x : Fin 65536 → Fin 1024 → EReal) (ya yb : Fin 65536 → Fin 512 → EReal) (sa sb : Fin 65536 → Fin 1024 → EReal)
    (wa wb : Fin 512 → Fin 1024 → EReal) (wo : Fin 1024 → Fin 1024 → EReal) (g b : Fin 1024 → EReal)
    (r : Fin 65536) (k : Fin 1024) : EReal :=
  norm (row (x r) (ya r) (yb r) (sa r) (sb r) wa wb wo) (g k) (b k) k

section Kernel
open Cert.Kernel4Ideal Cert.Kernel4Ideal.Gen

theorem pay4_apply (v0 : Vec Ideal S512x1024 .bf16) (v2 : Vec Ideal S512x512 .bf16) (v3 : Vec Ideal S512x1024 .bf16)
    (v7 : Vec Ideal S512x1024 .bf16) (v9 : Vec Ideal S512x512 .bf16) (v10 : Vec Ideal S512x1024 .bf16)
    (v15 : Vec Ideal S512x1024 .f32) (v19 : Vec Ideal S1024x1024 .bf16) (r : Fin 512) (k : Fin 1024) :
    k0_pay4 v0 v2 v3 v7 v9 v10 v15 v19 (ix2 r k)
      = centred (row (fun j => v15 (ix2 r j)) (fun j => v2 (ix2 r j)) (fun j => v9 (ix2 r j)) (fun j => v0 (ix2 r j))
          (fun j => v7 (ix2 r j)) (fun i j => v3 (ix2 i j)) (fun i j => v10 (ix2 i j)) (fun i j => v19 (ix2 i j))) k := by
  pointwise [k0_pay4, centred, row]

theorem pay1_apply (v24 v26 : FVec Ideal S1x1024 .f32) (v32 : FVec Ideal S512x1024 .f32) (r : Fin 512) (k : Fin 1024) :
    k0_pay1 (k0_pay2 v24) (k0_pay3 v26) v32 (ix2 r k)
      = scaled (fun j => v32 (ix2 r j)) (v24 (ix2 0 k)) (v26 (ix2 0 k)) k := by
  pointwise [k0_pay1, k0_pay2, k0_pay3, scaled]

end Kernel

section Reference
open Cert.Reference4Ideal Cert.Reference4Ideal.Gen Cert.Reference4Ideal.Facts

variable [Cert.Reference4Ideal.Facts]

/-- The reference's array before the norm. -/
def pre (x : FVec Ideal S65536x1024 .f32) (ya yb : FVec Ideal S65536x512 .bf16) (sa sb : FVec Ideal S65536x1024 .bf16)
    (wa wb : FVec Ideal S1x512x1024 .f32) (wo : FVec Ideal S1x1024x1024 .f32) : FVec Ideal S65536x1024 .f32 :=
  addf (mulf (broadcastInDim S65536x1024 ![] bcast_S_S65536x1024 (constant S_ .f32 0x3F9837F0#32)) x) (Host.dotGeneral dot_S65536x1024_S1024x1024_S65536x1024_1_0_0_1_n_n none (addf (mulf (extf .f32 sa bitsLt_bf16_f32) (Host.dotGeneral dot_S65536x512_S512x1024_S65536x1024_1_0_0_1_n_n none (extf .f32 ya bitsLt_bf16_f32) (shapeCast _ wa shapeCasts_S1x512x1024_S512x1024))) (mulf (extf .f32 sb bitsLt_bf16_f32) (Host.dotGeneral dot_S65536x512_S512x1024_S65536x1024_1_0_0_1_n_n none (extf .f32 yb bitsLt_bf16_f32) (shapeCast _ wb shapeCasts_S1x512x1024_S512x1024)))) (shapeCast _ wo shapeCasts_S1x1024x1024_S1024x1024))

/-- The reference's rows less their means. -/
def less (h : FVec Ideal S65536x1024 .f32) : FVec Ideal S65536x1024 .f32 :=
  subf h (broadcastInDim S65536x1024 ![0, 1] bcast_S65536x1_S65536x1024_0_1 (Host.divf (broadcastInDim S65536x1 ![0] bcast_S65536_S65536x1_0 (Host.reduceAdd h (constant S_ .f32 0x00000000#32) reducesTo_S65536x1024_S65536_d1 h_S_)) (broadcastInDim S65536x1 ![] bcast_S_S65536x1 (constant S_ .f32 0x44800000#32))))

/-- The reference's norm of rows already less their means. -/
def unit (d : FVec Ideal S65536x1024 .f32) (g b : FVec Ideal S1x1024 .f32) : FVec Ideal S65536x1024 .f32 :=
  addf (mulf (mulf d (broadcastInDim S65536x1024 ![0, 1] bcast_S65536x1_S65536x1024_0_1 (Host.rsqrt (addf (Host.divf (broadcastInDim S65536x1 ![0] bcast_S65536_S65536x1_0 (Host.reduceAdd (mulf d d) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 (shapeCast _ g shapeCasts_S1x1024_S1024)))) (broadcastInDim S65536x1024 ![0, 1] bcast_S1x1024_S65536x1024_0_1 (broadcastInDim S1x1024 ![1] bcast_S1024_S1x1024_1 (shapeCast _ b shapeCasts_S1x1024_S1024)))

theorem pre_apply (x : FVec Ideal S65536x1024 .f32) (ya yb : FVec Ideal S65536x512 .bf16) (sa sb : FVec Ideal S65536x1024 .bf16)
    (wa wb : FVec Ideal S1x512x1024 .f32) (wo : FVec Ideal S1x1024x1024 .f32) (r : Fin 65536) (k : Fin 1024) :
    pre x ya yb sa sb wa wb wo (ix2 r k)
      = row (fun j => x (ix2 r j)) (fun j => ya (ix2 r j)) (fun j => yb (ix2 r j)) (fun j => sa (ix2 r j))
          (fun j => sb (ix2 r j)) (fun i j => wa (ix3 0 i j)) (fun i j => wb (ix3 0 i j)) (fun i j => wo (ix3 0 i j)) k := by
  pointwise [pre, row]

theorem less_apply (h : FVec Ideal S65536x1024 .f32) (r : Fin 65536) (k : Fin 1024) :
    less h (ix2 r k) = centred (fun j => h (ix2 r j)) k := by
  pointwise [less, centred]

theorem unit_apply (d : FVec Ideal S65536x1024 .f32) (g b : FVec Ideal S1x1024 .f32) (r : Fin 65536) (k : Fin 1024) :
    unit d g b (ix2 r k) = scaled (fun j => d (ix2 r j)) (g (ix2 0 k)) (b (ix2 0 k)) k := by
  pointwise [unit, scaled]

theorem res_eq (m : (ℓ : Loc nD τ sig) → Buf (Elt Ideal) ℓ) (c : Dev nD) :
    Cert.Reference4Ideal.Value.res_out0 m c
      = unit (less (pre (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) := rfl

end Reference

end Cert.Proof.Merge

end
-- ==== Proof.Merge.Kernel.lean ====
/-
  The array the kernel's pipeline leaves: block by block the formula of `Merge/Value`.
-/
module

public import proofs.«01_k».proof.Proof.Merge.Value

@[expose] public section

set_option maxRecDepth 16384

noncomputable section

namespace Cert.Proof.Merge

open Idealize.ShloMosaic Idealize.ShloMosaic.TcCoe Idealize.SL.Sem
open Cert.Kernel4Ideal Cert.Kernel4Ideal.Gen

variable (m : (ℓ : Loc nD τ sig) → Buf (Elt Ideal) ℓ)

/-- The kernel's result as a formula of its arguments. -/
def kernelOut (c : Dev nD) : FVec Ideal S65536x1024 .f32 := fun y =>
  out (fun r j => (m ((c.tc : Thread nD τ).loc main_arg0) : FVec Ideal S65536x1024 .f32) (ix2 r j))
    (fun r j => (m ((c.tc : Thread nD τ).loc main_arg1) : FVec Ideal S65536x512 .bf16) (ix2 r j))
    (fun r j => (m ((c.tc : Thread nD τ).loc main_arg2) : FVec Ideal S65536x512 .bf16) (ix2 r j))
    (fun r j => (m ((c.tc : Thread nD τ).loc main_arg3) : FVec Ideal S65536x1024 .bf16) (ix2 r j))
    (fun r j => (m ((c.tc : Thread nD τ).loc main_arg4) : FVec Ideal S65536x1024 .bf16) (ix2 r j))
    (fun r j => (m ((c.tc : Thread nD τ).loc main_arg5) : FVec Ideal S1x512x1024 .f32) (ix3 0 r j))
    (fun r j => (m ((c.tc : Thread nD τ).loc main_arg6) : FVec Ideal S1x512x1024 .f32) (ix3 0 r j))
    (fun r j => (m ((c.tc : Thread nD τ).loc main_arg7) : FVec Ideal S1x1024x1024 .f32) (ix3 0 r j))
    (fun j => (m ((c.tc : Thread nD τ).loc main_arg8) : FVec Ideal S1x1024 .f32) (ix2 0 j))
    (fun j => (m ((c.tc : Thread nD τ).loc main_arg9) : FVec Ideal S1x1024 .f32) (ix2 0 j)) (y 0) (y 1)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)

/-- The array's row behind row `r` of the block at `t`. -/
def line (t : Fin cfg0.N) (r : Fin 512) : Fin 65536 :=
  ⟨512 * t.val + r.val, by have := t.isLt; have := r.isLt; have h : cfg0.N = 128 := rfl; omega⟩

theorem read0 (c : Dev nD) (t : Fin cfg0.N) (r : Fin 512) (j : Fin 1024) :
    iblk m c 0 t (ix2 r j) = (m ((c.tc : Thread nD τ).loc main_arg0) : FVec Ideal S65536x1024 .f32) (ix2 (line t r) j) := by
  blk_ext! [iblk, V, idx0 t, line]

theorem read1 (c : Dev nD) (t : Fin cfg0.N) (r : Fin 512) (j : Fin 512) :
    iblk m c 1 t (ix2 r j) = (m ((c.tc : Thread nD τ).loc main_arg1) : FVec Ideal S65536x512 .bf16) (ix2 (line t r) j) := by
  blk_ext! [iblk, V, idx1 t, line]

theorem read2 (c : Dev nD) (t : Fin cfg0.N) (r : Fin 512) (j : Fin 512) :
    iblk m c 2 t (ix2 r j) = (m ((c.tc : Thread nD τ).loc main_arg2) : FVec Ideal S65536x512 .bf16) (ix2 (line t r) j) := by
  blk_ext! [iblk, V, idx2 t, line]

theorem read3 (c : Dev nD) (t : Fin cfg0.N) (r : Fin 512) (j : Fin 1024) :
    iblk m c 3 t (ix2 r j) = (m ((c.tc : Thread nD τ).loc main_arg3) : FVec Ideal S65536x1024 .bf16) (ix2 (line t r) j) := by
  blk_ext! [iblk, V, idx3 t, line]

theorem read4 (c : Dev nD) (t : Fin cfg0.N) (r : Fin 512) (j : Fin 1024) :
    iblk m c 4 t (ix2 r j) = (m ((c.tc : Thread nD τ).loc main_arg4) : FVec Ideal S65536x1024 .bf16) (ix2 (line t r) j) := by
  blk_ext! [iblk, V, idx4 t, line]

theorem read5 (c : Dev nD) (t : Fin cfg0.N) (r : Fin 512) (j : Fin 1024) :
    iblk m c 5 t (ix2 r j) = (m ((c.tc : Thread nD τ).loc main_arg5) : FVec Ideal S1x512x1024 .f32) (ix3 0 r j) := by
  blk_ext! [iblk, V, idx5 t]

theorem read6 (c : Dev nD) (t : Fin cfg0.N) (r : Fin 512) (j : Fin 1024) :
    iblk m c 6 t (ix2 r j) = (m ((c.tc : Thread nD τ).loc main_arg6) : FVec Ideal S1x512x1024 .f32) (ix3 0 r j) := by
  blk_ext! [iblk, V, idx6 t]

theorem read7 (c : Dev nD) (t : Fin cfg0.N) (r : Fin 1024) (j : Fin 1024) :
    iblk m c 7 t (ix2 r j) = (m ((c.tc : Thread nD τ).loc main_arg7) : FVec Ideal S1x1024x1024 .f32) (ix3 0 r j) := by
  blk_ext! [iblk, V, idx7 t]

theorem read8 (c : Dev nD) (t : Fin cfg0.N) (j : Fin 1024) :
    iblk m c 8 t (ix2 0 j) = (m ((c.tc : Thread nD τ).loc main_arg8) : FVec Ideal S1x1024 .f32) (ix2 0 j) := by
  blk_ext! [iblk, V, idx8 t]

theorem read9 (c : Dev nD) (t : Fin cfg0.N) (j : Fin 1024) :
    iblk m c 9 t (ix2 0 j) = (m ((c.tc : Thread nD τ).loc main_arg9) : FVec Ideal S1x1024 .f32) (ix2 0 j) := by
  blk_ext! [iblk, V, idx9 t]

theorem place (t : Fin cfg0.N) (r : Fin 512) (k : Fin 1024) : ((View.whole main_v10).slice (win0_10.rect t)).emb (ix2 r k) = ix2 (line t r) k := by
  blk_ext! [idx10 t, line]

theorem value (c : Dev nD) : (dats m 0 c).arrAt 10 cfg0.N = kernelOut m c := by
  refine (dats m 0 c).arrAt_eq_of_covers 10 (kernelOut m c) (by decide +kernel) fun t hf y => ?_
  blk_simp
  rw [after0_10]
  frame_out
  idx_vars y
  rw [pay1_apply, place]
  simp only [pay4_apply, read0, read1, read2, read3, read4, read5, read6, read7, read8, read9]
  rfl

end Cert.Proof.Merge

end
-- ==== Proof.Merge.Claim.lean ====
/-
  The merge: kernel and reference end with the same array.
-/
module

public import proofs.«01_k».proof.Defs
public import proofs.«01_k».proof.Proof.Merge.Kernel

@[expose] public section

set_option maxRecDepth 16384

noncomputable section

namespace Cert.Proof.Merge

open Idealize.ShloMosaic Idealize.ShloMosaic.TcCoe Idealize.SL.Sem

/-- The reference's norm of its own row is the formula. -/
theorem unit_less_pre (x : FVec Ideal Cert.Reference4Ideal.S65536x1024 .f32) (ya yb : FVec Ideal Cert.Reference4Ideal.S65536x512 .bf16)
    (sa sb : FVec Ideal Cert.Reference4Ideal.S65536x1024 .bf16) (wa wb : FVec Ideal Cert.Reference4Ideal.S1x512x1024 .f32)
    (wo : FVec Ideal Cert.Reference4Ideal.S1x1024x1024 .f32) (g b : FVec Ideal Cert.Reference4Ideal.S1x1024 .f32)
    (r : Fin 65536) (k : Fin 1024) :
    unit (less (pre x ya yb sa sb wa wb wo)) g b (ix2 r k)
      = out (fun r j => x (ix2 r j)) (fun r j => ya (ix2 r j)) (fun r j => yb (ix2 r j)) (fun r j => sa (ix2 r j))
          (fun r j => sb (ix2 r j)) (fun i j => wa (ix3 0 i j)) (fun i j => wb (ix3 0 i j)) (fun i j => wo (ix3 0 i j))
          (fun j => g (ix2 0 j)) (fun j => b (ix2 0 j)) r k := by
  rw [unit_apply]
  simp only [less_apply, pre_apply]
  rfl

theorem algebraic : Cert.algebraic_Kernel4Ideal_Reference4Ideal := by
  intro m g m' g' _ hargs
  refine ⟨kernelOut m, (θ_run (Cert.Kernel4Ideal.defs (F := Ideal)) _ _).mono (fun r h c => ?_)
      (Cert.Kernel4Ideal.Value.run_blocks (F := Ideal) m g),
    (θ_run (Cert.Reference4Ideal.defs (F := Ideal)) _ _).mono (fun r h c => ?_)
      (Cert.Reference4Ideal.Value.run (F := Ideal) m' g')⟩
  · obtain ⟨hv, hk⟩ := h c
    exact ⟨hv.trans (value m c), hk⟩
  · obtain ⟨hv, hk⟩ := h c
    refine ⟨hv.trans ?_, hk⟩
    obtain ⟨h0, h1, h2, h3, h4, h5, h6, h7, h8, h9⟩ := hargs c
    refine (res_eq m' c).trans ?_
    rw [h0, h1, h2, h3, h4, h5, h6, h7, h8, h9]
    funext y
    obtain ⟨a, b, rfl⟩ : ∃ a b, y = ix2 a b := ⟨_, _, eq_ix2 y⟩
    exact unit_less_pre _ _ _ _ _ _ _ _ _ _ a b

end Cert.Proof.Merge

end
-- ==== Proof.InProj.Sample.Reference.lean ====
/-
  The reference's projections of the sample, entry by entry: each is a block of columns of one product.
-/
module

public import proofs.«01_k».proof.Proof.Gen.Reference5Ideal.Run
public import proofs.«01_k».proof.Proof.InProj.Scale

@[expose] public section

set_option maxRecDepth 16384

noncomputable section

namespace Cert.Proof.InProj.Sample

open Idealize.ShloMosaic Idealize.ShloMosaic.TcCoe Idealize.SL.Sem
open Cert.Reference5Ideal Cert.Reference5Ideal.Gen Cert.Reference5Ideal.Facts

variable [Cert.Reference5Ideal.Facts]

/-- The reference's `u`. -/
def ref_u (x : FVec Ideal S128x1x1024 .f32) (w : FVec Ideal S1x1024x4392 .f32) : FVec Ideal S128x512 .f32 :=
  extractStridedSlice S128x512 ![0, 0] (Host.dotGeneral dot_S128x1024_S1024x4392_S128x4392_1_0_0_1_n_n none (shapeCast _ x shapeCasts_S128x1x1024_S128x1024) (shapeCast _ w shapeCasts_S1x1024x4392_S1024x4392)) slices_S128x4392_S128x512_0_0

theorem ref_u_apply (x : FVec Ideal S128x1x1024 .f32) (w : FVec Ideal S1x1024x4392 .f32) (r : Fin 128) (k : Fin 512) :
    ref_u x w (ix2 r k) = proj (fun j => x (ix3 r 0 j)) (fun j n => w (ix3 0 j n)) ⟨0 + k.val, by omega⟩ := by
  pointwise [ref_u, proj]

/-- The reference's `q`. -/
def ref_q (x : FVec Ideal S128x1x1024 .f32) (w : FVec Ideal S1x1024x4392 .f32) : FVec Ideal S128x512 .f32 :=
  mulf (extractStridedSlice S128x512 ![0, 512] (Host.dotGeneral dot_S128x1024_S1024x4392_S128x4392_1_0_0_1_n_n none (shapeCast _ x shapeCasts_S128x1x1024_S128x1024) (shapeCast _ w shapeCasts_S1x1024x4392_S1024x4392)) slices_S128x4392_S128x512_0_512) (broadcastInDim S128x512 ![] bcast_S_S128x512 (constant S_ .f32 0x3E38AA3B#32))

theorem ref_q_apply (x : FVec Ideal S128x1x1024 .f32) (w : FVec Ideal S1x1024x4392 .f32) (r : Fin 128) (k : Fin 512) :
    ref_q x w (ix2 r k) = proj (fun j => x (ix3 r 0 j)) (fun j n => w (ix3 0 j n)) ⟨512 + k.val, by omega⟩ * Ideal.ofBits .f32 0x3E38AA3B#32 := by
  pointwise [ref_q, proj]

/-- The reference's `k`. -/
def ref_k (x : FVec Ideal S128x1x1024 .f32) (w : FVec Ideal S1x1024x4392 .f32) : FVec Ideal S128x512 .f32 :=
  extractStridedSlice S128x512 ![0, 1024] (Host.dotGeneral dot_S128x1024_S1024x4392_S128x4392_1_0_0_1_n_n none (shapeCast _ x shapeCasts_S128x1x1024_S128x1024) (shapeCast _ w shapeCasts_S1x1024x4392_S1024x4392)) slices_S128x4392_S128x512_0_1024

theorem ref_k_apply (x : FVec Ideal S128x1x1024 .f32) (w : FVec Ideal S1x1024x4392 .f32) (r : Fin 128) (k : Fin 512) :
    ref_k x w (ix2 r k) = proj (fun j => x (ix3 r 0 j)) (fun j n => w (ix3 0 j n)) ⟨1024 + k.val, by omega⟩ := by
  pointwise [ref_k, proj]

/-- The reference's `v`. -/
def ref_v (x : FVec Ideal S128x1x1024 .f32) (w : FVec Ideal S1x1024x4392 .f32) : FVec Ideal S128x512 .f32 :=
  extractStridedSlice S128x512 ![0, 1536] (Host.dotGeneral dot_S128x1024_S1024x4392_S128x4392_1_0_0_1_n_n none (shapeCast _ x shapeCasts_S128x1x1024_S128x1024) (shapeCast _ w shapeCasts_S1x1024x4392_S1024x4392)) slices_S128x4392_S128x512_0_1536

theorem ref_v_apply (x : FVec Ideal S128x1x1024 .f32) (w : FVec Ideal S1x1024x4392 .f32) (r : Fin 128) (k : Fin 512) :
    ref_v x w (ix2 r k) = proj (fun j => x (ix3 r 0 j)) (fun j n => w (ix3 0 j n)) ⟨1536 + k.val, by omega⟩ := by
  pointwise [ref_v, proj]

/-- The reference's `qi`. -/
def ref_qi (x : FVec Ideal S128x1x1024 .f32) (w : FVec Ideal S1x1024x4392 .f32) : FVec Ideal S128x256 .f32 :=
  extractStridedSlice S128x256 ![0, 2048] (Host.dotGeneral dot_S128x1024_S1024x4392_S128x4392_1_0_0_1_n_n none (shapeCast _ x shapeCasts_S128x1x1024_S128x1024) (shapeCast _ w shapeCasts_S1x1024x4392_S1024x4392)) slices_S128x4392_S128x256_0_2048

theorem ref_qi_apply (x : FVec Ideal S128x1x1024 .f32) (w : FVec Ideal S1x1024x4392 .f32) (r : Fin 128) (k : Fin 256) :
    ref_qi x w (ix2 r k) = proj (fun j => x (ix3 r 0 j)) (fun j n => w (ix3 0 j n)) ⟨2048 + k.val, by omega⟩ := by
  pointwise [ref_qi, proj]

/-- The reference's `ki`. -/
def ref_ki (x : FVec Ideal S128x1x1024 .f32) (w : FVec Ideal S1x1024x4392 .f32) : FVec Ideal S128x32 .f32 :=
  extractStridedSlice S128x32 ![0, 2304] (Host.dotGeneral dot_S128x1024_S1024x4392_S128x4392_1_0_0_1_n_n none (shapeCast _ x shapeCasts_S128x1x1024_S128x1024) (shapeCast _ w shapeCasts_S1x1024x4392_S1024x4392)) slices_S128x4392_S128x32_0_2304

theorem ref_ki_apply (x : FVec Ideal S128x1x1024 .f32) (w : FVec Ideal S1x1024x4392 .f32) (r : Fin 128) (k : Fin 32) :
    ref_ki x w (ix2 r k) = proj (fun j => x (ix3 r 0 j)) (fun j n => w (ix3 0 j n)) ⟨2304 + k.val, by omega⟩ := by
  pointwise [ref_ki, proj]

/-- The reference's `wi`. -/
def ref_wi (x : FVec Ideal S128x1x1024 .f32) (w : FVec Ideal S1x1024x4392 .f32) : FVec Ideal S128x8 .f32 :=
  mulf (extractStridedSlice S128x8 ![0, 2336] (Host.dotGeneral dot_S128x1024_S1024x4392_S128x4392_1_0_0_1_n_n none (shapeCast _ x shapeCasts_S128x1x1024_S128x1024) (shapeCast _ w shapeCasts_S1x1024x4392_S1024x4392)) slices_S128x4392_S128x8_0_2336) (broadcastInDim S128x8 ![] bcast_S_S128x8 (constant S_ .f32 0x3D800000#32))

theorem ref_wi_apply (x : FVec Ideal S128x1x1024 .f32) (w : FVec Ideal S1x1024x4392 .f32) (r : Fin 128) (k : Fin 8) :
    ref_wi x w (ix2 r k) = proj (fun j => x (ix3 r 0 j)) (fun j n => w (ix3 0 j n)) ⟨2336 + k.val, by omega⟩ * Ideal.ofBits .f32 0x3D800000#32 := by
  pointwise [ref_wi, proj]

/-- The reference's `ga`. -/
def ref_ga (x : FVec Ideal S128x1x1024 .f32) (w : FVec Ideal S1x1024x4392 .f32) : FVec Ideal S128x1024 .bf16 :=
  truncf .bf16 (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 2344] (Host.dotGeneral dot_S128x1024_S1024x4392_S128x4392_1_0_0_1_n_n none (shapeCast _ x shapeCasts_S128x1x1024_S128x1024) (shapeCast _ w shapeCasts_S1x1024x4392_S1024x4392)) slices_S128x4392_S128x1024_0_2344))))) bitsLt_bf16_f32

theorem ref_ga_apply (x : FVec Ideal S128x1x1024 .f32) (w : FVec Ideal S1x1024x4392 .f32) (r : Fin 128) (k : Fin 1024) :
    ref_ga x w (ix2 r k) = Ideal.logistic (proj (fun j => x (ix3 r 0 j)) (fun j n => w (ix3 0 j n)) ⟨2344 + k.val, by omega⟩) := by
  pointwise [ref_ga, proj, Ideal.logistic, Ideal.ofBits_one_f32]

/-- The reference's `gb`. -/
def ref_gb (x : FVec Ideal S128x1x1024 .f32) (w : FVec Ideal S1x1024x4392 .f32) : FVec Ideal S128x1024 .bf16 :=
  truncf .bf16 (Host.divf (broadcastInDim S128x1024 ![] bcast_S_S128x1024 (constant S_ .f32 0x3F800000#32)) (addf (broadcastInDim S128x1024 ![] bcast_S_S128x1024 (constant S_ .f32 0x3F800000#32)) (Host.exp (Host.negf (extractStridedSlice S128x1024 ![0, 3368] (Host.dotGeneral dot_S128x1024_S1024x4392_S128x4392_1_0_0_1_n_n none (shapeCast _ x shapeCasts_S128x1x1024_S128x1024) (shapeCast _ w shapeCasts_S1x1024x4392_S1024x4392)) slices_S128x4392_S128x1024_0_3368))))) bitsLt_bf16_f32

theorem ref_gb_apply (x : FVec Ideal S128x1x1024 .f32) (w : FVec Ideal S1x1024x4392 .f32) (r : Fin 128) (k : Fin 1024) :
    ref_gb x w (ix2 r k) = Ideal.logistic (proj (fun j => x (ix3 r 0 j)) (fun j n => w (ix3 0 j n)) ⟨3368 + k.val, by omega⟩) := by
  pointwise [ref_gb, proj, Ideal.logistic, Ideal.ofBits_one_f32]

end Cert.Proof.InProj.Sample

end
-- ==== Proof.InProj.Sample.Kernel.lean ====
/-
  The projections the kernel computes of the sample, entry by entry.
-/
module

public import proofs.«01_k».proof.Proof.Gen.Kernel5Ideal.Value
public import proofs.«01_k».proof.Proof.InProj.Scale

@[expose] public section

set_option maxRecDepth 16384

noncomputable section

namespace Cert.Proof.InProj.Sample

open Idealize.ShloMosaic Idealize.ShloMosaic.TcCoe Idealize.SL.Sem
open Cert.Kernel5Ideal Cert.Kernel5Ideal.Gen

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)

/-- The sample's row `r` at position `j`. -/
def x (c : Dev nD) (r : Fin 128) (j : Fin 1024) : EReal := (m ((c.tc : Thread nD τ).loc main_arg0) : FVec Ideal S128x1x1024 .f32) (ix3 r 0 j)

/-- The weights, row `j` and column `n`. -/
def w (c : Dev nD) (j : Fin 1024) (n : Fin 4392) : EReal := (m ((c.tc : Thread nD τ).loc main_arg1) : FVec Ideal S1x1024x4392 .f32) (ix3 0 j n)

theorem read0 (c : Dev nD) (t : Fin cfg0.N) (r : Fin 128) (j : Fin 1024) : iblk m c 0 t (ix2 r j) = x m c r j := by
  unfold x
  blk_ext! [iblk, V, idx0 t]

theorem read1 (c : Dev nD) (t : Fin cfg0.N) (j : Fin 1024) (k : Fin 512) :
    iblk m c 1 t (ix2 j k) = w m c j ⟨0 + k.val, by omega⟩ := by
  unfold w
  blk_ext! [iblk, V, idx1 t]

theorem read2 (c : Dev nD) (t : Fin cfg0.N) (j : Fin 1024) (k : Fin 512) :
    iblk m c 2 t (ix2 j k) = w m c j ⟨512 + k.val, by omega⟩ * Ideal.ofBits .f32 0x3E38AA3B#32 := by
  unfold w
  blk_simp [iblk, idx2 t]
  entry_read
  pointwise
  refine congrArg (· * _) ?_
  blk_ext [iblk, idx2 t]

theorem read3 (c : Dev nD) (t : Fin cfg0.N) (j : Fin 1024) (k : Fin 512) :
    iblk m c 3 t (ix2 j k) = w m c j ⟨1024 + k.val, by omega⟩ := by
  unfold w
  blk_ext! [iblk, V, idx3 t]

theorem read4 (c : Dev nD) (t : Fin cfg0.N) (j : Fin 1024) (k : Fin 512) :
    iblk m c 4 t (ix2 j k) = w m c j ⟨1536 + k.val, by omega⟩ := by
  unfold w
  blk_ext! [iblk, V, idx4 t]

theorem read5 (c : Dev nD) (t : Fin cfg0.N) (j : Fin 1024) (k : Fin 256) :
    iblk m c 5 t (ix2 j k) = w m c j ⟨2048 + k.val, by omega⟩ := by
  unfold w
  blk_ext! [iblk, V, idx5 t]

theorem read6 (c : Dev nD) (t : Fin cfg0.N) (j : Fin 1024) (k : Fin 32) :
    iblk m c 6 t (ix2 j k) = w m c j ⟨2304 + k.val, by omega⟩ := by
  unfold w
  blk_ext! [iblk, V, idx6 t]

theorem read7 (c : Dev nD) (t : Fin cfg0.N) (j : Fin 1024) (k : Fin 8) :
    iblk m c 7 t (ix2 j k) = w m c j ⟨2336 + k.val, by omega⟩ * Ideal.ofBits .f32 0x3D800000#32 := by
  unfold w
  blk_simp [iblk, idx7 t]
  entry_read
  pointwise
  refine congrArg (· * _) ?_
  blk_ext [iblk, idx7 t]

theorem read8 (c : Dev nD) (t : Fin cfg0.N) (j : Fin 1024) (k : Fin 1024) :
    iblk m c 8 t (ix2 j k) = w m c j ⟨2344 + k.val, by omega⟩ := by
  unfold w
  blk_ext! [iblk, V, idx8 t]

theorem read9 (c : Dev nD) (t : Fin cfg0.N) (j : Fin 1024) (k : Fin 1024) :
    iblk m c 9 t (ix2 j k) = w m c j ⟨3368 + k.val, by omega⟩ := by
  unfold w
  blk_ext! [iblk, V, idx9 t]

theorem pay_u (v0 : Vec Ideal S128x1024 .f32) (v1 : Vec Ideal S1024x512 .bf16) (r : Fin 128) (k : Fin 512) :
    k0_pay6 v0 v1 (ix2 r k) = ∑ j : Fin 1024, v0 (ix2 r j) * v1 (ix2 j k) := by
  pointwise [k0_pay5, k0_pay6]

/-- The kernel's `u` as a formula of its arguments. -/
def out_u (c : Dev nD) : FVec Ideal S128x512 .f32 := fun y =>
  proj (x m c (y 0)) (w m c) ⟨0 + (y 1).val, by have := (y 1).isLt; change (y 1).val < 512 at this; omega⟩

theorem value_u (c : Dev nD) : (dats m 0 c).arrAt 10 cfg0.N = out_u m c := by
  refine (dats m 0 c).arrAt_eq_of_covers 10 (out_u m c) (by decide +kernel) fun t hf y => ?_
  have place : ∀ (r : Fin 128) (k : Fin 512), ((cfg0.win 10).blk t).view.emb (ix2 r k) = ix2 r k := fun r k => by
    blk_ext! [idx10 t]
  blk_simp
  rw [after0_10]
  unfold_out out0_10
  frame_out
  idx_vars y
  rw [pay_u]
  simp only [read0, read1]
  refine Eq.trans ?_ (congrArg (out_u m c) (place y0 y1)).symm
  rfl

theorem pay_q (v0 : Vec Ideal S128x1024 .f32) (v1 : Vec Ideal S1024x512 .bf16) (r : Fin 128) (k : Fin 512) :
    k0_pay7 v0 v1 (ix2 r k) = ∑ j : Fin 1024, v0 (ix2 r j) * v1 (ix2 j k) := by
  pointwise [k0_pay5, k0_pay7]

/-- The kernel's `q` as a formula of its arguments. -/
def out_q (c : Dev nD) : FVec Ideal S128x512 .f32 := fun y =>
  proj (x m c (y 0)) (w m c) ⟨512 + (y 1).val, by have := (y 1).isLt; change (y 1).val < 512 at this; omega⟩ * Ideal.ofBits .f32 0x3E38AA3B#32

theorem value_q (c : Dev nD) : (dats m 0 c).arrAt 11 cfg0.N = out_q m c := by
  refine (dats m 0 c).arrAt_eq_of_covers 11 (out_q m c) (by decide +kernel) fun t hf y => ?_
  have place : ∀ (r : Fin 128) (k : Fin 512), ((cfg0.win 11).blk t).view.emb (ix2 r k) = ix2 r k := fun r k => by
    blk_ext! [idx11 t]
  blk_simp
  rw [after0_11]
  unfold_out out0_11
  frame_out
  idx_vars y
  rw [pay_q]
  simp only [read0, read2]
  refine Eq.trans ?_ (congrArg (out_q m c) (place y0 y1)).symm
  exact sum_scale _ att_scale _ _

theorem pay_k (v0 : Vec Ideal S128x1024 .f32) (v1 : Vec Ideal S1024x512 .bf16) (r : Fin 128) (k : Fin 512) :
    k0_pay8 v0 v1 (ix2 r k) = ∑ j : Fin 1024, v0 (ix2 r j) * v1 (ix2 j k) := by
  pointwise [k0_pay5, k0_pay8]

/-- The kernel's `k` as a formula of its arguments. -/
def out_k (c : Dev nD) : FVec Ideal S128x512 .f32 := fun y =>
  proj (x m c (y 0)) (w m c) ⟨1024 + (y 1).val, by have := (y 1).isLt; change (y 1).val < 512 at this; omega⟩

theorem value_k (c : Dev nD) : (dats m 0 c).arrAt 12 cfg0.N = out_k m c := by
  refine (dats m 0 c).arrAt_eq_of_covers 12 (out_k m c) (by decide +kernel) fun t hf y => ?_
  have place : ∀ (r : Fin 128) (k : Fin 512), ((cfg0.win 12).blk t).view.emb (ix2 r k) = ix2 r k := fun r k => by
    blk_ext! [idx12 t]
  blk_simp
  rw [after0_12]
  unfold_out out0_12
  frame_out
  idx_vars y
  rw [pay_k]
  simp only [read0, read3]
  refine Eq.trans ?_ (congrArg (out_k m c) (place y0 y1)).symm
  rfl

theorem pay_v (v0 : Vec Ideal S128x1024 .f32) (v1 : Vec Ideal S1024x512 .bf16) (r : Fin 128) (k : Fin 512) :
    k0_pay9 v0 v1 (ix2 r k) = ∑ j : Fin 1024, v0 (ix2 r j) * v1 (ix2 j k) := by
  pointwise [k0_pay5, k0_pay9]

/-- The kernel's `v` as a formula of its arguments. -/
def out_v (c : Dev nD) : FVec Ideal S128x512 .f32 := fun y =>
  proj (x m c (y 0)) (w m c) ⟨1536 + (y 1).val, by have := (y 1).isLt; change (y 1).val < 512 at this; omega⟩

theorem value_v (c : Dev nD) : (dats m 0 c).arrAt 13 cfg0.N = out_v m c := by
  refine (dats m 0 c).arrAt_eq_of_covers 13 (out_v m c) (by decide +kernel) fun t hf y => ?_
  have place : ∀ (r : Fin 128) (k : Fin 512), ((cfg0.win 13).blk t).view.emb (ix2 r k) = ix2 r k := fun r k => by
    blk_ext! [idx13 t]
  blk_simp
  rw [after0_13]
  unfold_out out0_13
  frame_out
  idx_vars y
  rw [pay_v]
  simp only [read0, read4]
  refine Eq.trans ?_ (congrArg (out_v m c) (place y0 y1)).symm
  rfl

theorem pay_qi (v0 : Vec Ideal S128x1024 .f32) (v1 : Vec Ideal S1024x256 .bf16) (r : Fin 128) (k : Fin 256) :
    k0_pay10 v0 v1 (ix2 r k) = ∑ j : Fin 1024, v0 (ix2 r j) * v1 (ix2 j k) := by
  pointwise [k0_pay10, k0_pay5]

/-- The kernel's `qi` as a formula of its arguments. -/
def out_qi (c : Dev nD) : FVec Ideal S128x256 .f32 := fun y =>
  proj (x m c (y 0)) (w m c) ⟨2048 + (y 1).val, by have := (y 1).isLt; change (y 1).val < 256 at this; omega⟩

theorem value_qi (c : Dev nD) : (dats m 0 c).arrAt 14 cfg0.N = out_qi m c := by
  refine (dats m 0 c).arrAt_eq_of_covers 14 (out_qi m c) (by decide +kernel) fun t hf y => ?_
  have place : ∀ (r : Fin 128) (k : Fin 256), ((cfg0.win 14).blk t).view.emb (ix2 r k) = ix2 r k := fun r k => by
    blk_ext! [idx14 t]
  blk_simp
  rw [after0_14]
  unfold_out out0_14
  frame_out
  idx_vars y
  rw [pay_qi]
  simp only [read0, read5]
  refine Eq.trans ?_ (congrArg (out_qi m c) (place y0 y1)).symm
  rfl

theorem pay_ki (v0 : Vec Ideal S128x1024 .f32) (v1 : Vec Ideal S1024x32 .bf16) (r : Fin 128) (k : Fin 32) :
    k0_pay1 (k0_pay5 v0) (k0_pay11 v1) (ix2 r k) = ∑ j : Fin 1024, v0 (ix2 r j) * v1 (ix2 j k) := by
  pointwise [k0_pay1, k0_pay11, k0_pay5]

/-- The kernel's `ki` as a formula of its arguments. -/
def out_ki (c : Dev nD) : FVec Ideal S128x32 .f32 := fun y =>
  proj (x m c (y 0)) (w m c) ⟨2304 + (y 1).val, by have := (y 1).isLt; change (y 1).val < 32 at this; omega⟩

theorem value_ki (c : Dev nD) : (dats m 0 c).arrAt 15 cfg0.N = out_ki m c := by
  refine (dats m 0 c).arrAt_eq_of_covers 15 (out_ki m c) (by decide +kernel) fun t hf y => ?_
  have place : ∀ (r : Fin 128) (k : Fin 32), ((cfg0.win 15).blk t).view.emb (ix2 r k) = ix2 r k := fun r k => by
    blk_ext! [idx15 t]
  blk_simp
  rw [after0_15]
  unfold_out out0_15
  frame_out
  idx_vars y
  rw [pay_ki]
  simp only [read0, read6]
  refine Eq.trans ?_ (congrArg (out_ki m c) (place y0 y1)).symm
  rfl

theorem pay_wi (v0 : Vec Ideal S128x1024 .f32) (v1 : Vec Ideal S1024x8 .bf16) (r : Fin 128) (k : Fin 8) :
    k0_pay2 (k0_pay5 v0) v1 (ix2 r k) = ∑ j : Fin 1024, v0 (ix2 r j) * v1 (ix2 j k) := by
  pointwise [k0_pay2, k0_pay5]

/-- The kernel's `wi` as a formula of its arguments. -/
def out_wi (c : Dev nD) : FVec Ideal S128x8 .f32 := fun y =>
  proj (x m c (y 0)) (w m c) ⟨2336 + (y 1).val, by have := (y 1).isLt; change (y 1).val < 8 at this; omega⟩ * Ideal.ofBits .f32 0x3D800000#32

theorem value_wi (c : Dev nD) : (dats m 0 c).arrAt 16 cfg0.N = out_wi m c := by
  refine (dats m 0 c).arrAt_eq_of_covers 16 (out_wi m c) (by decide +kernel) fun t hf y => ?_
  have place : ∀ (r : Fin 128) (k : Fin 8), ((cfg0.win 16).blk t).view.emb (ix2 r k) = ix2 r k := fun r k => by
    blk_ext! [idx16 t]
  blk_simp
  rw [after0_16]
  unfold_out out0_16
  frame_out
  idx_vars y
  rw [pay_wi]
  simp only [read0, read7]
  refine Eq.trans ?_ (congrArg (out_wi m c) (place y0 y1)).symm
  exact sum_scale _ idx_scale _ _

theorem pay_ga (v0 : Vec Ideal S128x1024 .f32) (v1 : Vec Ideal S1024x1024 .bf16) (r : Fin 128) (k : Fin 1024) :
    k0_pay3 (k0_pay5 v0) v1 (ix2 r k) = Ideal.logistic (∑ j : Fin 1024, v0 (ix2 r j) * v1 (ix2 j k)) := by
  pointwise [k0_pay3, k0_pay5]

/-- The kernel's `ga` as a formula of its arguments. -/
def out_ga (c : Dev nD) : FVec Ideal S128x1024 .bf16 := fun y =>
  Ideal.logistic (proj (x m c (y 0)) (w m c) ⟨2344 + (y 1).val, by have := (y 1).isLt; change (y 1).val < 1024 at this; omega⟩)

theorem value_ga (c : Dev nD) : (dats m 0 c).arrAt 17 cfg0.N = out_ga m c := by
  refine (dats m 0 c).arrAt_eq_of_covers 17 (out_ga m c) (by decide +kernel) fun t hf y => ?_
  have place : ∀ (r : Fin 128) (k : Fin 1024), ((cfg0.win 17).blk t).view.emb (ix2 r k) = ix2 r k := fun r k => by
    blk_ext! [idx17 t]
  blk_simp
  rw [after0_17]
  unfold_out out0_17
  frame_out
  idx_vars y
  rw [pay_ga]
  simp only [read0, read8]
  refine Eq.trans ?_ (congrArg (out_ga m c) (place y0 y1)).symm
  rfl

theorem pay_gb (v0 : Vec Ideal S128x1024 .f32) (v1 : Vec Ideal S1024x1024 .bf16) (r : Fin 128) (k : Fin 1024) :
    k0_pay4 (k0_pay5 v0) v1 (ix2 r k) = Ideal.logistic (∑ j : Fin 1024, v0 (ix2 r j) * v1 (ix2 j k)) := by
  pointwise [k0_pay4, k0_pay5]

/-- The kernel's `gb` as a formula of its arguments. -/
def out_gb (c : Dev nD) : FVec Ideal S128x1024 .bf16 := fun y =>
  Ideal.logistic (proj (x m c (y 0)) (w m c) ⟨3368 + (y 1).val, by have := (y 1).isLt; change (y 1).val < 1024 at this; omega⟩)

theorem value_gb (c : Dev nD) : (dats m 0 c).arrAt 18 cfg0.N = out_gb m c := by
  refine (dats m 0 c).arrAt_eq_of_covers 18 (out_gb m c) (by decide +kernel) fun t hf y => ?_
  have place : ∀ (r : Fin 128) (k : Fin 1024), ((cfg0.win 18).blk t).view.emb (ix2 r k) = ix2 r k := fun r k => by
    blk_ext! [idx18 t]
  blk_simp
  rw [after0_18]
  unfold_out out0_18
  frame_out
  idx_vars y
  rw [pay_gb]
  simp only [read0, read9]
  refine Eq.trans ?_ (congrArg (out_gb m c) (place y0 y1)).symm
  rfl

end Cert.Proof.InProj.Sample

end
-- ==== Proof.InProj.Sample.Claim.lean ====
/-
  The projections of the sample: kernel and reference end with the same arrays.
-/
module

public import proofs.«01_k».proof.Defs
public import proofs.«01_k».proof.Proof.Gen.Kernel5Ideal.Value
public import proofs.«01_k».proof.Proof.InProj.Sample.Reference
public import proofs.«01_k».proof.Proof.InProj.Sample.Kernel

@[expose] public section

set_option maxRecDepth 16384

noncomputable section

namespace Cert.Proof.InProj.Sample

open Idealize.ShloMosaic Idealize.ShloMosaic.TcCoe Idealize.SL.Sem

theorem ref_u_eq (m : (ℓ : Loc Cert.Kernel5Ideal.nD Cert.Kernel5Ideal.τ Cert.Kernel5Ideal.sig) → Buf (Elt Ideal) ℓ) (c : Dev Cert.Kernel5Ideal.nD) :
    ref_u (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_u m c := by
  funext y
  obtain ⟨a, b, rfl⟩ : ∃ a b, y = ix2 a b := ⟨_, _, eq_ix2 y⟩
  exact ref_u_apply _ _ a b

theorem ref_q_eq (m : (ℓ : Loc Cert.Kernel5Ideal.nD Cert.Kernel5Ideal.τ Cert.Kernel5Ideal.sig) → Buf (Elt Ideal) ℓ) (c : Dev Cert.Kernel5Ideal.nD) :
    ref_q (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_q m c := by
  funext y
  obtain ⟨a, b, rfl⟩ : ∃ a b, y = ix2 a b := ⟨_, _, eq_ix2 y⟩
  exact ref_q_apply _ _ a b

theorem ref_k_eq (m : (ℓ : Loc Cert.Kernel5Ideal.nD Cert.Kernel5Ideal.τ Cert.Kernel5Ideal.sig) → Buf (Elt Ideal) ℓ) (c : Dev Cert.Kernel5Ideal.nD) :
    ref_k (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_k m c := by
  funext y
  obtain ⟨a, b, rfl⟩ : ∃ a b, y = ix2 a b := ⟨_, _, eq_ix2 y⟩
  exact ref_k_apply _ _ a b

theorem ref_v_eq (m : (ℓ : Loc Cert.Kernel5Ideal.nD Cert.Kernel5Ideal.τ Cert.Kernel5Ideal.sig) → Buf (Elt Ideal) ℓ) (c : Dev Cert.Kernel5Ideal.nD) :
    ref_v (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_v m c := by
  funext y
  obtain ⟨a, b, rfl⟩ : ∃ a b, y = ix2 a b := ⟨_, _, eq_ix2 y⟩
  exact ref_v_apply _ _ a b

theorem ref_qi_eq (m : (ℓ : Loc Cert.Kernel5Ideal.nD Cert.Kernel5Ideal.τ Cert.Kernel5Ideal.sig) → Buf (Elt Ideal) ℓ) (c : Dev Cert.Kernel5Ideal.nD) :
    ref_qi (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_qi m c := by
  funext y
  obtain ⟨a, b, rfl⟩ : ∃ a b, y = ix2 a b := ⟨_, _, eq_ix2 y⟩
  exact ref_qi_apply _ _ a b

theorem ref_ki_eq (m : (ℓ : Loc Cert.Kernel5Ideal.nD Cert.Kernel5Ideal.τ Cert.Kernel5Ideal.sig) → Buf (Elt Ideal) ℓ) (c : Dev Cert.Kernel5Ideal.nD) :
    ref_ki (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_ki m c := by
  funext y
  obtain ⟨a, b, rfl⟩ : ∃ a b, y = ix2 a b := ⟨_, _, eq_ix2 y⟩
  exact ref_ki_apply _ _ a b

theorem ref_wi_eq (m : (ℓ : Loc Cert.Kernel5Ideal.nD Cert.Kernel5Ideal.τ Cert.Kernel5Ideal.sig) → Buf (Elt Ideal) ℓ) (c : Dev Cert.Kernel5Ideal.nD) :
    ref_wi (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_wi m c := by
  funext y
  obtain ⟨a, b, rfl⟩ : ∃ a b, y = ix2 a b := ⟨_, _, eq_ix2 y⟩
  exact ref_wi_apply _ _ a b

theorem ref_ga_eq (m : (ℓ : Loc Cert.Kernel5Ideal.nD Cert.Kernel5Ideal.τ Cert.Kernel5Ideal.sig) → Buf (Elt Ideal) ℓ) (c : Dev Cert.Kernel5Ideal.nD) :
    ref_ga (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_ga m c := by
  funext y
  obtain ⟨a, b, rfl⟩ : ∃ a b, y = ix2 a b := ⟨_, _, eq_ix2 y⟩
  exact ref_ga_apply _ _ a b

theorem ref_gb_eq (m : (ℓ : Loc Cert.Kernel5Ideal.nD Cert.Kernel5Ideal.τ Cert.Kernel5Ideal.sig) → Buf (Elt Ideal) ℓ) (c : Dev Cert.Kernel5Ideal.nD) :
    ref_gb (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)) = out_gb m c := by
  funext y
  obtain ⟨a, b, rfl⟩ : ∃ a b, y = ix2 a b := ⟨_, _, eq_ix2 y⟩
  exact ref_gb_apply _ _ a b

theorem algebraic : Cert.algebraic_Kernel5Ideal_Reference5Ideal := by
  intro m g m' g' _ hargs
  refine ⟨out_u m, out_q m, out_k m, out_v m, out_qi m, out_ki m, out_wi m, out_ga m, out_gb m,
    (θ_run (Cert.Kernel5Ideal.defs (F := Ideal)) _ _).mono (fun r h c => ?_)
      (Cert.Kernel5Ideal.Value.run_blocks (F := Ideal) m g),
    (θ_run (Cert.Reference5Ideal.defs (F := Ideal)) _ _).mono (fun r h c => ?_)
      (Cert.Reference5Ideal.Value.run (F := Ideal) m' g')⟩
  · obtain ⟨h0, h1, h2, h3, h4, h5, h6, h7, h8, hk⟩ := h c
    exact ⟨h0.trans (value_u m c), h1.trans (value_q m c), h2.trans (value_k m c), h3.trans (value_v m c), h4.trans (value_qi m c), h5.trans (value_ki m c), h6.trans (value_wi m c), h7.trans (value_ga m c), h8.trans (value_gb m c), hk⟩
  · obtain ⟨h0, h1, h2, h3, h4, h5, h6, h7, h8, hk⟩ := h c
    obtain ⟨e0, e1⟩ := hargs c
    rw [e0, e1] at h0 h1 h2 h3 h4 h5 h6 h7 h8
    exact ⟨h0.trans (ref_u_eq m c), h1.trans (ref_q_eq m c), h2.trans (ref_k_eq m c), h3.trans (ref_v_eq m c), h4.trans (ref_qi_eq m c), h5.trans (ref_ki_eq m c), h6.trans (ref_wi_eq m c), h7.trans (ref_ga_eq m c), h8.trans (ref_gb_eq m c), hk⟩

end Cert.Proof.InProj.Sample

end
-- ==== Proof.Ffn.Sample.Payloads.lean ====
/-
  What the feed-forward kernel's block and the reference's array hold at one row and column.
-/
module

public import proofs.«01_k».proof.Proof.Gen.Kernel6Ideal.Value
public import proofs.«01_k».proof.Proof.Gen.Reference6Ideal.Run
public import proofs.«01_k».proof.Proof.Ffn.Rows

@[expose] public section

set_option maxRecDepth 16384

noncomputable section

namespace Cert.Proof.Ffn.Sample

open Idealize.ShloMosaic Idealize.ShloMosaic.TcCoe Idealize.SL.Sem

section Kernel
open Cert.Kernel6Ideal Cert.Kernel6Ideal.Gen

theorem start_apply (v0 : Vec Ideal S128x1024 .f32) (r : Fin 128) (k : Fin 1024) :
    k0_pay4 v0 (ix2 r k) = Ideal.ofBits .f32 0x3F9837F0#32 * v0 (ix2 r k) := by
  pointwise [k0_pay4]

theorem step0_apply (v0 : Vec Ideal S128x1024 .f32) (g u : Vec Ideal S1024x256 .bf16) (a : Vec Ideal S128x1024 .f32) (o : Vec Ideal S256x1024 .bf16) (r : Fin 128) (k : Fin 1024) :
    k0_pay5 v0 g u a o (ix2 r k) = a (ix2 r k) + ∑ j : Fin 256, hid (fun i => v0 (ix2 r i)) (fun i => g (ix2 i j)) (fun i => u (ix2 i j)) * o (ix2 j k) := by
  pointwise [k0_pay5, k0_pay3, hid]

theorem step1_apply (v0 : Vec Ideal S128x1024 .f32) (g u : Vec Ideal S1024x256 .bf16) (a : Vec Ideal S128x1024 .f32) (o : Vec Ideal S256x1024 .bf16) (r : Fin 128) (k : Fin 1024) :
    k0_pay8 (k0_pay6 v0 u) (k0_pay7 v0 g) a o (ix2 r k) = a (ix2 r k) + ∑ j : Fin 256, hid (fun i => v0 (ix2 r i)) (fun i => g (ix2 i j)) (fun i => u (ix2 i j)) * o (ix2 j k) := by
  pointwise [k0_pay8, k0_pay6, k0_pay7, k0_pay3, hid]

theorem step2_apply (v0 : Vec Ideal S128x1024 .f32) (g u : Vec Ideal S1024x256 .bf16) (a : Vec Ideal S128x1024 .f32) (o : Vec Ideal S256x1024 .bf16) (r : Fin 128) (k : Fin 1024) :
    k0_pay9 (k0_pay3 v0) g u a o (ix2 r k) = a (ix2 r k) + ∑ j : Fin 256, hid (fun i => v0 (ix2 r i)) (fun i => g (ix2 i j)) (fun i => u (ix2 i j)) * o (ix2 j k) := by
  pointwise [k0_pay9, k0_pay3, hid]

theorem step3_apply (v0 : Vec Ideal S128x1024 .f32) (g u : Vec Ideal S1024x256 .bf16) (a : Vec Ideal S128x1024 .f32) (o : Vec Ideal S256x1024 .bf16) (r : Fin 128) (k : Fin 1024) :
    k0_pay12 (k0_pay3 v0) (k0_pay10 (k0_pay3 v0) g) (k0_pay11 u) a o (ix2 r k) = a (ix2 r k) + ∑ j : Fin 256, hid (fun i => v0 (ix2 r i)) (fun i => g (ix2 i j)) (fun i => u (ix2 i j)) * o (ix2 j k) := by
  pointwise [k0_pay12, k0_pay10, k0_pay11, k0_pay3, hid]

theorem step4_apply (v0 : Vec Ideal S128x1024 .f32) (g u : Vec Ideal S1024x256 .bf16) (a : Vec Ideal S128x1024 .f32) (o : Vec Ideal S256x1024 .bf16) (r : Fin 128) (k : Fin 1024) :
    k0_pay13 (k0_pay3 v0) g u a o (ix2 r k) = a (ix2 r k) + ∑ j : Fin 256, hid (fun i => v0 (ix2 r i)) (fun i => g (ix2 i j)) (fun i => u (ix2 i j)) * o (ix2 j k) := by
  pointwise [k0_pay13, k0_pay3, hid]

theorem step5_apply (v0 : Vec Ideal S128x1024 .f32) (g u : Vec Ideal S1024x256 .bf16) (a : Vec Ideal S128x1024 .f32) (o : Vec Ideal S256x1024 .bf16) (r : Fin 128) (k : Fin 1024) :
    k0_pay15 (k0_pay3 v0) (k0_pay14 (k0_pay3 v0) g) u a o (ix2 r k) = a (ix2 r k) + ∑ j : Fin 256, hid (fun i => v0 (ix2 r i)) (fun i => g (ix2 i j)) (fun i => u (ix2 i j)) * o (ix2 j k) := by
  pointwise [k0_pay15, k0_pay14, k0_pay3, hid]

theorem step6_apply (v0 : Vec Ideal S128x1024 .f32) (g u : Vec Ideal S1024x256 .bf16) (a : Vec Ideal S128x1024 .f32) (o : Vec Ideal S256x1024 .bf16) (r : Fin 128) (k : Fin 1024) :
    k0_pay16 (k0_pay3 v0) g u a o (ix2 r k) = a (ix2 r k) + ∑ j : Fin 256, hid (fun i => v0 (ix2 r i)) (fun i => g (ix2 i j)) (fun i => u (ix2 i j)) * o (ix2 j k) := by
  pointwise [k0_pay16, k0_pay3, hid]

theorem step7_apply (v0 : Vec Ideal S128x1024 .f32) (g u : Vec Ideal S1024x256 .bf16) (a : Vec Ideal S128x1024 .f32) (o : Vec Ideal S256x1024 .bf16) (r : Fin 128) (k : Fin 1024) :
    k0_pay17 (k0_pay3 v0) g u a o (ix2 r k) = a (ix2 r k) + ∑ j : Fin 256, hid (fun i => v0 (ix2 r i)) (fun i => g (ix2 i j)) (fun i => u (ix2 i j)) * o (ix2 j k) := by
  pointwise [k0_pay17, k0_pay3, hid]

theorem step8_apply (v0 : Vec Ideal S128x1024 .f32) (g u : Vec Ideal S1024x256 .bf16) (a : Vec Ideal S128x1024 .f32) (o : Vec Ideal S256x1024 .bf16) (r : Fin 128) (k : Fin 1024) :
    k0_pay19 (k0_pay18 (k0_pay3 v0) g u a o) (ix2 r k) = a (ix2 r k) + ∑ j : Fin 256, hid (fun i => v0 (ix2 r i)) (fun i => g (ix2 i j)) (fun i => u (ix2 i j)) * o (ix2 j k) := by
  pointwise [k0_pay19, k0_pay18, k0_pay3, hid]

theorem step9_apply (v0 : Vec Ideal S128x1024 .f32) (g u : Vec Ideal S1024x256 .bf16) (a : Vec Ideal S128x1024 .f32) (o : Vec Ideal S256x1024 .bf16) (r : Fin 128) (k : Fin 1024) :
    k0_pay20 (k0_pay3 v0) g u a o (ix2 r k) = a (ix2 r k) + ∑ j : Fin 256, hid (fun i => v0 (ix2 r i)) (fun i => g (ix2 i j)) (fun i => u (ix2 i j)) * o (ix2 j k) := by
  pointwise [k0_pay20, k0_pay3, hid]

theorem step10_apply (v0 : Vec Ideal S128x1024 .f32) (g u : Vec Ideal S1024x256 .bf16) (a : Vec Ideal S128x1024 .f32) (o : Vec Ideal S256x1024 .bf16) (r : Fin 128) (k : Fin 1024) :
    k0_pay1 (k0_pay21 (k0_pay3 v0) g u a o) (ix2 r k) = a (ix2 r k) + ∑ j : Fin 256, hid (fun i => v0 (ix2 r i)) (fun i => g (ix2 i j)) (fun i => u (ix2 i j)) * o (ix2 j k) := by
  pointwise [k0_pay1, k0_pay21, k0_pay3, hid]

theorem pay2_apply (v : Vec Ideal S128x1024 .f32) (g b : Vec Ideal S1x1024 .f32) (r : Fin 128) (k : Fin 1024) :
    k0_pay2 v g b (ix2 r k) = norm (fun j => v (ix2 r j)) (g (ix2 0 k)) (b (ix2 0 k)) k := by
  pointwise [k0_pay2, norm, scaled, centred]

end Kernel

end Cert.Proof.Ffn.Sample

end
-- ==== Proof.Ffn.Sample.Kernel.lean ====
/-
  The array the feed-forward kernel's pipeline leaves: block by block the formula of `Ffn/Rows`.
-/
module

public import Idealize.ShloMosaic.Lib.Pipeline.ReadBack
public import proofs.«01_k».proof.Proof.Ffn.Sample.Payloads

@[expose] public section

set_option maxRecDepth 16384

noncomputable section

namespace Cert.Proof.Ffn.Sample

open Idealize.ShloMosaic Idealize.ShloMosaic.TcCoe Idealize.SL.Sem
open Cert.Kernel6Ideal Cert.Kernel6Ideal.Gen

variable (m : (ℓ : Loc nD τ sig) → Buf (Elt Ideal) ℓ)

/-- The kernel's result as a formula of its arguments. -/
def kernelOut (c : Dev nD) : FVec Ideal S128x1024 .f32 := fun y =>
  norm (row (fun j => (m ((c.tc : Thread nD τ).loc main_arg0) : FVec Ideal S128x1024 .f32) (ix2 (y 0) j))
      (fun i j => (m ((c.tc : Thread nD τ).loc main_arg1) : FVec Ideal S1x1024x5632 .f32) (ix3 0 i (left j)))
      (fun i j => (m ((c.tc : Thread nD τ).loc main_arg1) : FVec Ideal S1x1024x5632 .f32) (ix3 0 i (right j)))
      (fun i j => (m ((c.tc : Thread nD τ).loc main_arg2) : FVec Ideal S1x2816x1024 .f32) (ix3 0 i j)))
    ((m ((c.tc : Thread nD τ).loc main_arg3) : FVec Ideal S1x1024 .f32) (ix2 0 (y 1))) ((m ((c.tc : Thread nD τ).loc main_arg4) : FVec Ideal S1x1024 .f32) (ix2 0 (y 1))) (y 1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- The array's row behind row `r` of the block at `t`. -/
def line (t : Fin cfg0.N) (r : Fin 128) : Fin 128 :=
  ⟨128 * t.val + r.val, by have := t.isLt; have := r.isLt; have h : cfg0.N = 1 := rfl; omega⟩

theorem read0 (c : Dev nD) (t : Fin cfg0.N) (r : Fin 128) (j : Fin 1024) :
    iblk m c 0 t (ix2 r j) = (m ((c.tc : Thread nD τ).loc main_arg0) : FVec Ideal S128x1024 .f32) (ix2 (line t r) j) := by
  blk_ext! [iblk, V, idx0 t, line]

theorem read1 (c : Dev nD) (t : Fin cfg0.N) (i : Fin 1024) (j : Fin 2816) :
    iblk m c 1 t (ix2 i j) = (m ((c.tc : Thread nD τ).loc main_arg1) : FVec Ideal S1x1024x5632 .f32) (ix3 0 i (left j)) := by
  blk_ext! [iblk, V, idx1 t, left]

theorem read2 (c : Dev nD) (t : Fin cfg0.N) (i : Fin 1024) (j : Fin 2816) :
    iblk m c 2 t (ix2 i j) = (m ((c.tc : Thread nD τ).loc main_arg1) : FVec Ideal S1x1024x5632 .f32) (ix3 0 i (right j)) := by
  blk_ext! [iblk, V, idx2 t, right]

theorem read3 (c : Dev nD) (t : Fin cfg0.N) (i : Fin 2816) (j : Fin 1024) :
    iblk m c 3 t (ix2 i j) = (m ((c.tc : Thread nD τ).loc main_arg2) : FVec Ideal S1x2816x1024 .f32) (ix3 0 i j) := by
  blk_ext! [iblk, V, idx3 t]

theorem read4 (c : Dev nD) (t : Fin cfg0.N) (j : Fin 1024) :
    iblk m c 4 t (ix2 0 j) = (m ((c.tc : Thread nD τ).loc main_arg3) : FVec Ideal S1x1024 .f32) (ix2 0 j) := by
  blk_ext! [iblk, V, idx4 t]

theorem read5 (c : Dev nD) (t : Fin cfg0.N) (j : Fin 1024) :
    iblk m c 5 t (ix2 0 j) = (m ((c.tc : Thread nD τ).loc main_arg4) : FVec Ideal S1x1024 .f32) (ix2 0 j) := by
  blk_ext! [iblk, V, idx5 t]

theorem place (t : Fin cfg0.N) (r : Fin 128) (k : Fin 1024) : ((View.whole main_v12).slice (win0_6.rect t)).emb (ix2 r k) = ix2 (line t r) k := by
  blk_ext! [idx6 t, line]

/-- A load of 256 columns of the gate's weights, at an entry. -/
theorem load1 (c : Dev nD) (t : Fin cfg0.N) (a : ℕ) (h : ∀ k, (![0, a] : Fin 2 → ℕ) k + (![1024, 256] : Fin 2 → ℕ) k ≤ S1024x2816.size k)
    (i : Fin 1024) (j : Fin 256) :
    View.ld (S := S1024x2816) (iblk m c 1 t) (Rect.unit ![0, a] ![1024, 256] h) (ix2 i j)
      = (m ((c.tc : Thread nD τ).loc main_arg1) : FVec Ideal S1x1024x5632 .f32) (ix3 0 i (left ⟨a + j.val, by have h1 : a + 256 ≤ 2816 := h 1; have := j.isLt; omega⟩)) :=
  (View.ld_unit_apply_of _ _ _ h _ (ix2 i ⟨a + j.val, by have h1 : a + 256 ≤ 2816 := h 1; have := j.isLt; omega⟩)
    fun k => by fin_cases k <;> simp).trans (read1 m c t i _)

/-- A load of 256 columns of the up-projection's weights, at an entry. -/
theorem load2 (c : Dev nD) (t : Fin cfg0.N) (a : ℕ) (h : ∀ k, (![0, a] : Fin 2 → ℕ) k + (![1024, 256] : Fin 2 → ℕ) k ≤ S1024x2816.size k)
    (i : Fin 1024) (j : Fin 256) :
    View.ld (S := S1024x2816) (iblk m c 2 t) (Rect.unit ![0, a] ![1024, 256] h) (ix2 i j)
      = (m ((c.tc : Thread nD τ).loc main_arg1) : FVec Ideal S1x1024x5632 .f32) (ix3 0 i (right ⟨a + j.val, by have h1 : a + 256 ≤ 2816 := h 1; have := j.isLt; omega⟩)) :=
  (View.ld_unit_apply_of _ _ _ h _ (ix2 i ⟨a + j.val, by have h1 : a + 256 ≤ 2816 := h 1; have := j.isLt; omega⟩)
    fun k => by fin_cases k <;> simp).trans (read2 m c t i _)

/-- A load of 256 rows of the output weights, at an entry. -/
theorem load3 (c : Dev nD) (t : Fin cfg0.N) (a : ℕ) (h : ∀ k, (![a, 0] : Fin 2 → ℕ) k + (![256, 1024] : Fin 2 → ℕ) k ≤ S2816x1024.size k)
    (j : Fin 256) (k : Fin 1024) :
    View.ld (S := S2816x1024) (iblk m c 3 t) (Rect.unit ![a, 0] ![256, 1024] h) (ix2 j k)
      = (m ((c.tc : Thread nD τ).loc main_arg2) : FVec Ideal S1x2816x1024 .f32) (ix3 0 ⟨a + j.val, by have h0 : a + 256 ≤ 2816 := h 0; have := j.isLt; omega⟩ k) :=
  (View.ld_unit_apply_of _ _ _ h _ (ix2 ⟨a + j.val, by have h0 : a + 256 ≤ 2816 := h 0; have := j.isLt; omega⟩ k)
    fun k => by fin_cases k <;> simp).trans (read3 m c t _ k)

theorem value (c : Dev nD) : (dats m 0 c).arrAt 6 cfg0.N = kernelOut m c := by
  refine (dats m 0 c).arrAt_eq_of_covers 6 (kernelOut m c) (by decide +kernel) fun t hf y => ?_
  blk_simp
  rw [after0_6]
  unfold outsAt0
  frame_open
  simp (disch := decide) only [↓ View.readCov_skip, ↓ View.readCov_cons_toLoadRect, ↓ View.readCov_fill]
  frame_out
  idx_vars y
  rw [pay2_apply, place]
  simp only [step10_apply, step9_apply, step8_apply, step7_apply, step6_apply, step5_apply, step4_apply, step3_apply,
    step2_apply, step1_apply, step0_apply, start_apply, load1, load2, load3, read0, read4, read5]
  refine congrArg (fun f => norm f _ _ _) (funext fun k => ?_)
  exact row_eq_chunks (fun j => (m ((c.tc : Thread nD τ).loc main_arg0) : FVec Ideal S128x1024 .f32) (ix2 (line t y0) j))
    (fun i j => (m ((c.tc : Thread nD τ).loc main_arg1) : FVec Ideal S1x1024x5632 .f32) (ix3 0 i (left j)))
    (fun i j => (m ((c.tc : Thread nD τ).loc main_arg1) : FVec Ideal S1x1024x5632 .f32) (ix3 0 i (right j)))
    (fun i j => (m ((c.tc : Thread nD τ).loc main_arg2) : FVec Ideal S1x2816x1024 .f32) (ix3 0 i j)) k

end Cert.Proof.Ffn.Sample

end
-- ==== Proof.Ffn.Sample.Reference.lean ====
/-
  What the feed-forward reference's array holds at one row and column.
-/
module

public import proofs.«01_k».proof.Proof.Gen.Reference6Ideal.Run
public import proofs.«01_k».proof.Proof.Ffn.Rows

@[expose] public section

set_option maxRecDepth 16384

noncomputable section

namespace Cert.Proof.Ffn.Sample

open Idealize.ShloMosaic Idealize.ShloMosaic.TcCoe Idealize.SL.Sem
open Cert.Reference6Ideal Cert.Reference6Ideal.Gen Cert.Reference6Ideal.Facts

variable [Cert.Reference6Ideal.Facts]

/-- The reference's array before the norm. -/
def pre (x : FVec Ideal S128x1024 .f32) (w : FVec Ideal S1x1024x5632 .f32) (wd : FVec Ideal S1x2816x1024 .f32) : FVec Ideal S128x1024 .f32 :=
  addf (mulf (broadcastInDim S128x1024 ![] bcast_S_S128x1024 (constant S_ .f32 0x3F9837F0#32)) x) (Host.dotGeneral dot_S128x2816_S2816x1024_S128x1024_1_0_0_1_n_n none (mulf (mulf (extractStridedSlice S128x2816 ![0, 0] (Host.dotGeneral dot_S128x1024_S1024x5632_S128x5632_1_0_0_1_n_n none x (shapeCast _ w shapeCasts_S1x1024x5632_S1024x5632)) slices_S128x5632_S128x2816_0_0) (Host.divf (broadcastInDim S128x2816 ![] bcast_S_S128x2816 (constant S_ .f32 0x3F800000#32)) (addf (broadcastInDim S128x2816 ![] bcast_S_S128x2816 (constant S_ .f32 0x3F800000#32)) (Host.exp (Host.negf (extractStridedSlice S128x2816 ![0, 0] (Host.dotGeneral dot_S128x1024_S1024x5632_S128x5632_1_0_0_1_n_n none x (shapeCast _ w shapeCasts_S1x1024x5632_S1024x5632)) slices_S128x5632_S128x2816_0_0)))))) (extractStridedSlice S128x2816 ![0, 2816] (Host.dotGeneral dot_S128x1024_S1024x5632_S128x5632_1_0_0_1_n_n none x (shapeCast _ w shapeCasts_S1x1024x5632_S1024x5632)) slices_S128x5632_S128x2816_0_2816)) (shapeCast _ wd shapeCasts_S1x2816x1024_S2816x1024))

/-- The reference's rows less their means. -/
def less (h : FVec Ideal S128x1024 .f32) : FVec Ideal S128x1024 .f32 :=
  subf h (broadcastInDim S128x1024 ![0, 1] bcast_S128x1_S128x1024_0_1 (Host.divf (broadcastInDim S128x1 ![0] bcast_S128_S128x1_0 (Host.reduceAdd h (constant S_ .f32 0x00000000#32) reducesTo_S128x1024_S128_d1 h_S_)) (broadcastInDim S128x1 ![] bcast_S_S128x1 (constant S_ .f32 0x44800000#32))))

/-- The reference's norm of rows already less their means. -/
def unit (d : FVec Ideal S128x1024 .f32) (g b : FVec Ideal S1x1024 .f32) : FVec Ideal S128x1024 .f32 :=
  addf (mulf (mulf d (broadcastInDim S128x1024 ![0, 1] bcast_S128x1_S128x1024_0_1 (Host.rsqrt (addf (Host.divf (broadcastInDim S128x1 ![0] bcast_S128_S128x1_0 (Host.reduceAdd (mulf d d) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x3727C5AC#32)))))) (broadcastInDim S128x1024 ![0, 1] bcast_S1x1024_S128x1024_0_1 (broadcastInDim S1x1024 ![1] bcast_S1024_S1x1024_1 (shapeCast _ g shapeCasts_S1x1024_S1024)))) (broadcastInDim S128x1024 ![0, 1] bcast_S1x1024_S128x1024_0_1 (broadcastInDim S1x1024 ![1] bcast_S1024_S1x1024_1 (shapeCast _ b shapeCasts_S1x1024_S1024)))

theorem pre_apply (x : FVec Ideal S128x1024 .f32) (w : FVec Ideal S1x1024x5632 .f32) (wd : FVec Ideal S1x2816x1024 .f32) (r : Fin 128) (k : Fin 1024) :
    pre x w wd (ix2 r k)
      = row (fun j => x (ix2 r j)) (fun i j => w (ix3 0 i (left j))) (fun i j => w (ix3 0 i (right j))) (fun i j => wd (ix3 0 i j)) k := by
  pointwise [pre, row, hid, left, right, Ideal.logistic, Ideal.ofBits_one_f32]

theorem less_apply (h : FVec Ideal S128x1024 .f32) (r : Fin 128) (k : Fin 1024) :
    less h (ix2 r k) = centred (fun j => h (ix2 r j)) k := by
  pointwise [less, centred]

theorem unit_apply (d : FVec Ideal S128x1024 .f32) (g b : FVec Ideal S1x1024 .f32) (r : Fin 128) (k : Fin 1024) :
    unit d g b (ix2 r k) = scaled (fun j => d (ix2 r j)) (g (ix2 0 k)) (b (ix2 0 k)) k := by
  pointwise [unit, scaled]

theorem res_eq (m : (ℓ : Loc nD τ sig) → Buf (Elt Ideal) ℓ) (c : Dev nD) :
    Cert.Reference6Ideal.Value.res_out0 m c = unit (less (pre (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl

/-- The reference's array is the formula. -/
theorem unit_less_pre (x : FVec Ideal S128x1024 .f32) (w : FVec Ideal S1x1024x5632 .f32) (wd : FVec Ideal S1x2816x1024 .f32)
    (g b : FVec Ideal S1x1024 .f32) (r : Fin 128) (k : Fin 1024) :
    unit (less (pre x w wd)) g b (ix2 r k)
      = norm (row (fun j => x (ix2 r j)) (fun i j => w (ix3 0 i (left j))) (fun i j => w (ix3 0 i (right j))) (fun i j => wd (ix3 0 i j)))
          (g (ix2 0 k)) (b (ix2 0 k)) k := by
  rw [unit_apply]
  simp only [less_apply, pre_apply]
  rfl

end Cert.Proof.Ffn.Sample

end
-- ==== Proof.Ffn.Sample.Claim.lean ====
/-
  The feed-forward block: kernel and reference end with the same array.
-/
module

public import proofs.«01_k».proof.Defs
public import proofs.«01_k».proof.Proof.Ffn.Sample.Kernel
public import proofs.«01_k».proof.Proof.Ffn.Sample.Reference

@[expose] public section

set_option maxRecDepth 16384

noncomputable section

namespace Cert.Proof.Ffn.Sample

open Idealize.ShloMosaic Idealize.ShloMosaic.TcCoe Idealize.SL.Sem

theorem algebraic : Cert.algebraic_Kernel6Ideal_Reference6Ideal := by
  intro m g m' g' _ hargs
  refine ⟨kernelOut m, (θ_run (Cert.Kernel6Ideal.defs (F := Ideal)) _ _).mono (fun r h c => ?_)
      (Cert.Kernel6Ideal.Value.run_blocks (F := Ideal) m g),
    (θ_run (Cert.Reference6Ideal.defs (F := Ideal)) _ _).mono (fun r h c => ?_)
      (Cert.Reference6Ideal.Value.run (F := Ideal) m' g')⟩
  · obtain ⟨hv, hk⟩ := h c
    exact ⟨hv.trans (value m c), hk⟩
  · obtain ⟨hv, hk⟩ := h c
    refine ⟨hv.trans ?_, hk⟩
    obtain ⟨h0, h1, h2, h3, h4⟩ := hargs c
    refine (res_eq m' c).trans ?_
    rw [h0, h1, h2, h3, h4]
    funext y
    obtain ⟨a, b, rfl⟩ : ∃ a b, y = ix2 a b := ⟨_, _, eq_ix2 y⟩
    exact unit_less_pre _ _ _ _ _ a b

end Cert.Proof.Ffn.Sample

end
-- ==== Proof.Ssm.Formula.lean ====
/-
  The state space layer's formulas: how one mode of a group turns its state, what it takes in, and what a group gives out.
-/
module

public import Idealize.ShloMosaic.Lib.Pipeline.ValueKit
public import Idealize.ShloMosaic.Lib.Pointwise
public import Idealize.ShloMosaic.Lib.IdealHost

@[expose] public section

noncomputable section

namespace Cert.Proof.Ssm

open Idealize.ShloMosaic

/-- The real part of a mode's factor over one step: `exp (step * a)`. -/
def rotRe (dt ar ai : EReal) : EReal := Ideal.exp (Ideal.exp dt * ar) * Ideal.cos (Ideal.exp dt * ai)

/-- The imaginary part of the factor. -/
def rotIm (dt ar ai : EReal) : EReal := Ideal.exp (Ideal.exp dt * ar) * Ideal.sin (Ideal.exp dt * ai)

/-- The real part of `(factor - 1) / a`. -/
def gainRe (dt ar ai : EReal) : EReal :=
  Ideal.div ((rotRe dt ar ai - 1) * ar + rotIm dt ar ai * ai) (ar * ar + ai * ai)

/-- The imaginary part of `(factor - 1) / a`. -/
def gainIm (dt ar ai : EReal) : EReal :=
  Ideal.div (rotIm dt ar ai * ar - (rotRe dt ar ai - 1) * ai) (ar * ar + ai * ai)

/-- The real part of the gain times an input weight. -/
def inRe (dt ar ai br bi : EReal) : EReal := gainRe dt ar ai * br - gainIm dt ar ai * bi

/-- The imaginary part of the gain times an input weight. -/
def inIm (dt ar ai br bi : EReal) : EReal := gainRe dt ar ai * bi + gainIm dt ar ai * br

/-- The group of mode `j`. -/
def grp (j : Fin 2048) : Fin 32 := ⟨j.val / 64, by omega⟩

/-- The place of mode `j` in its group. -/
def place (j : Fin 2048) : Fin 64 := ⟨j.val % 64, by omega⟩

/-- The group of channel `i`. -/
def cgrp (i : Fin 512) : Fin 32 := ⟨i.val / 16, by omega⟩

/-- The place of channel `i` in its group. -/
def cplace (i : Fin 512) : Fin 16 := ⟨i.val % 16, by omega⟩

/-- Channel `i` of group `g`. -/
def chan (g : Fin 32) (i : Fin 16) : Fin 512 := ⟨g.val * 16 + i.val, by omega⟩

/-- Mode `p` of group `g`. -/
def mode (g : Fin 32) (p : Fin 64) : Fin 2048 := ⟨g.val * 64 + p.val, by omega⟩

/-- One where two groups are the same, zero elsewhere. -/
def same (g h : Fin 32) : EReal := if g = h then 1 else 0

/-- The smooth gate `x (1 + tanh (c (x + d x³))) / 2`. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The real part of a mode's next state. -/
def nextRe (dt ar ai sr si : EReal) (br bi u : Fin 16 → EReal) : EReal :=
  rotRe dt ar ai * sr - rotIm dt ar ai * si + ∑ h, inRe dt ar ai (br h) (bi h) * u h

/-- The imaginary part of a mode's next state. -/
def nextIm (dt ar ai sr si : EReal) (br bi u : Fin 16 → EReal) : EReal :=
  rotRe dt ar ai * si + rotIm dt ar ai * sr + ∑ h, inIm dt ar ai (br h) (bi h) * u h

/-- What a channel reads of its group's state, and its own input's share. -/
def readout (cr ci hr hi : Fin 64 → EReal) (d u : EReal) : EReal := ∑ p, cr p * hr p + ∑ p, ci p * -hi p + d * u

/-- The gated output of channel `i` from the row of all channels. -/
def gated (y : Fin 512 → EReal) (w : Fin 512 → Fin 512 → EReal) (i : Fin 512) : EReal :=
  gelu (y i) * Ideal.logistic (∑ k, gelu (y k) * w k i)

theorem sum_groups (n : ℕ) (e : Fin 32 → Fin n → Fin (32 * n)) (he : ∀ g h, (e g h).val = g.val * n + h.val) (f : Fin (32 * n) → EReal) :
    ∑ i, f i = ∑ g, ∑ h, f (e g h) := by
  rw [← finProdFinEquiv.sum_comp, Fintype.sum_prod_type]
  refine Finset.sum_congr rfl fun g _ => Finset.sum_congr rfl fun h _ => congrArg f (Fin.ext ?_)
  rw [he]
  simp [finProdFinEquiv, add_comm, mul_comm]

theorem cgrp_chan (g : Fin 32) (h : Fin 16) : cgrp (chan g h) = g := Fin.ext (by simp only [cgrp, chan]; omega)
theorem cplace_chan (g : Fin 32) (h : Fin 16) : cplace (chan g h) = h := Fin.ext (by simp only [cplace, chan]; omega)
theorem grp_mode (g : Fin 32) (p : Fin 64) : grp (mode g p) = g := Fin.ext (by simp only [grp, mode]; omega)
theorem place_mode (g : Fin 32) (p : Fin 64) : place (mode g p) = p := Fin.ext (by simp only [place, mode]; omega)

theorem sum_same (g : Fin 32) (f : Fin 32 → EReal) : ∑ k, f k * same k g = f g := by
  simp [same]

/-- A sum over all channels of which only one group's count. -/
theorem sum_chan (g : Fin 32) (f : Fin 512 → EReal) : ∑ i, f i * same (cgrp i) g = ∑ h, f (chan g h) := by
  rw [sum_groups 16 chan (fun _ _ => rfl) fun i => f i * same (cgrp i) g, Finset.sum_comm]
  refine Finset.sum_congr rfl fun h _ => ?_
  simp only [cgrp_chan]
  exact sum_same g fun k => f (chan k h)

/-- A sum over all modes of which only one group's count. -/
theorem sum_mode (g : Fin 32) (f : Fin 2048 → EReal) : ∑ j, f j * same (grp j) g = ∑ p, f (mode g p) := by
  rw [sum_groups 64 mode (fun _ _ => rfl) fun j => f j * same (grp j) g, Finset.sum_comm]
  refine Finset.sum_congr rfl fun p _ => ?_
  simp only [grp_mode]
  exact sum_same g fun k => f (mode k p)

/-- A sum over two halves. -/
theorem sum_halves (f : Fin 4096 → EReal) :
    ∑ k, f k = ∑ j : Fin 2048, f ⟨j.val, by omega⟩ + ∑ j : Fin 2048, f ⟨2048 + j.val, by omega⟩ :=
  Fin.sum_univ_add (a := 2048) (b := 2048) f

/-- The comparison of two group numbers, as a number. -/
theorem eye (a b : ℕ) (ha : a < 32) (hb : b < 32) :
    (FloatOps.uitofp (F := Ideal) FTy.f32 (IntOp.cmpi CmpIPredicate.eq (IntOp.addi (BitVec.ofNat 32 a) 0#32) (BitVec.ofNat 32 b)) : EReal)
      = same ⟨a, ha⟩ ⟨b, hb⟩ := by
  have hz : IntOp.addi (BitVec.ofNat 32 a) 0#32 = BitVec.ofNat 32 a := BitVec.add_zero _
  rw [hz]
  show (((BitVec.ofBool (BitVec.ofNat 32 a == BitVec.ofNat 32 b)).toNat : ℝ) : EReal) = _
  by_cases h : a = b
  · subst h
    simp [same]
  · have hn : BitVec.ofNat 32 a ≠ BitVec.ofNat 32 b := fun e => h (by
      have := congrArg BitVec.toNat e
      simp only [BitVec.toNat_ofNat] at this
      omega)
    have hb : (BitVec.ofNat 32 a == BitVec.ofNat 32 b) = false := by simpa using hn
    rw [hb]
    simp [same, h]

end Cert.Proof.Ssm

end
-- ==== Proof.Ssm.Sample.Blocks.lean ====
/-
  The arrays the kernel body reads, entry by entry: the states, and the layer's weights as the host laid them out.
-/
module

public import proofs.«01_k».proof.Proof.Gen.Kernel7Ideal.Value
public import proofs.«01_k».proof.Proof.Ssm.Formula
public import Idealize.ShloMosaic.Lib.StableHlo.ReadAt
public import Idealize.ShloMosaic.Lib.Pipeline.ReadBack

@[expose] public section

set_option maxRecDepth 16384

noncomputable section

namespace Cert.Proof.Ssm.Sample

open Idealize.ShloMosaic Idealize.ShloMosaic.TcCoe Idealize.SL.Sem
open Cert.Kernel7Ideal Cert.Kernel7Ideal.Gen

variable (m : (ℓ : Loc nD τ sig) → Buf (Elt Ideal) ℓ)

/-- The inputs: one row each, one column a channel. -/
def u (c : Dev nD) (r : Fin 128) (i : Fin 512) : EReal :=
  (m ((c.tc : Thread nD τ).loc main_arg0) : FVec Ideal S128x512 .f32) (ix2 r i)

/-- The states, real parts. -/
def sre (c : Dev nD) (r : Fin 128) (g : Fin 32) (p : Fin 64) : EReal :=
  (m ((c.tc : Thread nD τ).loc main_arg1) : FVec Ideal S1x128x32x64 .f32) (ix4 0 r g p)

/-- The states, imaginary parts. -/
def sim (c : Dev nD) (r : Fin 128) (g : Fin 32) (p : Fin 64) : EReal :=
  (m ((c.tc : Thread nD τ).loc main_arg2) : FVec Ideal S1x128x32x64 .f32) (ix4 0 r g p)

/-- The rates, real parts. -/
def are (c : Dev nD) (g : Fin 32) (p : Fin 64) : EReal :=
  (m ((c.tc : Thread nD τ).loc main_arg3) : FVec Ideal S1x32x64 .f32) (ix3 0 g p)

/-- The rates, imaginary parts. -/
def aim (c : Dev nD) (g : Fin 32) (p : Fin 64) : EReal :=
  (m ((c.tc : Thread nD τ).loc main_arg4) : FVec Ideal S1x32x64 .f32) (ix3 0 g p)

/-- The logarithms of the steps. -/
def dt (c : Dev nD) (g : Fin 32) : EReal :=
  (m ((c.tc : Thread nD τ).loc main_arg5) : FVec Ideal S1x32 .f32) (ix2 0 g)

/-- The input weights, real parts. -/
def bre (c : Dev nD) (g : Fin 32) (p : Fin 64) (h : Fin 16) : EReal :=
  (m ((c.tc : Thread nD τ).loc main_arg6) : FVec Ideal S1x32x64x16 .f32) (ix4 0 g p h)

/-- The input weights, imaginary parts. -/
def bim (c : Dev nD) (g : Fin 32) (p : Fin 64) (h : Fin 16) : EReal :=
  (m ((c.tc : Thread nD τ).loc main_arg7) : FVec Ideal S1x32x64x16 .f32) (ix4 0 g p h)

/-- The output weights, real parts. -/
def cre (c : Dev nD) (g : Fin 32) (h : Fin 16) (p : Fin 64) : EReal :=
  (m ((c.tc : Thread nD τ).loc main_arg8) : FVec Ideal S1x32x16x64 .f32) (ix4 0 g h p)

/-- The output weights, imaginary parts. -/
def cim (c : Dev nD) (g : Fin 32) (h : Fin 16) (p : Fin 64) : EReal :=
  (m ((c.tc : Thread nD τ).loc main_arg9) : FVec Ideal S1x32x16x64 .f32) (ix4 0 g h p)

/-- The inputs' own weights. -/
def dd (c : Dev nD) (g : Fin 32) (h : Fin 16) : EReal :=
  (m ((c.tc : Thread nD τ).loc main_arg10) : FVec Ideal S1x32x16 .f32) (ix3 0 g h)

/-- The gate's weights. -/
def wglu (c : Dev nD) (k : Fin 512) (i : Fin 512) : EReal :=
  (m ((c.tc : Thread nD τ).loc main_arg11) : FVec Ideal S1x512x512 .f32) (ix3 0 k i)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem read0 (c : Dev nD) (t : Fin cfg0.N) (r : Fin 128) (i : Fin 512) : iblk m c 0 t (ix2 r i) = u m c r i := by
  unfold u
  blk_ext! [iblk, V, idx0 t]

theorem read1 (c : Dev nD) (t : Fin cfg0.N) (r : Fin 128) (j : Fin 2048) :
    iblk m c 1 t (ix2 r j) = sre m c r (grp j) (place j) := by
  unfold sre
  blk_simp [iblk, idx1 t]
  simp only [List.flatten_cons, List.flatten_nil, List.append_nil, List.cons_append, List.nil_append]
  after_reads_at
  blk_point [iblk, idx1 t, grp, place]

theorem read2 (c : Dev nD) (t : Fin cfg0.N) (r : Fin 128) (j : Fin 2048) :
    iblk m c 2 t (ix2 r j) = sim m c r (grp j) (place j) := by
  unfold sim
  blk_simp [iblk, idx2 t]
  simp only [List.flatten_cons, List.flatten_nil, List.append_nil, List.cons_append, List.nil_append]
  after_reads_at
  blk_point [iblk, idx2 t, grp, place]

theorem read5 (c : Dev nD) (t : Fin cfg0.N) (j : Fin 2048) :
    iblk m c 5 t (ix2 0 j) = rotRe (dt m c (grp j)) (are m c (grp j) (place j)) (aim m c (grp j) (place j)) := by
  unfold rotRe dt are aim
  blk_simp [iblk, idx5 t]
  simp only [List.flatten_cons, List.flatten_nil, List.append_nil, List.cons_append, List.nil_append]
  after_reads_at
  blk_point [iblk, idx5 t, grp, place]

theorem read6 (c : Dev nD) (t : Fin cfg0.N) (j : Fin 2048) :
    iblk m c 6 t (ix2 0 j) = rotIm (dt m c (grp j)) (are m c (grp j) (place j)) (aim m c (grp j) (place j)) := by
  unfold rotIm dt are aim
  blk_simp [iblk, idx6 t]
  simp only [List.flatten_cons, List.flatten_nil, List.append_nil, List.cons_append, List.nil_append]
  after_reads_at
  blk_point [iblk, idx6 t, grp, place]

theorem read7 (c : Dev nD) (t : Fin cfg0.N) (i : Fin 512) :
    iblk m c 7 t (ix2 0 i) = dd m c (cgrp i) (cplace i) := by
  unfold dd
  blk_simp [iblk, idx7 t]
  simp only [List.flatten_cons, List.flatten_nil, List.append_nil, List.cons_append, List.nil_append]
  after_reads_at
  blk_point [iblk, idx7 t, cgrp, cplace]

theorem read8 (c : Dev nD) (t : Fin cfg0.N) (k i : Fin 512) :
    iblk m c 8 t (ix2 k i) = wglu m c k i := by
  unfold wglu
  blk_simp [iblk, idx8 t]
  simp only [List.flatten_cons, List.flatten_nil, List.append_nil, List.cons_append, List.nil_append]
  after_reads_at
  blk_point [iblk, idx8 t]

theorem read3_re (c : Dev nD) (t : Fin cfg0.N) (i : Fin 512) (j : Fin 2048) :
    iblk m c 3 t (ix2 i ⟨j.val, by omega⟩) = inRe (dt m c (cgrp i)) (are m c (cgrp i) (place j)) (aim m c (cgrp i) (place j)) (bre m c (cgrp i) (place j) (cplace i)) (bim m c (cgrp i) (place j) (cplace i)) * same (cgrp i) (grp j) := by
  unfold inRe gainRe gainIm rotRe rotIm dt are aim bre bim
  blk_simp [iblk, idx3 t]
  simp only [List.flatten_cons, List.flatten_nil, List.append_nil, List.cons_append, List.nil_append]
  after_reads_at
  rw [dif_pos (by blk_simp [idx3 t]; (try dsimp only); omega)]
  after_reads_at
  refine congrArg₂ (· * ·) ?_ ((eye _ _ (by blk_simp [idx3 t]; (try dsimp only); omega) (by blk_simp [idx3 t]; (try dsimp only); omega)).trans ?_)
  · blk_point [iblk, idx3 t, grp, place, cgrp, cplace]
  · refine congrArg₂ same (Fin.ext ?_) (Fin.ext ?_)
    · blk_simp [idx3 t, grp, cgrp]; (try (dsimp only; omega))
    · blk_simp [idx3 t, grp, cgrp]; (try (dsimp only; omega))

theorem read3_im (c : Dev nD) (t : Fin cfg0.N) (i : Fin 512) (j : Fin 2048) :
    iblk m c 3 t (ix2 i ⟨2048 + j.val, by omega⟩) = inIm (dt m c (cgrp i)) (are m c (cgrp i) (place j)) (aim m c (cgrp i) (place j)) (bre m c (cgrp i) (place j) (cplace i)) (bim m c (cgrp i) (place j) (cplace i)) * same (cgrp i) (grp j) := by
  unfold inIm gainRe gainIm rotRe rotIm dt are aim bre bim
  blk_simp [iblk, idx3 t]
  simp only [List.flatten_cons, List.flatten_nil, List.append_nil, List.cons_append, List.nil_append]
  after_reads_at
  rw [dif_neg (by blk_simp [idx3 t]; simp)]
  after_reads_at
  refine congrArg₂ (· * ·) ?_ ((eye _ _ (by blk_simp [idx3 t]; (try dsimp only); omega) (by blk_simp [idx3 t]; (try dsimp only); omega)).trans ?_)
  · blk_point [iblk, idx3 t, grp, place, cgrp, cplace]
  · refine congrArg₂ same (Fin.ext ?_) (Fin.ext ?_)
    · blk_simp [idx3 t, grp, cgrp]; (try (dsimp only; omega))
    · blk_simp [idx3 t, grp, cgrp]; (try (dsimp only; omega))

theorem read4_re (c : Dev nD) (t : Fin cfg0.N) (j : Fin 2048) (i : Fin 512) :
    iblk m c 4 t (ix2 ⟨j.val, by omega⟩ i) = cre m c (grp j) (cplace i) (place j) * same (grp j) (cgrp i) := by
  unfold cre
  blk_simp [iblk, idx4 t]
  simp only [List.flatten_cons, List.flatten_nil, List.append_nil, List.cons_append, List.nil_append]
  after_reads_at
  rw [dif_pos (by blk_simp [idx4 t]; (try dsimp only); omega)]
  after_reads_at
  refine congrArg₂ (· * ·) ?_ ((eye _ _ (by blk_simp [idx4 t]; (try dsimp only); omega) (by blk_simp [idx4 t]; (try dsimp only); omega)).trans ?_)
  · blk_point [iblk, idx4 t, grp, place, cgrp, cplace]
  · refine congrArg₂ same (Fin.ext ?_) (Fin.ext ?_)
    · blk_simp [idx4 t, grp, cgrp]; (try (dsimp only; omega))
    · blk_simp [idx4 t, grp, cgrp]; (try (dsimp only; omega))

theorem read4_im (c : Dev nD) (t : Fin cfg0.N) (j : Fin 2048) (i : Fin 512) :
    iblk m c 4 t (ix2 ⟨2048 + j.val, by omega⟩ i) = -cim m c (grp j) (cplace i) (place j) * same (grp j) (cgrp i) := by
  unfold cim
  blk_simp [iblk, idx4 t]
  simp only [List.flatten_cons, List.flatten_nil, List.append_nil, List.cons_append, List.nil_append]
  after_reads_at
  rw [dif_neg (by blk_simp [idx4 t]; simp)]
  after_reads_at
  refine congrArg₂ (· * ·) ?_ ((eye _ _ (by blk_simp [idx4 t]; (try dsimp only); omega) (by blk_simp [idx4 t]; (try dsimp only); omega)).trans ?_)
  · blk_point [iblk, idx4 t, grp, place, cgrp, cplace]
  · refine congrArg₂ same (Fin.ext ?_) (Fin.ext ?_)
    · blk_simp [idx4 t, grp, cgrp]; (try (dsimp only; omega))
    · blk_simp [idx4 t, grp, cgrp]; (try (dsimp only; omega))

end Cert.Proof.Ssm.Sample

end
-- ==== Proof.Ssm.Sample.Payloads.lean ====
/-
  What the kernel body computes, entry by entry, from the arrays it reads.
-/
module

public import proofs.«01_k».proof.Proof.Gen.Kernel7Ideal.Value
public import proofs.«01_k».proof.Proof.Ssm.Formula

@[expose] public section

set_option maxRecDepth 16384

noncomputable section

namespace Cert.Proof.Ssm.Sample

open Idealize.ShloMosaic Idealize.ShloMosaic.TcCoe Idealize.SL.Sem
open Cert.Kernel7Ideal Cert.Kernel7Ideal.Gen

variable (x : Vec Ideal S128x512 .f32) (B : Vec Ideal S512x4096 .bf16) (lr li : Vec Ideal S1x2048 .f32) (sr si : Vec Ideal S128x2048 .f32)
  (C : Vec Ideal S4096x512 .bf16)

theorem pay7_apply (r : Fin 128) (j : Fin 2048) :
    k0_pay7 (F := Ideal) x B lr li sr si (ix2 r j)
      = (lr (ix2 0 j) : EReal) * sr (ix2 r j) - (li (ix2 0 j) : EReal) * si (ix2 r j) + ∑ i : Fin 512, (x (ix2 r i) : EReal) * B (ix2 i ⟨j.val, by omega⟩) := by
  pointwise [k0_pay7, k0_pay2, k0_pay3, k0_pay4, k0_pay5, k0_pay6]

theorem pay8_apply (r : Fin 128) (j : Fin 2048) :
    k0_pay8 (F := Ideal) x B lr li sr si (ix2 r j)
      = (lr (ix2 0 j) : EReal) * si (ix2 r j) + (li (ix2 0 j) : EReal) * sr (ix2 r j) + ∑ i : Fin 512, (x (ix2 r i) : EReal) * B (ix2 i ⟨2048 + j.val, by omega⟩) := by
  pointwise [k0_pay8, k0_pay2, k0_pay3, k0_pay4, k0_pay5, k0_pay6]

/-- The two halves of the states side by side. -/
def both (p q : FVec Ideal S128x2048 .f32) (r : Fin 128) (k : Fin 4096) : EReal :=
  if h : k.val < 2048 then p (ix2 r ⟨k.val, h⟩) else q (ix2 r ⟨k.val - 2048, by omega⟩)

theorem pay9_apply (r : Fin 128) (i : Fin 512) :
    k0_pay9 (F := Ideal) x B lr li sr si C (ix2 r i)
      = ∑ k : Fin 4096, both (k0_pay7 x B lr li sr si) (k0_pay8 x B lr li sr si) r k * (C (ix2 k i) : EReal) := by
  pointwise [k0_pay9, both]

theorem pay9_halves (r : Fin 128) (i : Fin 512) :
    k0_pay9 (F := Ideal) x B lr li sr si C (ix2 r i)
      = ∑ j : Fin 2048, (k0_pay7 (F := Ideal) x B lr li sr si (ix2 r j) : EReal) * C (ix2 ⟨j.val, by omega⟩ i)
        + ∑ j : Fin 2048, (k0_pay8 (F := Ideal) x B lr li sr si (ix2 r j) : EReal) * C (ix2 ⟨2048 + j.val, by omega⟩ i) := by
  rw [pay9_apply, sum_halves]
  refine congrArg₂ (· + ·) (Finset.sum_congr rfl fun j _ => congrArg (· * _) ?_) (Finset.sum_congr rfl fun j _ => congrArg (· * _) ?_)
  · exact dif_pos j.isLt
  · refine (dif_neg (by simp)).trans (congrArg (fun k => (k0_pay8 (F := Ideal) x B lr li sr si (ix2 r k) : EReal)) (Fin.ext ?_))
    simp

theorem pay1_apply (y : FVec Ideal S128x512 .f32) (d : Vec Ideal S1x512 .f32) (w : Vec Ideal S512x512 .bf16) (r : Fin 128) (i : Fin 512) :
    k0_pay1 (F := Ideal) x y d w (ix2 r i)
      = gated (fun k => (y (ix2 r k) : EReal) + (d (ix2 0 k) : EReal) * x (ix2 r k)) (fun k i => w (ix2 k i)) i := by
  pointwise [k0_pay1, gated, gelu, Ideal.ofBits_one_f32]

end Cert.Proof.Ssm.Sample

end
-- ==== Proof.Ssm.Sample.Kernel.lean ====
/-
  The three arrays the kernel leaves: the gated outputs and the two parts of the states.
-/
module

public import proofs.«01_k».proof.Proof.Ssm.Sample.Blocks
public import proofs.«01_k».proof.Proof.Ssm.Sample.Payloads

@[expose] public section

set_option maxRecDepth 16384

noncomputable section

namespace Cert.Proof.Ssm.Sample

open Idealize.ShloMosaic Idealize.ShloMosaic.TcCoe Idealize.SL.Sem
open Cert.Kernel7Ideal Cert.Kernel7Ideal.Gen

variable (m : (ℓ : Loc nD τ sig) → Buf (Elt Ideal) ℓ)

/-- The real part of row `r`'s next state at mode `p` of group `g`. -/
def hre (c : Dev nD) (r : Fin 128) (g : Fin 32) (p : Fin 64) : EReal :=
  nextRe (dt m c g) (are m c g p) (aim m c g p) (sre m c r g p) (sim m c r g p) (fun h => bre m c g p h) (fun h => bim m c g p h) (fun h => u m c r (chan g h))

/-- The imaginary part. -/
def him (c : Dev nD) (r : Fin 128) (g : Fin 32) (p : Fin 64) : EReal :=
  nextIm (dt m c g) (are m c g p) (aim m c g p) (sre m c r g p) (sim m c r g p) (fun h => bre m c g p h) (fun h => bim m c g p h) (fun h => u m c r (chan g h))

/-- The layer's output before the gates, at row `r` and channel `i`. -/
def pre (c : Dev nD) (r : Fin 128) (i : Fin 512) : EReal :=
  readout (fun p => cre m c (cgrp i) (cplace i) p) (fun p => cim m c (cgrp i) (cplace i) p) (fun p => hre m c r (cgrp i) p)
    (fun p => him m c r (cgrp i) p) (dd m c (cgrp i) (cplace i)) (u m c r i)

/-- The gated outputs. -/
def outY (c : Dev nD) : FVec Ideal S128x512 .bf16 := fun y => gated (fun k => pre m c (y 0) k) (wglu m c) (y 1)

/-- The states' real parts. -/
def outRe (c : Dev nD) : FVec Ideal S128x2048 .f32 := fun y => hre m c (y 0) (grp (y 1)) (place (y 1))

/-- The states' imaginary parts. -/
def outIm (c : Dev nD) : FVec Ideal S128x2048 .f32 := fun y => him m c (y 0) (grp (y 1)) (place (y 1))

theorem hre_blk (c : Dev nD) (t : Fin cfg0.N) (r : Fin 128) (j : Fin 2048) :
    k0_pay7 (F := Ideal) (iblk m c 0 t) (iblk m c 3 t) (iblk m c 5 t) (iblk m c 6 t) (iblk m c 1 t) (iblk m c 2 t) (ix2 r j)
      = hre m c r (grp j) (place j) := by
  refine (pay7_apply _ _ _ _ _ _ r j).trans ?_
  simp only [read0, read1, read2, read5, read6, read3_re]
  unfold hre nextRe
  refine congrArg₂ (fun z w : EReal => z + w) rfl ?_
  refine (Finset.sum_congr rfl fun i _ => ?_).trans ((sum_chan (grp j) fun i =>
    inRe (dt m c (cgrp i)) (are m c (cgrp i) (place j)) (aim m c (cgrp i) (place j)) (bre m c (cgrp i) (place j) (cplace i)) (bim m c (cgrp i) (place j) (cplace i)) * u m c r i).trans ?_)
  · rw [← mul_assoc, mul_comm (u m c r i)]
  · simp only [cgrp_chan, cplace_chan]

theorem him_blk (c : Dev nD) (t : Fin cfg0.N) (r : Fin 128) (j : Fin 2048) :
    k0_pay8 (F := Ideal) (iblk m c 0 t) (iblk m c 3 t) (iblk m c 5 t) (iblk m c 6 t) (iblk m c 1 t) (iblk m c 2 t) (ix2 r j)
      = him m c r (grp j) (place j) := by
  refine (pay8_apply _ _ _ _ _ _ r j).trans ?_
  simp only [read0, read1, read2, read5, read6, read3_im]
  unfold him nextIm
  refine congrArg₂ (fun z w : EReal => z + w) rfl ?_
  refine (Finset.sum_congr rfl fun i _ => ?_).trans ((sum_chan (grp j) fun i =>
    inIm (dt m c (cgrp i)) (are m c (cgrp i) (place j)) (aim m c (cgrp i) (place j)) (bre m c (cgrp i) (place j) (cplace i)) (bim m c (cgrp i) (place j) (cplace i)) * u m c r i).trans ?_)
  · rw [← mul_assoc, mul_comm (u m c r i)]
  · simp only [cgrp_chan, cplace_chan]

theorem pre_blk (c : Dev nD) (t : Fin cfg0.N) (r : Fin 128) (i : Fin 512) :
    (k0_pay9 (F := Ideal) (iblk m c 0 t) (iblk m c 3 t) (iblk m c 5 t) (iblk m c 6 t) (iblk m c 1 t) (iblk m c 2 t) (iblk m c 4 t) (ix2 r i) : EReal) + dd m c (cgrp i) (cplace i) * u m c r i
      = pre m c r i := by
  rw [pay9_halves]
  simp only [hre_blk, him_blk, read4_re, read4_im]
  refine congrArg (fun z : EReal => z + _) (congrArg₂ (fun z w : EReal => z + w) ?_ ?_)
  · refine (Finset.sum_congr rfl fun j _ => ?_).trans ((sum_mode (cgrp i) fun j =>
      cre m c (grp j) (cplace i) (place j) * hre m c r (grp j) (place j)).trans ?_)
    · rw [← mul_assoc, mul_comm (hre m c r _ _)]
    · simp only [grp_mode, place_mode]
  · refine (Finset.sum_congr rfl fun j _ => ?_).trans ((sum_mode (cgrp i) fun j =>
      cim m c (grp j) (cplace i) (place j) * -him m c r (grp j) (place j)).trans ?_)
    · rw [← mul_assoc, mul_neg, mul_neg, mul_comm (him m c r _ _)]
    · simp only [grp_mode, place_mode]

theorem place9 (t : Fin cfg0.N) (r : Fin 128) (k : Fin 512) : ((View.whole main_v134_0).slice (win0_9.rect t)).emb (ix2 r k) = ix2 r k := by
  blk_ext! [idx9 t]

theorem place10 (t : Fin cfg0.N) (r : Fin 128) (k : Fin 2048) : ((View.whole main_v134_1).slice (win0_10.rect t)).emb (ix2 r k) = ix2 r k := by
  blk_ext! [idx10 t]

theorem place11 (t : Fin cfg0.N) (r : Fin 128) (k : Fin 2048) : ((View.whole main_v134_2).slice (win0_11.rect t)).emb (ix2 r k) = ix2 r k := by
  blk_ext! [idx11 t]

theorem valueRe (c : Dev nD) : (dats m 0 c).arrAt 10 cfg0.N = outRe m c := by
  refine (dats m 0 c).arrAt_eq_of_covers 10 (outRe m c) (by decide +kernel) fun t hf y => ?_
  blk_simp
  rw [after0_10]
  unfold out0_10
  frame_out
  idx_vars y
  rw [place10]
  exact hre_blk m c t y0 y1

theorem valueIm (c : Dev nD) : (dats m 0 c).arrAt 11 cfg0.N = outIm m c := by
  refine (dats m 0 c).arrAt_eq_of_covers 11 (outIm m c) (by decide +kernel) fun t hf y => ?_
  blk_simp
  rw [after0_11]
  unfold out0_11
  frame_out
  idx_vars y
  rw [place11]
  exact him_blk m c t y0 y1

theorem valueY (c : Dev nD) : (dats m 0 c).arrAt 9 cfg0.N = outY m c := by
  refine (dats m 0 c).arrAt_eq_of_covers 9 (outY m c) (by decide +kernel) fun t hf y => ?_
  blk_simp
  rw [after0_9]
  unfold out0_9
  frame_out
  idx_vars y
  rw [place9]
  refine (pay1_apply _ _ _ _ y0 y1).trans ?_
  simp only [read7, read0, read8]
  refine congrArg (fun f => gated f _ _) (funext fun k => ?_)
  exact pre_blk m c t y0 k

end Cert.Proof.Ssm.Sample

end
-- ==== Proof.Ssm.Sample.Reference.lean ====
/-
  What the reference's arrays hold, entry by entry.
-/
module

public import proofs.«01_k».proof.Proof.Gen.Reference7Ideal.Run
public import proofs.«01_k».proof.Proof.Ssm.Formula

@[expose] public section

set_option maxRecDepth 16384

noncomputable section

namespace Cert.Proof.Ssm.Sample

open Idealize.ShloMosaic Idealize.ShloMosaic.TcCoe Idealize.SL.Sem
open Cert.Reference7Ideal Cert.Reference7Ideal.Gen Cert.Reference7Ideal.Facts Cert.Reference7Ideal.Value

variable [Cert.Reference7Ideal.Facts]

namespace Ref

variable (V : Valuation τ sig (Elt Ideal))

/-- The inputs: one row each, one column a channel. -/
def u (r : Fin 128) (i : Fin 512) : EReal :=
  (V (Proc.devRef .tc main_arg0) : FVec Ideal S128x512 .f32) (ix2 r i)

/-- The states, real parts. -/
def sre (r : Fin 128) (g : Fin 32) (p : Fin 64) : EReal :=
  (V (Proc.devRef .tc main_arg1) : FVec Ideal S1x128x32x64 .f32) (ix4 0 r g p)

/-- The states, imaginary parts. -/
def sim (r : Fin 128) (g : Fin 32) (p : Fin 64) : EReal :=
  (V (Proc.devRef .tc main_arg2) : FVec Ideal S1x128x32x64 .f32) (ix4 0 r g p)

/-- The rates, real parts. -/
def are (g : Fin 32) (p : Fin 64) : EReal :=
  (V (Proc.devRef .tc main_arg3) : FVec Ideal S1x32x64 .f32) (ix3 0 g p)

/-- The rates, imaginary parts. -/
def aim (g : Fin 32) (p : Fin 64) : EReal :=
  (V (Proc.devRef .tc main_arg4) : FVec Ideal S1x32x64 .f32) (ix3 0 g p)

/-- The logarithms of the steps. -/
def dt (g : Fin 32) : EReal :=
  (V (Proc.devRef .tc main_arg5) : FVec Ideal S1x32 .f32) (ix2 0 g)

/-- The input weights, real parts. -/
def bre (g : Fin 32) (p : Fin 64) (h : Fin 16) : EReal :=
  (V (Proc.devRef .tc main_arg6) : FVec Ideal S1x32x64x16 .f32) (ix4 0 g p h)

/-- The input weights, imaginary parts. -/
def bim (g : Fin 32) (p : Fin 64) (h : Fin 16) : EReal :=
  (V (Proc.devRef .tc main_arg7) : FVec Ideal S1x32x64x16 .f32) (ix4 0 g p h)

/-- The output weights, real parts. -/
def cre (g : Fin 32) (h : Fin 16) (p : Fin 64) : EReal :=
  (V (Proc.devRef .tc main_arg8) : FVec Ideal S1x32x16x64 .f32) (ix4 0 g h p)

/-- The output weights, imaginary parts. -/
def cim (g : Fin 32) (h : Fin 16) (p : Fin 64) : EReal :=
  (V (Proc.devRef .tc main_arg9) : FVec Ideal S1x32x16x64 .f32) (ix4 0 g h p)

/-- The inputs' own weights. -/
def dd (g : Fin 32) (h : Fin 16) : EReal :=
  (V (Proc.devRef .tc main_arg10) : FVec Ideal S1x32x16 .f32) (ix3 0 g h)

/-- The gate's weights. -/
def wglu (k : Fin 512) (i : Fin 512) : EReal :=
  (V (Proc.devRef .tc main_arg11) : FVec Ideal S1x512x512 .f32) (ix3 0 k i)

theorem v13 (g : Fin 32) (p : Fin 64) : res_main_v13 (F := Ideal) V (ix2 g p) = rotRe (dt V g) (are V g p) (aim V g p) := by
  pointwise [res_main_v13, res_main_v0, res_main_v1, res_main_v6, rotRe, dt, are, aim]

theorem v20 (g : Fin 32) (p : Fin 64) : res_main_v20 (F := Ideal) V (ix2 g p) = rotIm (dt V g) (are V g p) (aim V g p) := by
  pointwise [res_main_v20, res_main_v0, res_main_v1, res_main_v6, rotIm, dt, are, aim]

theorem v29 (g : Fin 32) (p : Fin 64) : res_main_v29 (F := Ideal) V (ix2 g p) = gainRe (dt V g) (are V g p) (aim V g p) := by
  pointwise [res_main_v29, res_main_v13, res_main_v20, res_main_v23, res_main_v0, res_main_v1, res_main_v6, gainRe, rotRe, rotIm, dt, are, aim, Ideal.ofBits_one_f32]

theorem v35 (g : Fin 32) (p : Fin 64) : res_main_v35 (F := Ideal) V (ix2 g p) = gainIm (dt V g) (are V g p) (aim V g p) := by
  pointwise [res_main_v35, res_main_v13, res_main_v20, res_main_v23, res_main_v0, res_main_v1, res_main_v6, gainIm, rotRe, rotIm, dt, are, aim, Ideal.ofBits_one_f32]

/-- The real part of row `r`'s next state at mode `p` of group `g`. -/
def hre (r : Fin 128) (g : Fin 32) (p : Fin 64) : EReal :=
  nextRe (dt V g) (are V g p) (aim V g p) (sre V r g p) (sim V r g p) (fun h => bre V g p h) (fun h => bim V g p h) (fun h => u V r (chan g h))

/-- The imaginary part. -/
def him (r : Fin 128) (g : Fin 32) (p : Fin 64) : EReal :=
  nextIm (dt V g) (are V g p) (aim V g p) (sre V r g p) (sim V r g p) (fun h => bre V g p h) (fun h => bim V g p h) (fun h => u V r (chan g h))

theorem v62 (r : Fin 128) (g : Fin 32) (p : Fin 64) : res_main_v62 (F := Ideal) V (ix3 r g p) = hre V r g p := by
  unfold hre nextRe inRe
  rw [← v13, ← v20, ← v29, ← v35]
  pointwise [res_main_v62, res_main_v50, res_main_v3, res_main_v4, sre, sim, bre, bim, u, chan]

theorem v74 (r : Fin 128) (g : Fin 32) (p : Fin 64) : res_main_v74 (F := Ideal) V (ix3 r g p) = him V r g p := by
  unfold him nextIm inIm
  rw [← v13, ← v20, ← v29, ← v35]
  pointwise [res_main_v74, res_main_v50, res_main_v3, res_main_v4, sre, sim, bre, bim, u, chan]

/-- The layer's output before the gates, at row `r` and channel `i`. -/
def pre (r : Fin 128) (i : Fin 512) : EReal :=
  readout (fun p => cre V (cgrp i) (cplace i) p) (fun p => cim V (cgrp i) (cplace i) p) (fun p => hre V r (cgrp i) p)
    (fun p => him V r (cgrp i) p) (dd V (cgrp i) (cplace i)) (u V r i)

theorem v88 (r : Fin 128) (i : Fin 512) : res_main_v88 (F := Ideal) V (ix2 r i) = pre V r i := by
  unfold pre readout
  simp only [← v62, ← v74]
  pointwise [res_main_v88, res_main_v50, cre, cim, dd, u, cgrp, cplace]

theorem v101 (r : Fin 128) (i : Fin 512) : res_main_v101 (F := Ideal) V (ix2 r i) = gelu (pre V r i) := by
  rw [← v88]
  pointwise [res_main_v101, gelu, Ideal.ofBits_one_f32]
  simp only [mul_assoc]

end Ref

end Cert.Proof.Ssm.Sample

end
-- ==== Proof.Ssm.Sample.Claim.lean ====
/-
  The sample's state space layer: kernel and reference end with the same arrays.
-/
module

public import proofs.«01_k».proof.Defs
public import proofs.«01_k».proof.Proof.Ssm.Sample.Kernel
public import proofs.«01_k».proof.Proof.Ssm.Sample.Reference

@[expose] public section

set_option maxRecDepth 16384

noncomputable section

namespace Cert.Proof.Ssm.Sample

open Idealize.ShloMosaic Idealize.ShloMosaic.TcCoe Idealize.SL.Sem

/-- The memories of the two programs hold the same arguments. -/
def Args (m : (ℓ : Loc Cert.Kernel7Ideal.nD Cert.Kernel7Ideal.τ Cert.Kernel7Ideal.sig) → Buf (Elt Ideal) ℓ)
    (V : Valuation Cert.Reference7Ideal.τ Cert.Reference7Ideal.sig (Elt Ideal)) (c : Dev Cert.Kernel7Ideal.nD) : Prop :=
  Ref.u V = u m c ∧ Ref.sre V = sre m c ∧ Ref.sim V = sim m c ∧ Ref.are V = are m c ∧ Ref.aim V = aim m c ∧ Ref.dt V = dt m c ∧ Ref.bre V = bre m c ∧ Ref.bim V = bim m c ∧ Ref.cre V = cre m c ∧ Ref.cim V = cim m c ∧ Ref.dd V = dd m c ∧ Ref.wglu V = wglu m c

variable (m : (ℓ : Loc Cert.Kernel7Ideal.nD Cert.Kernel7Ideal.τ Cert.Kernel7Ideal.sig) → Buf (Elt Ideal) ℓ)
  (V : Valuation Cert.Reference7Ideal.τ Cert.Reference7Ideal.sig (Elt Ideal)) (c : Dev Cert.Kernel7Ideal.nD)

theorem hre_eq (h : Args m V c) (r : Fin 128) (g : Fin 32) (p : Fin 64) : Ref.hre V r g p = hre m c r g p := by
  obtain ⟨h0, h1, h2, h3, h4, h5, h6, h7, h8, h9, h10, h11⟩ := h
  simp only [Ref.hre, hre, h0, h1, h2, h3, h4, h5, h6, h7]

theorem him_eq (h : Args m V c) (r : Fin 128) (g : Fin 32) (p : Fin 64) : Ref.him V r g p = him m c r g p := by
  obtain ⟨h0, h1, h2, h3, h4, h5, h6, h7, h8, h9, h10, h11⟩ := h
  simp only [Ref.him, him, h0, h1, h2, h3, h4, h5, h6, h7]

theorem pre_eq (h : Args m V c) (r : Fin 128) (i : Fin 512) : Ref.pre V r i = pre m c r i := by
  unfold Ref.pre pre
  simp only [hre_eq m V c h, him_eq m V c h]
  obtain ⟨h0, h1, h2, h3, h4, h5, h6, h7, h8, h9, h10, h11⟩ := h
  simp only [h0, h8, h9, h10]

theorem wglu_eq (h : Args m V c) : Ref.wglu V = wglu m c := by
  obtain ⟨h0, h1, h2, h3, h4, h5, h6, h7, h8, h9, h10, h11⟩ := h
  exact h11

open Cert.Reference7Ideal Cert.Reference7Ideal.Gen Cert.Reference7Ideal.Facts Cert.Reference7Ideal.Value in
/-- The reference's gated outputs. -/
def refY [Cert.Reference7Ideal.Facts] : FVec Ideal S128x512 .bf16 :=
  truncf .bf16 (mulf (res_main_v101 V : FVec Ideal S128x512 .f32) (Host.divf (broadcastInDim S128x512 ![] bcast_S_S128x512 (constant S_ .f32 0x3F800000#32)) (addf (broadcastInDim S128x512 ![] bcast_S_S128x512 (constant S_ .f32 0x3F800000#32)) (Host.exp (Host.negf (Host.dotGeneral dot_S128x512_S512x512_S128x512_1_0_0_1_n_n (φ₁ := .f32) none (res_main_v101 V : FVec Ideal S128x512 .f32) (shapeCast S512x512 (V (Proc.devRef .tc main_arg11) : FVec Ideal S1x512x512 .f32) shapeCasts_S1x512x512_S512x512 : FVec Ideal S512x512 .f32))))))) bitsLt_bf16_f32

open Cert.Reference7Ideal Cert.Reference7Ideal.Gen Cert.Reference7Ideal.Facts Cert.Reference7Ideal.Value in
/-- The reference's states, real parts. -/
def refRe [Cert.Reference7Ideal.Facts] : FVec Ideal S128x2048 .f32 := shapeCast S128x2048 (res_main_v62 V : FVec Ideal S128x32x64 .f32) shapeCasts_S128x32x64_S128x2048

open Cert.Reference7Ideal Cert.Reference7Ideal.Gen Cert.Reference7Ideal.Facts Cert.Reference7Ideal.Value in
/-- The reference's states, imaginary parts. -/
def refIm [Cert.Reference7Ideal.Facts] : FVec Ideal S128x2048 .f32 := shapeCast S128x2048 (res_main_v74 V : FVec Ideal S128x32x64 .f32) shapeCasts_S128x32x64_S128x2048

theorem refY_apply [Cert.Reference7Ideal.Facts] (r : Fin 128) (i : Fin 512) : refY V (ix2 r i) = gated (fun k => Ref.pre V r k) (Ref.wglu V) i := by
  unfold gated
  simp only [← Ref.v101]
  pointwise [refY, Ref.wglu, Ideal.logistic, Ideal.ofBits_one_f32]

theorem refRe_apply [Cert.Reference7Ideal.Facts] (r : Fin 128) (j : Fin 2048) : refRe V (ix2 r j) = Ref.hre V r (grp j) (place j) := by
  rw [← Ref.v62]
  pointwise [refRe, grp, place]

theorem refIm_apply [Cert.Reference7Ideal.Facts] (r : Fin 128) (j : Fin 2048) : refIm V (ix2 r j) = Ref.him V r (grp j) (place j) := by
  rw [← Ref.v74]
  pointwise [refIm, grp, place]

theorem refY_eq [Cert.Reference7Ideal.Facts] (h : Args m V c) : refY V = outY m c := by
  funext y
  obtain ⟨a, b, rfl⟩ : ∃ a b, y = ix2 a b := ⟨_, _, eq_ix2 y⟩
  rw [refY_apply, wglu_eq m V c h]
  simp only [pre_eq m V c h]
  rfl

theorem refRe_eq [Cert.Reference7Ideal.Facts] (h : Args m V c) : refRe V = outRe m c := by
  funext y
  obtain ⟨a, b, rfl⟩ : ∃ a b, y = ix2 a b := ⟨_, _, eq_ix2 y⟩
  rw [refRe_apply, hre_eq m V c h]
  rfl

theorem refIm_eq [Cert.Reference7Ideal.Facts] (h : Args m V c) : refIm V = outIm m c := by
  funext y
  obtain ⟨a, b, rfl⟩ : ∃ a b, y = ix2 a b := ⟨_, _, eq_ix2 y⟩
  rw [refIm_apply, him_eq m V c h]
  rfl

theorem algebraic : Cert.algebraic_Kernel7Ideal_Reference7Ideal := by
  intro m g m' g' _ hargs
  refine ⟨outY m, outRe m, outIm m,
    (θ_run (Cert.Kernel7Ideal.defs (F := Ideal)) _ _).mono (fun r h c => ?_)
      (Cert.Kernel7Ideal.Value.run_blocks (F := Ideal) m g),
    (θ_run (Cert.Reference7Ideal.defs (F := Ideal)) _ _).mono (fun r h c => ?_)
      (Cert.Reference7Ideal.Value.run (F := Ideal) m' g')⟩
  · obtain ⟨h0, h1, h2, hk⟩ := h c
    exact ⟨h0.trans (valueY m c), h1.trans (valueRe m c), h2.trans (valueIm m c), hk⟩
  · obtain ⟨h0, h1, h2, hk⟩ := h c
    have ha : Args m (StableHlo.launchContents m' c) c := by
      obtain ⟨e0, e1, e2, e3, e4, e5, e6, e7, e8, e9, e10, e11⟩ := hargs c
      refine ⟨?_, ?_, ?_, ?_, ?_, ?_, ?_, ?_, ?_, ?_, ?_, ?_⟩
      · exact funext fun r => funext fun i => congrFun e0 (ix2 r i)
      · exact funext fun r => funext fun g => funext fun p => congrFun e1 (ix4 0 r g p)
      · exact funext fun r => funext fun g => funext fun p => congrFun e2 (ix4 0 r g p)
      · exact funext fun g => funext fun p => congrFun e3 (ix3 0 g p)
      · exact funext fun g => funext fun p => congrFun e4 (ix3 0 g p)
      · exact funext fun g => congrFun e5 (ix2 0 g)
      · exact funext fun g => funext fun p => funext fun h => congrFun e6 (ix4 0 g p h)
      · exact funext fun g => funext fun p => funext fun h => congrFun e7 (ix4 0 g p h)
      · exact funext fun g => funext fun h => funext fun p => congrFun e8 (ix4 0 g h p)
      · exact funext fun g => funext fun h => funext fun p => congrFun e9 (ix4 0 g h p)
      · exact funext fun g => funext fun h => congrFun e10 (ix3 0 g h)
      · exact funext fun k => funext fun i => congrFun e11 (ix3 0 k i)
    exact ⟨h0.trans (refY_eq m _ c ha), h1.trans (refRe_eq m _ c ha), h2.trans (refIm_eq m _ c ha), hk⟩

end Cert.Proof.Ssm.Sample

end
-- ==== Proof.Merge.Sample.Value.lean ====
/-
  What the merge of the sample's two branches leaves, at one row and column, as a formula over the extended reals: first of the
  kernel's block, then of the reference's array.
-/
module

public import proofs.«01_k».proof.Proof.Gen.Kernel9Ideal.Value
public import proofs.«01_k».proof.Proof.Gen.Reference9Ideal.Run
public import proofs.«01_k».proof.Proof.Norm

@[expose] public section

set_option maxRecDepth 16384

noncomputable section

namespace Cert.Proof.Merge.Sample

open Idealize.ShloMosaic Idealize.ShloMosaic.TcCoe Idealize.SL.Sem

/-- The residual and the merged branches at position `k` of a row, before the norm. -/
def row (x : Fin 1024 → EReal) (ya yb : Fin 512 → EReal) (sa sb : Fin 1024 → EReal) (wa wb : Fin 512 → Fin 1024 → EReal)
    (wo : Fin 1024 → Fin 1024 → EReal) (k : Fin 1024) : EReal :=
  Ideal.ofBits .f32 0x3F9837F0#32 * x k
    + ∑ j : Fin 1024, (sa j * (∑ i : Fin 512, ya i * wa i j) + sb j * (∑ i : Fin 512, yb i * wb i j)) * wo j k

/-- The merged and normed array: at row `r` and column `k`, the norm of that row. -/
def out (x : Fin 128 → Fin 1024 → EReal) (ya yb : Fin 128 → Fin 512 → EReal) (sa sb : Fin 128 → Fin 1024 → EReal)
    (wa wb : Fin 512 → Fin 1024 → EReal) (wo : Fin 1024 → Fin 1024 → EReal) (g b : Fin 1024 → EReal)
    (r : Fin 128) (k : Fin 1024) : EReal :=
  norm (row (x r) (ya r) (yb r) (sa r) (sb r) wa wb wo) (g k) (b k) k

section Kernel
open Cert.Kernel9Ideal Cert.Kernel9Ideal.Gen

theorem pay4_apply (v0 : Vec Ideal S128x1024 .bf16) (v2 : Vec Ideal S128x512 .bf16) (v3 : Vec Ideal S512x1024 .bf16)
    (v7 : Vec Ideal S128x1024 .bf16) (v9 : Vec Ideal S128x512 .bf16) (v10 : Vec Ideal S512x1024 .bf16)
    (v15 : Vec Ideal S128x1024 .f32) (v19 : Vec Ideal S1024x1024 .bf16) (r : Fin 128) (k : Fin 1024) :
    k0_pay4 v0 v2 v3 v7 v9 v10 v15 v19 (ix2 r k)
      = centred (row (fun j => v15 (ix2 r j)) (fun j => v2 (ix2 r j)) (fun j => v9 (ix2 r j)) (fun j => v0 (ix2 r j))
          (fun j => v7 (ix2 r j)) (fun i j => v3 (ix2 i j)) (fun i j => v10 (ix2 i j)) (fun i j => v19 (ix2 i j))) k := by
  pointwise [k0_pay4, centred, row]

theorem pay1_apply (v24 v26 : FVec Ideal S1x1024 .f32) (v32 : FVec Ideal S128x1024 .f32) (r : Fin 128) (k : Fin 1024) :
    k0_pay1 (k0_pay2 v24) (k0_pay3 v26) v32 (ix2 r k)
      = scaled (fun j => v32 (ix2 r j)) (v24 (ix2 0 k)) (v26 (ix2 0 k)) k := by
  pointwise [k0_pay1, k0_pay2, k0_pay3, scaled]

end Kernel

section Reference
open Cert.Reference9Ideal Cert.Reference9Ideal.Gen Cert.Reference9Ideal.Facts

variable [Cert.Reference9Ideal.Facts]

/-- The reference's array before the norm. -/
def pre (x : FVec Ideal S128x1024 .f32) (ya yb : FVec Ideal S128x512 .bf16) (sa sb : FVec Ideal S128x1024 .bf16)
    (wa wb : FVec Ideal S1x512x1024 .f32) (wo : FVec Ideal S1x1024x1024 .f32) : FVec Ideal S128x1024 .f32 :=
  addf (mulf (broadcastInDim S128x1024 ![] bcast_S_S128x1024 (constant S_ .f32 0x3F9837F0#32)) x) (Host.dotGeneral dot_S128x1024_S1024x1024_S128x1024_1_0_0_1_n_n none (addf (mulf (extf .f32 sa bitsLt_bf16_f32) (Host.dotGeneral dot_S128x512_S512x1024_S128x1024_1_0_0_1_n_n none (extf .f32 ya bitsLt_bf16_f32) (shapeCast _ wa shapeCasts_S1x512x1024_S512x1024))) (mulf (extf .f32 sb bitsLt_bf16_f32) (Host.dotGeneral dot_S128x512_S512x1024_S128x1024_1_0_0_1_n_n none (extf .f32 yb bitsLt_bf16_f32) (shapeCast _ wb shapeCasts_S1x512x1024_S512x1024)))) (shapeCast _ wo shapeCasts_S1x1024x1024_S1024x1024))

/-- The reference's rows less their means. -/
def less (h : FVec Ideal S128x1024 .f32) : FVec Ideal S128x1024 .f32 :=
  subf h (broadcastInDim S128x1024 ![0, 1] bcast_S128x1_S128x1024_0_1 (Host.divf (broadcastInDim S128x1 ![0] bcast_S128_S128x1_0 (Host.reduceAdd h (constant S_ .f32 0x00000000#32) reducesTo_S128x1024_S128_d1 h_S_)) (broadcastInDim S128x1 ![] bcast_S_S128x1 (constant S_ .f32 0x44800000#32))))

/-- The reference's norm of rows already less their means. -/
def unit (d : FVec Ideal S128x1024 .f32) (g b : FVec Ideal S1x1024 .f32) : FVec Ideal S128x1024 .f32 :=
  addf (mulf (mulf d (broadcastInDim S128x1024 ![0, 1] bcast_S128x1_S128x1024_0_1 (Host.rsqrt (addf (Host.divf (broadcastInDim S128x1 ![0] bcast_S128_S128x1_0 (Host.reduceAdd (mulf d d) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x3727C5AC#32)))))) (broadcastInDim S128x1024 ![0, 1] bcast_S1x1024_S128x1024_0_1 (broadcastInDim S1x1024 ![1] bcast_S1024_S1x1024_1 (shapeCast _ g shapeCasts_S1x1024_S1024)))) (broadcastInDim S128x1024 ![0, 1] bcast_S1x1024_S128x1024_0_1 (broadcastInDim S1x1024 ![1] bcast_S1024_S1x1024_1 (shapeCast _ b shapeCasts_S1x1024_S1024)))

theorem pre_apply (x : FVec Ideal S128x1024 .f32) (ya yb : FVec Ideal S128x512 .bf16) (sa sb : FVec Ideal S128x1024 .bf16)
    (wa wb : FVec Ideal S1x512x1024 .f32) (wo : FVec Ideal S1x1024x1024 .f32) (r : Fin 128) (k : Fin 1024) :
    pre x ya yb sa sb wa wb wo (ix2 r k)
      = row (fun j => x (ix2 r j)) (fun j => ya (ix2 r j)) (fun j => yb (ix2 r j)) (fun j => sa (ix2 r j))
          (fun j => sb (ix2 r j)) (fun i j => wa (ix3 0 i j)) (fun i j => wb (ix3 0 i j)) (fun i j => wo (ix3 0 i j)) k := by
  pointwise [pre, row]

theorem less_apply (h : FVec Ideal S128x1024 .f32) (r : Fin 128) (k : Fin 1024) :
    less h (ix2 r k) = centred (fun j => h (ix2 r j)) k := by
  pointwise [less, centred]

theorem unit_apply (d : FVec Ideal S128x1024 .f32) (g b : FVec Ideal S1x1024 .f32) (r : Fin 128) (k : Fin 1024) :
    unit d g b (ix2 r k) = scaled (fun j => d (ix2 r j)) (g (ix2 0 k)) (b (ix2 0 k)) k := by
  pointwise [unit, scaled]

theorem res_eq (m : (ℓ : Loc nD τ sig) → Buf (Elt Ideal) ℓ) (c : Dev nD) :
    Cert.Reference9Ideal.Value.res_out0 m c
      = unit (less (pre (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) := rfl

end Reference

end Cert.Proof.Merge.Sample

end
-- ==== Proof.Merge.Sample.Kernel.lean ====
/-
  The array the kernel's pipeline leaves on the sample's rows: its one block holds the formula of `Merge/Sample/Value`.
-/
module

public import proofs.«01_k».proof.Proof.Merge.Sample.Value

@[expose] public section

set_option maxRecDepth 16384

noncomputable section

namespace Cert.Proof.Merge.Sample

open Idealize.ShloMosaic Idealize.ShloMosaic.TcCoe Idealize.SL.Sem
open Cert.Kernel9Ideal Cert.Kernel9Ideal.Gen

variable (m : (ℓ : Loc nD τ sig) → Buf (Elt Ideal) ℓ)

/-- The kernel's result as a formula of its arguments. -/
def kernelOut (c : Dev nD) : FVec Ideal S128x1024 .f32 := fun y =>
  out (fun r j => (m ((c.tc : Thread nD τ).loc main_arg0) : FVec Ideal S128x1024 .f32) (ix2 r j))
    (fun r j => (m ((c.tc : Thread nD τ).loc main_arg1) : FVec Ideal S128x512 .bf16) (ix2 r j))
    (fun r j => (m ((c.tc : Thread nD τ).loc main_arg2) : FVec Ideal S128x512 .bf16) (ix2 r j))
    (fun r j => (m ((c.tc : Thread nD τ).loc main_arg3) : FVec Ideal S128x1024 .bf16) (ix2 r j))
    (fun r j => (m ((c.tc : Thread nD τ).loc main_arg4) : FVec Ideal S128x1024 .bf16) (ix2 r j))
    (fun r j => (m ((c.tc : Thread nD τ).loc main_arg5) : FVec Ideal S1x512x1024 .f32) (ix3 0 r j))
    (fun r j => (m ((c.tc : Thread nD τ).loc main_arg6) : FVec Ideal S1x512x1024 .f32) (ix3 0 r j))
    (fun r j => (m ((c.tc : Thread nD τ).loc main_arg7) : FVec Ideal S1x1024x1024 .f32) (ix3 0 r j))
    (fun j => (m ((c.tc : Thread nD τ).loc main_arg8) : FVec Ideal S1x1024 .f32) (ix2 0 j))
    (fun j => (m ((c.tc : Thread nD τ).loc main_arg9) : FVec Ideal S1x1024 .f32) (ix2 0 j)) (y 0) (y 1)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem read0 (c : Dev nD) (t : Fin cfg0.N) (r : Fin 128) (j : Fin 1024) :
    iblk m c 0 t (ix2 r j) = (m ((c.tc : Thread nD τ).loc main_arg0) : FVec Ideal S128x1024 .f32) (ix2 r j) := by
  blk_ext! [iblk, V, idx0 t]

theorem read1 (c : Dev nD) (t : Fin cfg0.N) (r : Fin 128) (j : Fin 512) :
    iblk m c 1 t (ix2 r j) = (m ((c.tc : Thread nD τ).loc main_arg1) : FVec Ideal S128x512 .bf16) (ix2 r j) := by
  blk_ext! [iblk, V, idx1 t]

theorem read2 (c : Dev nD) (t : Fin cfg0.N) (r : Fin 128) (j : Fin 512) :
    iblk m c 2 t (ix2 r j) = (m ((c.tc : Thread nD τ).loc main_arg2) : FVec Ideal S128x512 .bf16) (ix2 r j) := by
  blk_ext! [iblk, V, idx2 t]

theorem read3 (c : Dev nD) (t : Fin cfg0.N) (r : Fin 128) (j : Fin 1024) :
    iblk m c 3 t (ix2 r j) = (m ((c.tc : Thread nD τ).loc main_arg3) : FVec Ideal S128x1024 .bf16) (ix2 r j) := by
  blk_ext! [iblk, V, idx3 t]

theorem read4 (c : Dev nD) (t : Fin cfg0.N) (r : Fin 128) (j : Fin 1024) :
    iblk m c 4 t (ix2 r j) = (m ((c.tc : Thread nD τ).loc main_arg4) : FVec Ideal S128x1024 .bf16) (ix2 r j) := by
  blk_ext! [iblk, V, idx4 t]

theorem read5 (c : Dev nD) (t : Fin cfg0.N) (r : Fin 512) (j : Fin 1024) :
    iblk m c 5 t (ix2 r j) = (m ((c.tc : Thread nD τ).loc main_arg5) : FVec Ideal S1x512x1024 .f32) (ix3 0 r j) := by
  blk_ext! [iblk, V, idx5 t]

theorem read6 (c : Dev nD) (t : Fin cfg0.N) (r : Fin 512) (j : Fin 1024) :
    iblk m c 6 t (ix2 r j) = (m ((c.tc : Thread nD τ).loc main_arg6) : FVec Ideal S1x512x1024 .f32) (ix3 0 r j) := by
  blk_ext! [iblk, V, idx6 t]

theorem read7 (c : Dev nD) (t : Fin cfg0.N) (r : Fin 1024) (j : Fin 1024) :
    iblk m c 7 t (ix2 r j) = (m ((c.tc : Thread nD τ).loc main_arg7) : FVec Ideal S1x1024x1024 .f32) (ix3 0 r j) := by
  blk_ext! [iblk, V, idx7 t]

theorem read8 (c : Dev nD) (t : Fin cfg0.N) (j : Fin 1024) :
    iblk m c 8 t (ix2 0 j) = (m ((c.tc : Thread nD τ).loc main_arg8) : FVec Ideal S1x1024 .f32) (ix2 0 j) := by
  blk_ext! [iblk, V, idx8 t]

theorem read9 (c : Dev nD) (t : Fin cfg0.N) (j : Fin 1024) :
    iblk m c 9 t (ix2 0 j) = (m ((c.tc : Thread nD τ).loc main_arg9) : FVec Ideal S1x1024 .f32) (ix2 0 j) := by
  blk_ext! [iblk, V, idx9 t]

theorem place (t : Fin cfg0.N) (r : Fin 128) (k : Fin 1024) : ((View.whole main_v10).slice (win0_10.rect t)).emb (ix2 r k) = ix2 r k := by
  blk_ext! [idx10 t]

theorem value (c : Dev nD) : (dats m 0 c).arrAt 10 cfg0.N = kernelOut m c := by
  refine (dats m 0 c).arrAt_eq_of_covers 10 (kernelOut m c) (by decide +kernel) fun t hf y => ?_
  blk_simp
  rw [after0_10]
  frame_out
  idx_vars y
  rw [pay1_apply, place]
  simp only [pay4_apply, read0, read1, read2, read3, read4, read5, read6, read7, read8, read9]
  rfl

end Cert.Proof.Merge.Sample

end
-- ==== Proof.Merge.Sample.Claim.lean ====
/-
  The merge on the sample's rows: kernel and reference end with the same array.
-/
module

public import proofs.«01_k».proof.Defs
public import proofs.«01_k».proof.Proof.Merge.Sample.Kernel

@[expose] public section

set_option maxRecDepth 16384

noncomputable section

namespace Cert.Proof.Merge.Sample

open Idealize.ShloMosaic Idealize.ShloMosaic.TcCoe Idealize.SL.Sem

/-- The reference's norm of its own row is the formula. -/
theorem unit_less_pre (x : FVec Ideal Cert.Reference9Ideal.S128x1024 .f32) (ya yb : FVec Ideal Cert.Reference9Ideal.S128x512 .bf16)
    (sa sb : FVec Ideal Cert.Reference9Ideal.S128x1024 .bf16) (wa wb : FVec Ideal Cert.Reference9Ideal.S1x512x1024 .f32)
    (wo : FVec Ideal Cert.Reference9Ideal.S1x1024x1024 .f32) (g b : FVec Ideal Cert.Reference9Ideal.S1x1024 .f32)
    (r : Fin 128) (k : Fin 1024) :
    unit (less (pre x ya yb sa sb wa wb wo)) g b (ix2 r k)
      = out (fun r j => x (ix2 r j)) (fun r j => ya (ix2 r j)) (fun r j => yb (ix2 r j)) (fun r j => sa (ix2 r j))
          (fun r j => sb (ix2 r j)) (fun i j => wa (ix3 0 i j)) (fun i j => wb (ix3 0 i j)) (fun i j => wo (ix3 0 i j))
          (fun j => g (ix2 0 j)) (fun j => b (ix2 0 j)) r k := by
  rw [unit_apply]
  simp only [less_apply, pre_apply]
  rfl

theorem algebraic : Cert.algebraic_Kernel9Ideal_Reference9Ideal := by
  intro m g m' g' _ hargs
  refine ⟨kernelOut m, (θ_run (Cert.Kernel9Ideal.defs (F := Ideal)) _ _).mono (fun r h c => ?_)
      (Cert.Kernel9Ideal.Value.run_blocks (F := Ideal) m g),
    (θ_run (Cert.Reference9Ideal.defs (F := Ideal)) _ _).mono (fun r h c => ?_)
      (Cert.Reference9Ideal.Value.run (F := Ideal) m' g')⟩
  · obtain ⟨hv, hk⟩ := h c
    exact ⟨hv.trans (value m c), hk⟩
  · obtain ⟨hv, hk⟩ := h c
    refine ⟨hv.trans ?_, hk⟩
    obtain ⟨h0, h1, h2, h3, h4, h5, h6, h7, h8, h9⟩ := hargs c
    refine (res_eq m' c).trans ?_
    rw [h0, h1, h2, h3, h4, h5, h6, h7, h8, h9]
    funext y
    obtain ⟨a, b, rfl⟩ : ∃ a b, y = ix2 a b := ⟨_, _, eq_ix2 y⟩
    exact unit_less_pre _ _ _ _ _ _ _ _ _ _ a b

end Cert.Proof.Merge.Sample

end
-- ==== Proof.lean ====
/-
  The proof of the certificate. `Attn/`: the attention kernel of the prompt — its body is safe while its buffers are held
  (`Attn/Parts1` … `Parts5`, `While`, `Body`), so it runs (`Attn/Run`). The other directories: for each further kernel, what
  its blocks and its reference's array hold, entry by entry, and that the two are the same; of `Ssm/Prompt` and `Ssm/Bits`,
  that the kernel runs.
-/
module

public import proofs.«01_k».proof.Defs
public import proofs.«01_k».proof.Proof.Gen.Kernel
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Ssm.Bits.Frame
public import proofs.«01_k».proof.Proof.Ssm.Prompt.Frame
public import proofs.«01_k».proof.Proof.Attn.Run
public import proofs.«01_k».proof.Proof.Ffn.Prompt.Claim
public import proofs.«01_k».proof.Proof.InProj.Prompt.Claim
public import proofs.«01_k».proof.Proof.Merge.Claim
public import proofs.«01_k».proof.Proof.InProj.Sample.Claim
public import proofs.«01_k».proof.Proof.Ffn.Sample.Claim
public import proofs.«01_k».proof.Proof.Ssm.Sample.Claim
public import proofs.«01_k».proof.Proof.Merge.Sample.Claim
public import Idealize.ShloMosaic.PureOps.BitExact

@[expose] public section

noncomputable section

namespace Cert.Proof

open Idealize.ShloMosaic Idealize.SL.Sem

/-- The reference program 2 runs and leaves its arguments as they were; it has no semaphore. -/
theorem reference2 : Cert.quiescent_Reference2Ideal := fun m ρ _ =>
  (θ_run (Cert.Reference2Ideal.defs (F := Ideal)) _ _).mono
    (fun r h => ⟨fun c => (h c).2, sem_eq_zero_of_no_sems (by decide) _⟩)
    (Cert.Reference2Ideal.Value.run (F := Ideal) m ρ)

/-- The reference program 3 runs and leaves its arguments as they were; it has no semaphore. -/
theorem reference3 : Cert.quiescent_Reference3Ideal := fun m ρ _ =>
  (θ_run (Cert.Reference3Ideal.defs (F := Ideal)) _ _).mono
    (fun r h => ⟨fun c => (h c).2.2.2.2.2.2.2.2.2.2.2.2, sem_eq_zero_of_no_sems (by decide) _⟩)
    (Cert.Reference3Ideal.Value.run (F := Ideal) m ρ)

/-- The reference program 4 runs and leaves its arguments as they were; it has no semaphore. -/
theorem reference4 : Cert.quiescent_Reference4Ideal := fun m ρ _ =>
  (θ_run (Cert.Reference4Ideal.defs (F := Ideal)) _ _).mono
    (fun r h => ⟨fun c => (h c).2, sem_eq_zero_of_no_sems (by decide) _⟩)
    (Cert.Reference4Ideal.Value.run (F := Ideal) m ρ)

/-- The reference program 5 runs and leaves its arguments as they were; it has no semaphore. -/
theorem reference5 : Cert.quiescent_Reference5Ideal := fun m ρ _ =>
  (θ_run (Cert.Reference5Ideal.defs (F := Ideal)) _ _).mono
    (fun r h => ⟨fun c => (h c).2.2.2.2.2.2.2.2.2, sem_eq_zero_of_no_sems (by decide) _⟩)
    (Cert.Reference5Ideal.Value.run (F := Ideal) m ρ)

/-- The reference program 6 runs and leaves its arguments as they were; it has no semaphore. -/
theorem reference6 : Cert.quiescent_Reference6Ideal := fun m ρ _ =>
  (θ_run (Cert.Reference6Ideal.defs (F := Ideal)) _ _).mono
    (fun r h => ⟨fun c => (h c).2, sem_eq_zero_of_no_sems (by decide) _⟩)
    (Cert.Reference6Ideal.Value.run (F := Ideal) m ρ)

/-- The reference program 7 runs and leaves its arguments as they were; it has no semaphore. -/
theorem reference7 : Cert.quiescent_Reference7Ideal := fun m ρ _ =>
  (θ_run (Cert.Reference7Ideal.defs (F := Ideal)) _ _).mono
    (fun r h => ⟨fun c => (h c).2.2.2, sem_eq_zero_of_no_sems (by decide) _⟩)
    (Cert.Reference7Ideal.Value.run (F := Ideal) m ρ)

/-- The reference program 8 runs and leaves its arguments as they were; it has no semaphore. -/
theorem reference8 : Cert.quiescent_Reference8Ideal := fun m ρ _ =>
  (θ_run (Cert.Reference8Ideal.defs (F := Ideal)) _ _).mono
    (fun r h => ⟨fun c => (h c).2.2, sem_eq_zero_of_no_sems (by decide) _⟩)
    (Cert.Reference8Ideal.Value.run (F := Ideal) m ρ)

/-- The reference program 9 runs and leaves its arguments as they were; it has no semaphore. -/
theorem reference9 : Cert.quiescent_Reference9Ideal := fun m ρ _ =>
  (θ_run (Cert.Reference9Ideal.defs (F := Ideal)) _ _).mono
    (fun r h => ⟨fun c => (h c).2, sem_eq_zero_of_no_sems (by decide) _⟩)
    (Cert.Reference9Ideal.Value.run (F := Ideal) m ρ)

theorem claim : Cert.Claim := ⟨Cert.Kernel.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  fun m ρ _ => Attn.run (F := Bits) m ρ,
  fun m ρ _ => Cert.Kernel2.Gen.frame m ρ, fun m ρ _ => Cert.Kernel2Ideal.Gen.frame m ρ, reference2,
  fun m ρ _ => Cert.Kernel3.Gen.frame m ρ, fun m ρ _ => Cert.Kernel3Ideal.Gen.frame m ρ, reference3,
  fun m ρ _ => Cert.Kernel4.Gen.frame m ρ, fun m ρ _ => Cert.Kernel4Ideal.Gen.frame m ρ, reference4,
  fun m ρ _ => Cert.Kernel5.Gen.frame m ρ, fun m ρ _ => Cert.Kernel5Ideal.Gen.frame m ρ, reference5,
  fun m ρ _ => Cert.Kernel6.Gen.frame m ρ, fun m ρ _ => Cert.Kernel6Ideal.Gen.frame m ρ, reference6,
  fun m ρ _ => Cert.Kernel7.Gen.frame m ρ, fun m ρ _ => Cert.Kernel7Ideal.Gen.frame m ρ, reference7,
  fun m ρ _ => Ssm.Bits.run (F := Bits) m ρ, fun m ρ _ => Ssm.Prompt.run (F := Ideal) m ρ, reference8,
  fun m ρ _ => Cert.Kernel9.Gen.frame m ρ, fun m ρ _ => Cert.Kernel9Ideal.Gen.frame m ρ, reference9,
  trivial, Ffn.Prompt.algebraic,
  trivial, InProj.Prompt.algebraic,
  trivial, Merge.algebraic,
  trivial, InProj.Sample.algebraic,
  trivial, Ffn.Sample.algebraic,
  trivial, Ssm.Sample.algebraic,
  trivial,
  trivial, Merge.Sample.algebraic⟩

end Cert.Proof

end
